-- ==== Defs.lean ====
def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbReferenceIdeal (m : (ℓ : Loc Cert.SbReferenceIdeal.nD Cert.SbReferenceIdeal.τ Cert.SbReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_DiffKernel (m : (ℓ : Loc Cert.DiffKernel.nD Cert.DiffKernel.τ Cert.DiffKernel.sig) → Buf (Elt Bits) ℓ) : Prop :=
  True

def Pre_DiffKernelIdeal (m : (ℓ : Loc Cert.DiffKernelIdeal.nD Cert.DiffKernelIdeal.τ Cert.DiffKernelIdeal.sig) → Buf (Elt Ideal) ℓ) : Prop :=
  True

def Pre_DiffKernelIdeal_finite_values [hPre_finite_values : Cert.Pre_finite_values.Facts] (m : (ℓ : Loc Cert.DiffKernelIdeal.nD Cert.DiffKernelIdeal.τ Cert.DiffKernelIdeal.sig) → Buf (Elt Ideal) ℓ) : Prop :=
  ∀ c : Dev Cert.DiffKernelIdeal.nD,
    (Cert.Pre_finite_values.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2))).1 = (fun _ => 1#1)
    ∧ (Cert.Pre_finite_values.fn (F := Ideal) (m ((c.tc : Thread Cert.DiffKernelIdeal.nD Cert.DiffKernelIdeal.τ).loc Cert.DiffKernelIdeal.main_arg0)) (m ((c.tc : Thread Cert.DiffKernelIdeal.nD Cert.DiffKernelIdeal.τ).loc Cert.DiffKernelIdeal.main_arg1)) (m ((c.tc : Thread Cert.DiffKernelIdeal.nD Cert.DiffKernelIdeal.τ).loc Cert.DiffKernelIdeal.main_arg2))).2 = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_values [hPre_finite_values : Cert.Pre_finite_values.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_values.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2))).1 = (fun _ => 1#1)
    ∧ (Cert.Pre_finite_values.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2))).2 = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_OutprojKernel (m : (ℓ : Loc Cert.OutprojKernel.nD Cert.OutprojKernel.τ Cert.OutprojKernel.sig) → Buf (Elt Bits) ℓ) : Prop :=
  True

def Pre_OutprojKernelIdeal (m : (ℓ : Loc Cert.OutprojKernelIdeal.nD Cert.OutprojKernelIdeal.τ Cert.OutprojKernelIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_DiffKernel [hDiffKernel : Cert.DiffKernel.Facts] : Prop :=
  ∀ (m : (ℓ : Loc Cert.DiffKernel.nD Cert.DiffKernel.τ Cert.DiffKernel.sig) → Buf (Elt Bits) ℓ) (g : Dev Cert.DiffKernel.nD → PrngReg), Pre_DiffKernel m →
    θ_run (Cert.DiffKernel.defs (F := Bits)) (onTc (τ := Cert.DiffKernel.τ) (Cert.DiffKernel.main (F := Bits))) ⟨m, fun _ => 0, g⟩ (fun r => (∀ c : Dev Cert.DiffKernel.nD,
      r.2.mem ((c.tc : Thread Cert.DiffKernel.nD Cert.DiffKernel.τ).loc Cert.DiffKernel.main_arg0) = m ((c.tc : Thread Cert.DiffKernel.nD Cert.DiffKernel.τ).loc Cert.DiffKernel.main_arg0)
      ∧ r.2.mem ((c.tc : Thread Cert.DiffKernel.nD Cert.DiffKernel.τ).loc Cert.DiffKernel.main_arg1) = m ((c.tc : Thread Cert.DiffKernel.nD Cert.DiffKernel.τ).loc Cert.DiffKernel.main_arg1)
      ∧ r.2.mem ((c.tc : Thread Cert.DiffKernel.nD Cert.DiffKernel.τ).loc Cert.DiffKernel.main_arg2) = m ((c.tc : Thread Cert.DiffKernel.nD Cert.DiffKernel.τ).loc Cert.DiffKernel.main_arg2))
      ∧ r.2.sem = fun _ => 0)

def quiescent_DiffKernelIdeal [hDiffKernelIdeal : Cert.DiffKernelIdeal.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2))
      ∧ r.2.sem = fun _ => 0)

def quiescent_DiffKernelIdeal_pre_finite_values [hDiffKernelIdeal : Cert.DiffKernelIdeal.Facts] [hPre_finite_values : Cert.Pre_finite_values.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal_finite_values m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_DiffReferenceIdeal_pre_finite_values [hDiffReferenceIdeal : Cert.DiffReferenceIdeal.Facts] [hPre_finite_values : Cert.Pre_finite_values.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_values m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_OutprojKernel [hOutprojKernel : Cert.OutprojKernel.Facts] : Prop :=
  ∀ (m : (ℓ : Loc Cert.OutprojKernel.nD Cert.OutprojKernel.τ Cert.OutprojKernel.sig) → Buf (Elt Bits) ℓ) (g : Dev Cert.OutprojKernel.nD → PrngReg), Pre_OutprojKernel m →
    θ_run (Cert.OutprojKernel.defs (F := Bits)) (onTc (τ := Cert.OutprojKernel.τ) (Cert.OutprojKernel.main (F := Bits))) ⟨m, fun _ => 0, g⟩ (fun r => (∀ c : Dev Cert.OutprojKernel.nD,
      r.2.mem ((c.tc : Thread Cert.OutprojKernel.nD Cert.OutprojKernel.τ).loc Cert.OutprojKernel.main_arg0) = m ((c.tc : Thread Cert.OutprojKernel.nD Cert.OutprojKernel.τ).loc Cert.OutprojKernel.main_arg0)
      ∧ r.2.mem ((c.tc : Thread Cert.OutprojKernel.nD Cert.OutprojKernel.τ).loc Cert.OutprojKernel.main_arg1) = m ((c.tc : Thread Cert.OutprojKernel.nD Cert.OutprojKernel.τ).loc Cert.OutprojKernel.main_arg1)
      ∧ r.2.mem ((c.tc : Thread Cert.OutprojKernel.nD Cert.OutprojKernel.τ).loc Cert.OutprojKernel.main_arg2) = m ((c.tc : Thread Cert.OutprojKernel.nD Cert.OutprojKernel.τ).loc Cert.OutprojKernel.main_arg2)
      ∧ r.2.mem ((c.tc : Thread Cert.OutprojKernel.nD Cert.OutprojKernel.τ).loc Cert.OutprojKernel.main_arg3) = m ((c.tc : Thread Cert.OutprojKernel.nD Cert.OutprojKernel.τ).loc Cert.OutprojKernel.main_arg3)
      ∧ r.2.mem ((c.tc : Thread Cert.OutprojKernel.nD Cert.OutprojKernel.τ).loc Cert.OutprojKernel.main_arg4) = m ((c.tc : Thread Cert.OutprojKernel.nD Cert.OutprojKernel.τ).loc Cert.OutprojKernel.main_arg4))
      ∧ r.2.sem = fun _ => 0)

def quiescent_OutprojKernelIdeal [hOutprojKernelIdeal : Cert.OutprojKernelIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg), Pre_OutprojKernelIdeal m →
    θ_run (Cert.OutprojKernelIdeal.defs (F := Ideal)) (onTc (τ := Cert.OutprojKernelIdeal.τ) (Cert.OutprojKernelIdeal.main (F := Ideal))) ⟨m, fun _ => 0, g⟩ (fun r => (∀ c : Dev Cert.OutprojKernelIdeal.nD,
      r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
      ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
      ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
      ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
      ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5)
      ∧ r.2.mem ((c.tc : Thread Cert.SguKernel.nD Cert.SguKernel.τ).loc Cert.SguKernel.main_arg6) = m ((c.tc : Thread Cert.SguKernel.nD Cert.SguKernel.τ).loc Cert.SguKernel.main_arg6)
      ∧ r.2.mem ((c.tc : Thread Cert.SguKernel.nD Cert.SguKernel.τ).loc Cert.SguKernel.main_arg7) = m ((c.tc : Thread Cert.SguKernel.nD Cert.SguKernel.τ).loc Cert.SguKernel.main_arg7)
      ∧ r.2.mem ((c.tc : Thread Cert.SguKernel.nD Cert.SguKernel.τ).loc Cert.SguKernel.main_arg8) = m ((c.tc : Thread Cert.SguKernel.nD Cert.SguKernel.τ).loc Cert.SguKernel.main_arg8)
      ∧ r.2.mem ((c.tc : Thread Cert.SguKernel.nD Cert.SguKernel.τ).loc Cert.SguKernel.main_arg9) = m ((c.tc : Thread Cert.SguKernel.nD Cert.SguKernel.τ).loc Cert.SguKernel.main_arg9))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
      ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
      ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7)
      ∧ r.2.mem ((c.tc : Thread Cert.SguKernelIdeal.nD Cert.SguKernelIdeal.τ).loc Cert.SguKernelIdeal.main_arg8) = m ((c.tc : Thread Cert.SguKernelIdeal.nD Cert.SguKernelIdeal.τ).loc Cert.SguKernelIdeal.main_arg8)
      ∧ r.2.mem ((c.tc : Thread Cert.SguKernelIdeal.nD Cert.SguKernelIdeal.τ).loc Cert.SguKernelIdeal.main_arg9) = m ((c.tc : Thread Cert.SguKernelIdeal.nD Cert.SguKernelIdeal.τ).loc Cert.SguKernelIdeal.main_arg9))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5)
      ∧ r.2.mem ((c.tc : Thread Cert.SguReferenceIdeal.nD Cert.SguReferenceIdeal.τ).loc Cert.SguReferenceIdeal.main_arg6) = m ((c.tc : Thread Cert.SguReferenceIdeal.nD Cert.SguReferenceIdeal.τ).loc Cert.SguReferenceIdeal.main_arg6)
      ∧ r.2.mem ((c.tc : Thread Cert.SguReferenceIdeal.nD Cert.SguReferenceIdeal.τ).loc Cert.SguReferenceIdeal.main_arg7) = m ((c.tc : Thread Cert.SguReferenceIdeal.nD Cert.SguReferenceIdeal.τ).loc Cert.SguReferenceIdeal.main_arg7)
      ∧ r.2.mem ((c.tc : Thread Cert.SguReferenceIdeal.nD Cert.SguReferenceIdeal.τ).loc Cert.SguReferenceIdeal.main_arg8) = m ((c.tc : Thread Cert.SguReferenceIdeal.nD Cert.SguReferenceIdeal.τ).loc Cert.SguReferenceIdeal.main_arg8)
      ∧ r.2.mem ((c.tc : Thread Cert.SguReferenceIdeal.nD Cert.SguReferenceIdeal.τ).loc Cert.SguReferenceIdeal.main_arg9) = m ((c.tc : Thread Cert.SguReferenceIdeal.nD Cert.SguReferenceIdeal.τ).loc Cert.SguReferenceIdeal.main_arg9))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8)
      ∧ r.2.mem ((c.tc : Thread Cert.TailKernel.nD Cert.TailKernel.τ).loc Cert.TailKernel.main_arg9) = m ((c.tc : Thread Cert.TailKernel.nD Cert.TailKernel.τ).loc Cert.TailKernel.main_arg9)
      ∧ r.2.mem ((c.tc : Thread Cert.TailKernel.nD Cert.TailKernel.τ).loc Cert.TailKernel.main_arg10) = m ((c.tc : Thread Cert.TailKernel.nD Cert.TailKernel.τ).loc Cert.TailKernel.main_arg10)
      ∧ r.2.mem ((c.tc : Thread Cert.TailKernel.nD Cert.TailKernel.τ).loc Cert.TailKernel.main_arg11) = m ((c.tc : Thread Cert.TailKernel.nD Cert.TailKernel.τ).loc Cert.TailKernel.main_arg11)
      ∧ r.2.mem ((c.tc : Thread Cert.TailKernel.nD Cert.TailKernel.τ).loc Cert.TailKernel.main_arg12) = m ((c.tc : Thread Cert.TailKernel.nD Cert.TailKernel.τ).loc Cert.TailKernel.main_arg12)
      ∧ r.2.mem ((c.tc : Thread Cert.TailKernel.nD Cert.TailKernel.τ).loc Cert.TailKernel.main_arg13) = m ((c.tc : Thread Cert.TailKernel.nD Cert.TailKernel.τ).loc Cert.TailKernel.main_arg13)
      ∧ r.2.mem ((c.tc : Thread Cert.TailKernel.nD Cert.TailKernel.τ).loc Cert.TailKernel.main_arg14) = m ((c.tc : Thread Cert.TailKernel.nD Cert.TailKernel.τ).loc Cert.TailKernel.main_arg14))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
      ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10)
      ∧ r.2.mem ((c.tc : Thread Cert.TailKernelIdeal.nD Cert.TailKernelIdeal.τ).loc Cert.TailKernelIdeal.main_arg11) = m ((c.tc : Thread Cert.TailKernelIdeal.nD Cert.TailKernelIdeal.τ).loc Cert.TailKernelIdeal.main_arg11)
      ∧ r.2.mem ((c.tc : Thread Cert.TailKernelIdeal.nD Cert.TailKernelIdeal.τ).loc Cert.TailKernelIdeal.main_arg12) = m ((c.tc : Thread Cert.TailKernelIdeal.nD Cert.TailKernelIdeal.τ).loc Cert.TailKernelIdeal.main_arg12)
      ∧ r.2.mem ((c.tc : Thread Cert.TailKernelIdeal.nD Cert.TailKernelIdeal.τ).loc Cert.TailKernelIdeal.main_arg13) = m ((c.tc : Thread Cert.TailKernelIdeal.nD Cert.TailKernelIdeal.τ).loc Cert.TailKernelIdeal.main_arg13)
      ∧ r.2.mem ((c.tc : Thread Cert.TailKernelIdeal.nD Cert.TailKernelIdeal.τ).loc Cert.TailKernelIdeal.main_arg14) = m ((c.tc : Thread Cert.TailKernelIdeal.nD Cert.TailKernelIdeal.τ).loc Cert.TailKernelIdeal.main_arg14))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14))
      ∧ r.2.sem = fun _ => 0)

def preserves_SbKernel_SbKernelIdeal : Prop :=
  True

def algebraic_SbKernelIdeal_SbReferenceIdeal [hSbKernelIdeal : Cert.SbKernelIdeal.Facts] [hSbReferenceIdeal : Cert.SbReferenceIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)) →
    ∃ (v0 : (c : Dev Cert.SbKernelIdeal.nD) → Buf (Elt Ideal) ((c.tc : Thread Cert.SbKernelIdeal.nD Cert.SbKernelIdeal.τ).loc Cert.SbKernelIdeal.main_v14)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v14) = v0 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v36) = v0 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_DiffKernel_DiffKernelIdeal : Prop :=
  True

def algebraic_DiffKernelIdeal_DiffReferenceIdeal_pre_finite_values [hDiffKernelIdeal : Cert.DiffKernelIdeal.Facts] [hDiffReferenceIdeal : Cert.DiffReferenceIdeal.Facts] [hPre_finite_values : Cert.Pre_finite_values.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffKernelIdeal_finite_values m →
    (∀ c : Dev Cert.DiffKernelIdeal.nD,
      m' ((c.tc : Thread Cert.DiffReferenceIdeal.nD Cert.DiffReferenceIdeal.τ).loc Cert.DiffReferenceIdeal.main_arg0) = m ((c.tc : Thread Cert.DiffKernelIdeal.nD Cert.DiffKernelIdeal.τ).loc Cert.DiffKernelIdeal.main_arg0)
      ∧ m' ((c.tc : Thread Cert.DiffReferenceIdeal.nD Cert.DiffReferenceIdeal.τ).loc Cert.DiffReferenceIdeal.main_arg1) = m ((c.tc : Thread Cert.DiffKernelIdeal.nD Cert.DiffKernelIdeal.τ).loc Cert.DiffKernelIdeal.main_arg1)
      ∧ m' ((c.tc : Thread Cert.DiffReferenceIdeal.nD Cert.DiffReferenceIdeal.τ).loc Cert.DiffReferenceIdeal.main_arg2) = m ((c.tc : Thread Cert.DiffKernelIdeal.nD Cert.DiffKernelIdeal.τ).loc Cert.DiffKernelIdeal.main_arg2)) →
    ∃ (v0 : (c : Dev Cert.DiffKernelIdeal.nD) → Buf (Elt Ideal) ((c.tc : Thread Cert.DiffKernelIdeal.nD Cert.DiffKernelIdeal.τ).loc Cert.DiffKernelIdeal.main_v1)),
      θ_run (Cert.DiffKernelIdeal.defs (F := Ideal)) (onTc (τ := Cert.DiffKernelIdeal.τ) (Cert.DiffKernelIdeal.main (F := Ideal))) ⟨m, fun _ => 0, g⟩ (fun r => ∀ c : Dev Cert.DiffKernelIdeal.nD,
          r.2.mem ((c.tc : Thread Cert.DiffKernelIdeal.nD Cert.DiffKernelIdeal.τ).loc Cert.DiffKernelIdeal.main_v1) = v0 c
          ∧ r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
          ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
          ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v93) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)) →
    ∃ (v0 : (c : Dev Cert.InprojKernelIdeal.nD) → Buf (Elt Ideal) ((c.tc : Thread Cert.InprojKernelIdeal.nD Cert.InprojKernelIdeal.τ).loc Cert.InprojKernelIdeal.main_v2)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v2) = v0 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v14) = v0 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_OutprojKernel_OutprojKernelIdeal : Prop :=
  True

def algebraic_OutprojKernelIdeal_OutprojReferenceIdeal [hOutprojKernelIdeal : Cert.OutprojKernelIdeal.Facts] [hOutprojReferenceIdeal : Cert.OutprojReferenceIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojKernelIdeal m →
    (∀ c : Dev Cert.OutprojKernelIdeal.nD,
      m' ((c.tc : Thread Cert.OutprojReferenceIdeal.nD Cert.OutprojReferenceIdeal.τ).loc Cert.OutprojReferenceIdeal.main_arg0) = m ((c.tc : Thread Cert.OutprojKernelIdeal.nD Cert.OutprojKernelIdeal.τ).loc Cert.OutprojKernelIdeal.main_arg0)
      ∧ m' ((c.tc : Thread Cert.OutprojReferenceIdeal.nD Cert.OutprojReferenceIdeal.τ).loc Cert.OutprojReferenceIdeal.main_arg1) = m ((c.tc : Thread Cert.OutprojKernelIdeal.nD Cert.OutprojKernelIdeal.τ).loc Cert.OutprojKernelIdeal.main_arg1)
      ∧ m' ((c.tc : Thread Cert.OutprojReferenceIdeal.nD Cert.OutprojReferenceIdeal.τ).loc Cert.OutprojReferenceIdeal.main_arg2) = m ((c.tc : Thread Cert.OutprojKernelIdeal.nD Cert.OutprojKernelIdeal.τ).loc Cert.OutprojKernelIdeal.main_arg2)
      ∧ m' ((c.tc : Thread Cert.OutprojReferenceIdeal.nD Cert.OutprojReferenceIdeal.τ).loc Cert.OutprojReferenceIdeal.main_arg3) = m ((c.tc : Thread Cert.OutprojKernelIdeal.nD Cert.OutprojKernelIdeal.τ).loc Cert.OutprojKernelIdeal.main_arg3)
      ∧ m' ((c.tc : Thread Cert.OutprojReferenceIdeal.nD Cert.OutprojReferenceIdeal.τ).loc Cert.OutprojReferenceIdeal.main_arg4) = m ((c.tc : Thread Cert.OutprojKernelIdeal.nD Cert.OutprojKernelIdeal.τ).loc Cert.OutprojKernelIdeal.main_arg4)) →
    ∃ (v0 : (c : Dev Cert.OutprojKernelIdeal.nD) → Buf (Elt Ideal) ((c.tc : Thread Cert.OutprojKernelIdeal.nD Cert.OutprojKernelIdeal.τ).loc Cert.OutprojKernelIdeal.main_v4)),
      θ_run (Cert.OutprojKernelIdeal.defs (F := Ideal)) (onTc (τ := Cert.OutprojKernelIdeal.τ) (Cert.OutprojKernelIdeal.main (F := Ideal))) ⟨m, fun _ => 0, g⟩ (fun r => ∀ c : Dev Cert.OutprojKernelIdeal.nD,
          r.2.mem ((c.tc : Thread Cert.OutprojKernelIdeal.nD Cert.OutprojKernelIdeal.τ).loc Cert.OutprojKernelIdeal.main_v4) = v0 c
          ∧ r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
          ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
          ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
          ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
          ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v17) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4))

def preserves_SguKernel_SguKernelIdeal : Prop :=
  True

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)
      ∧ m' ((c.tc : Thread Cert.SguReferenceIdeal.nD Cert.SguReferenceIdeal.τ).loc Cert.SguReferenceIdeal.main_arg6) = m ((c.tc : Thread Cert.SguKernelIdeal.nD Cert.SguKernelIdeal.τ).loc Cert.SguKernelIdeal.main_arg6)
      ∧ m' ((c.tc : Thread Cert.SguReferenceIdeal.nD Cert.SguReferenceIdeal.τ).loc Cert.SguReferenceIdeal.main_arg7) = m ((c.tc : Thread Cert.SguKernelIdeal.nD Cert.SguKernelIdeal.τ).loc Cert.SguKernelIdeal.main_arg7)
      ∧ m' ((c.tc : Thread Cert.SguReferenceIdeal.nD Cert.SguReferenceIdeal.τ).loc Cert.SguReferenceIdeal.main_arg8) = m ((c.tc : Thread Cert.SguKernelIdeal.nD Cert.SguKernelIdeal.τ).loc Cert.SguKernelIdeal.main_arg8)
      ∧ m' ((c.tc : Thread Cert.SguReferenceIdeal.nD Cert.SguReferenceIdeal.τ).loc Cert.SguReferenceIdeal.main_arg9) = m ((c.tc : Thread Cert.SguKernelIdeal.nD Cert.SguKernelIdeal.τ).loc Cert.SguKernelIdeal.main_arg9)) →
    ∃ (v0 : (c : Dev Cert.SguKernelIdeal.nD) → Buf (Elt Ideal) ((c.tc : Thread Cert.SguKernelIdeal.nD Cert.SguKernelIdeal.τ).loc Cert.SguKernelIdeal.main_v13)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v13) = v0 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
          ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
          ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7)
          ∧ r.2.mem ((c.tc : Thread Cert.SguKernelIdeal.nD Cert.SguKernelIdeal.τ).loc Cert.SguKernelIdeal.main_arg8) = m ((c.tc : Thread Cert.SguKernelIdeal.nD Cert.SguKernelIdeal.τ).loc Cert.SguKernelIdeal.main_arg8)
          ∧ r.2.mem ((c.tc : Thread Cert.SguKernelIdeal.nD Cert.SguKernelIdeal.τ).loc Cert.SguKernelIdeal.main_arg9) = m ((c.tc : Thread Cert.SguKernelIdeal.nD Cert.SguKernelIdeal.τ).loc Cert.SguKernelIdeal.main_arg9))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v83) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5)
          ∧ r.2.mem ((c.tc : Thread Cert.SguReferenceIdeal.nD Cert.SguReferenceIdeal.τ).loc Cert.SguReferenceIdeal.main_arg6) = m' ((c.tc : Thread Cert.SguReferenceIdeal.nD Cert.SguReferenceIdeal.τ).loc Cert.SguReferenceIdeal.main_arg6)
          ∧ r.2.mem ((c.tc : Thread Cert.SguReferenceIdeal.nD Cert.SguReferenceIdeal.τ).loc Cert.SguReferenceIdeal.main_arg7) = m' ((c.tc : Thread Cert.SguReferenceIdeal.nD Cert.SguReferenceIdeal.τ).loc Cert.SguReferenceIdeal.main_arg7)
          ∧ r.2.mem ((c.tc : Thread Cert.SguReferenceIdeal.nD Cert.SguReferenceIdeal.τ).loc Cert.SguReferenceIdeal.main_arg8) = m' ((c.tc : Thread Cert.SguReferenceIdeal.nD Cert.SguReferenceIdeal.τ).loc Cert.SguReferenceIdeal.main_arg8)
          ∧ r.2.mem ((c.tc : Thread Cert.SguReferenceIdeal.nD Cert.SguReferenceIdeal.τ).loc Cert.SguReferenceIdeal.main_arg9) = m' ((c.tc : Thread Cert.SguReferenceIdeal.nD Cert.SguReferenceIdeal.τ).loc Cert.SguReferenceIdeal.main_arg9))

def preserves_TailKernel_TailKernelIdeal : Prop :=
  True

def algebraic_TailKernelIdeal_TailReferenceIdeal [hTailKernelIdeal : Cert.TailKernelIdeal.Facts] [hTailReferenceIdeal : Cert.TailReferenceIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)
      ∧ m' ((c.tc : Thread Cert.TailReferenceIdeal.nD Cert.TailReferenceIdeal.τ).loc Cert.TailReferenceIdeal.main_arg10) = m ((c.tc : Thread Cert.TailKernelIdeal.nD Cert.TailKernelIdeal.τ).loc Cert.TailKernelIdeal.main_arg10)
      ∧ m' ((c.tc : Thread Cert.TailReferenceIdeal.nD Cert.TailReferenceIdeal.τ).loc Cert.TailReferenceIdeal.main_arg11) = m ((c.tc : Thread Cert.TailKernelIdeal.nD Cert.TailKernelIdeal.τ).loc Cert.TailKernelIdeal.main_arg11)
      ∧ m' ((c.tc : Thread Cert.TailReferenceIdeal.nD Cert.TailReferenceIdeal.τ).loc Cert.TailReferenceIdeal.main_arg12) = m ((c.tc : Thread Cert.TailKernelIdeal.nD Cert.TailKernelIdeal.τ).loc Cert.TailKernelIdeal.main_arg12)
      ∧ m' ((c.tc : Thread Cert.TailReferenceIdeal.nD Cert.TailReferenceIdeal.τ).loc Cert.TailReferenceIdeal.main_arg13) = m ((c.tc : Thread Cert.TailKernelIdeal.nD Cert.TailKernelIdeal.τ).loc Cert.TailKernelIdeal.main_arg13)
      ∧ m' ((c.tc : Thread Cert.TailReferenceIdeal.nD Cert.TailReferenceIdeal.τ).loc Cert.TailReferenceIdeal.main_arg14) = m ((c.tc : Thread Cert.TailKernelIdeal.nD Cert.TailKernelIdeal.τ).loc Cert.TailKernelIdeal.main_arg14)) →
    ∃ (v0 : (c : Dev Cert.TailKernelIdeal.nD) → Buf (Elt Ideal) ((c.tc : Thread Cert.TailKernelIdeal.nD Cert.TailKernelIdeal.τ).loc Cert.TailKernelIdeal.main_v19)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v19) = v0 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
          ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
          ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10)
          ∧ r.2.mem ((c.tc : Thread Cert.TailKernelIdeal.nD Cert.TailKernelIdeal.τ).loc Cert.TailKernelIdeal.main_arg11) = m ((c.tc : Thread Cert.TailKernelIdeal.nD Cert.TailKernelIdeal.τ).loc Cert.TailKernelIdeal.main_arg11)
          ∧ r.2.mem ((c.tc : Thread Cert.TailKernelIdeal.nD Cert.TailKernelIdeal.τ).loc Cert.TailKernelIdeal.main_arg12) = m ((c.tc : Thread Cert.TailKernelIdeal.nD Cert.TailKernelIdeal.τ).loc Cert.TailKernelIdeal.main_arg12)
          ∧ r.2.mem ((c.tc : Thread Cert.TailKernelIdeal.nD Cert.TailKernelIdeal.τ).loc Cert.TailKernelIdeal.main_arg13) = m ((c.tc : Thread Cert.TailKernelIdeal.nD Cert.TailKernelIdeal.τ).loc Cert.TailKernelIdeal.main_arg13)
          ∧ r.2.mem ((c.tc : Thread Cert.TailKernelIdeal.nD Cert.TailKernelIdeal.τ).loc Cert.TailKernelIdeal.main_arg14) = m ((c.tc : Thread Cert.TailKernelIdeal.nD Cert.TailKernelIdeal.τ).loc Cert.TailKernelIdeal.main_arg14))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v117) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14))

def Claim : Prop :=
  ∃ (hSbKernel : Cert.SbKernel.Facts) (hSbKernelIdeal : Cert.SbKernelIdeal.Facts) (hSbReferenceIdeal : Cert.SbReferenceIdeal.Facts) (hFfnKernel : Cert.FfnKernel.Facts) (hFfnKernelIdeal : Cert.FfnKernelIdeal.Facts) (hFfnReferenceIdeal : Cert.FfnReferenceIdeal.Facts) (hDiffKernel : Cert.DiffKernel.Facts) (hDiffKernelIdeal : Cert.DiffKernelIdeal.Facts) (hDiffReferenceIdeal : Cert.DiffReferenceIdeal.Facts) (hInprojKernel : Cert.InprojKernel.Facts) (hInprojKernelIdeal : Cert.InprojKernelIdeal.Facts) (hInprojReferenceIdeal : Cert.InprojReferenceIdeal.Facts) (hOutprojKernel : Cert.OutprojKernel.Facts) (hOutprojKernelIdeal : Cert.OutprojKernelIdeal.Facts) (hOutprojReferenceIdeal : Cert.OutprojReferenceIdeal.Facts) (hSguKernel : Cert.SguKernel.Facts) (hSguKernelIdeal : Cert.SguKernelIdeal.Facts) (hSguReferenceIdeal : Cert.SguReferenceIdeal.Facts) (hTailKernel : Cert.TailKernel.Facts) (hTailKernelIdeal : Cert.TailKernelIdeal.Facts) (hTailReferenceIdeal : Cert.TailReferenceIdeal.Facts) (hPre_finite_values : Cert.Pre_finite_values.Facts),
    quiescent_SbKernel (hSbKernel := hSbKernel)
    ∧ quiescent_SbKernelIdeal (hSbKernelIdeal := hSbKernelIdeal)
    ∧ quiescent_SbReferenceIdeal (hSbReferenceIdeal := hSbReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_DiffKernel (hDiffKernel := hDiffKernel)
    ∧ quiescent_DiffKernelIdeal (hDiffKernelIdeal := hDiffKernelIdeal)
    ∧ quiescent_DiffKernelIdeal_pre_finite_values (hDiffKernelIdeal := hDiffKernelIdeal) (hPre_finite_values := hPre_finite_values)
    ∧ quiescent_DiffReferenceIdeal (hDiffReferenceIdeal := hDiffReferenceIdeal)
    ∧ quiescent_DiffReferenceIdeal_pre_finite_values (hDiffReferenceIdeal := hDiffReferenceIdeal) (hPre_finite_values := hPre_finite_values)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_OutprojKernel (hOutprojKernel := hOutprojKernel)
    ∧ quiescent_OutprojKernelIdeal (hOutprojKernelIdeal := hOutprojKernelIdeal)
    ∧ quiescent_OutprojReferenceIdeal (hOutprojReferenceIdeal := hOutprojReferenceIdeal)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ quiescent_TailKernel (hTailKernel := hTailKernel)
    ∧ quiescent_TailKernelIdeal (hTailKernelIdeal := hTailKernelIdeal)
    ∧ quiescent_TailReferenceIdeal (hTailReferenceIdeal := hTailReferenceIdeal)
    ∧ preserves_SbKernel_SbKernelIdeal
    ∧ algebraic_SbKernelIdeal_SbReferenceIdeal (hSbKernelIdeal := hSbKernelIdeal) (hSbReferenceIdeal := hSbReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_DiffKernel_DiffKernelIdeal
    ∧ algebraic_DiffKernelIdeal_DiffReferenceIdeal_pre_finite_values (hDiffKernelIdeal := hDiffKernelIdeal) (hDiffReferenceIdeal := hDiffReferenceIdeal) (hPre_finite_values := hPre_finite_values)
    ∧ preserves_InprojKernel_InprojKernelIdeal
    ∧ algebraic_InprojKernelIdeal_InprojReferenceIdeal (hInprojKernelIdeal := hInprojKernelIdeal) (hInprojReferenceIdeal := hInprojReferenceIdeal)
    ∧ preserves_OutprojKernel_OutprojKernelIdeal
    ∧ algebraic_OutprojKernelIdeal_OutprojReferenceIdeal (hOutprojKernelIdeal := hOutprojKernelIdeal) (hOutprojReferenceIdeal := hOutprojReferenceIdeal)
    ∧ preserves_SguKernel_SguKernelIdeal
    ∧ algebraic_SguKernelIdeal_SguReferenceIdeal (hSguKernelIdeal := hSguKernelIdeal) (hSguReferenceIdeal := hSguReferenceIdeal)
    ∧ preserves_TailKernel_TailKernelIdeal
    ∧ algebraic_TailKernelIdeal_TailReferenceIdeal (hTailKernelIdeal := hTailKernelIdeal) (hTailReferenceIdeal := hTailReferenceIdeal)
-- ==== Pre_finite_values.lean ====
abbrev S4x8192x3072 : Shape := ⟨3, ![4, 8192, 3072]⟩
abbrev S4x64 : Shape := ⟨2, ![4, 64]⟩
abbrev S128 : Shape := ⟨1, ![128]⟩
abbrev S4x8192x512 : Shape := ⟨3, ![4, 8192, 512]⟩
abbrev S_ : Shape := ⟨0, ![]⟩

class Facts : Prop where
  slices_S4x8192x3072_S4x8192x512_0_0_1024 : S4x8192x3072.Slices ![0, 0, 1024] S4x8192x512
  bcast_S_S4x8192x512 : S_.BroadcastsInDim S4x8192x512 (![] : Fin 0 → Fin S4x8192x512.rank)
  bcast_S_S4x64 : S_.BroadcastsInDim S4x64 (![] : Fin 0 → Fin S4x64.rank)

variable [Facts]

def fn {F : FTy → Type} [FloatOps F] (main_arg0 : FVec F S4x8192x3072 .bf16) (main_arg1 : FVec F S4x64 .f32) (main_arg2 : FVec F S128 .f32) : IVec S4x8192x512 1 × IVec S4x64 1 :=
  let main_v0 : FVec F S4x8192x512 .bf16 := (extractStridedSlice S4x8192x512 ![0, 0, 1024] · slices_S4x8192x3072_S4x8192x512_0_0_1024) main_arg0
  let main_v1 : FVec F S4x8192x512 .bf16 := Host.absf main_v0
  let main_cst : FVec F S_ .bf16 := constant S_ .bf16 0x7F80#16
  let main_v2 : FVec F S4x8192x512 .bf16 := broadcastInDim S4x8192x512 ![] bcast_S_S4x8192x512 main_cst
  let main_v3 : IVec S4x8192x512 1 := cmpf .olt main_v1 main_v2
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  (main_v3, main_v6)
-- ==== SbKernel.lean ====
abbrev S4x8192x3072 : Shape := ⟨3, ![4, 8192, 3072]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S4x8192x512 : Shape := ⟨3, ![4, 8192, 512]⟩
abbrev S1x256x128 : Shape := ⟨3, ![1, 256, 128]⟩
abbrev S1x8192x128 : Shape := ⟨3, ![1, 8192, 128]⟩
abbrev S2x256x128 : Shape := ⟨3, ![2, 256, 128]⟩
abbrev S256x128 : Shape := ⟨2, ![256, 128]⟩

abbrev nBuf : Space → Nat
  | .hbm => 42
  | .vmem => 11
  | .smem => 0
  | _ => 0

abbrev bufTy : (tb : Table) → Fin (tcTables nBuf tb) → BufTy
  | .hbm, ⟨0, _⟩ => ⟨S4x8192x3072, .bf16⟩
  | .hbm, ⟨1, _⟩ => ⟨S256, .i32⟩
  | .hbm, ⟨2, _⟩ => ⟨S256x1, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S_, .i32⟩
  | .hbm, ⟨18, _⟩ => ⟨S_, .i1⟩
  | .hbm, ⟨19, _⟩ => ⟨S256x1, .i1⟩
  | .hbm, ⟨20, _⟩ => ⟨S256x1, .i1⟩
  | .hbm, ⟨21, _⟩ => ⟨S256x1, .i1⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i1⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S256x256, .f32⟩
  | .hbm, ⟨34, _⟩ => ⟨S_, .f32⟩
  | .hbm, ⟨35, _⟩ => ⟨S_, .f32⟩
  | .hbm, ⟨36, _⟩ => ⟨S256x256, .i1⟩
  | .hbm, ⟨37, _⟩ => ⟨S256x256, .f32⟩
  | .hbm, ⟨38, _⟩ => ⟨S256x256, .f32⟩
  | .hbm, ⟨39, _⟩ => ⟨S256x256, .bf16⟩
  | .hbm, ⟨40, _⟩ => ⟨S256x256, .bf16⟩
  | .hbm, ⟨41, _⟩ => ⟨S4x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x256, .bf16⟩
  | .local _ .vmem, ⟨7, _⟩ => ⟨S1x256x128, .bf16⟩
  | .local _ .vmem, ⟨8, _⟩ => ⟨S1x256x128, .bf16⟩
  | .local _ .vmem, ⟨9, _⟩ => ⟨S2x256x128, .f32⟩
  | .local _ .vmem, ⟨10, _⟩ => ⟨S2x256x128, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c1_i32 : BitVec 32 := 1#32
  let v26 : BitVec 32 := Scalar.muli arg2 c1_i32
  let c0_i32 : BitVec 32 := 0#32
  let v27 : BitVec 32 := Scalar.addi v26 c0_i32
  let c256_i32 : BitVec 32 := 256#32
  let v28 : BitVec 32 := Scalar.muli v27 c256_i32
  v28
def k0_off1 (i : grid0.Coords) : Fin 3 → Nat :=
  let c0_13 : Index := 0#32
  let arg2 : BitVec 32 := BitVec.ofNat 32 (i 2).val
  let c1_i32 : BitVec 32 := 1#32
  let v26 : BitVec 32 := Scalar.muli arg2 c1_i32
  let c0_i32 : BitVec 32 := 0#32
  let v27 : BitVec 32 := Scalar.addi v26 c0_i32
  let c256_i32 : BitVec 32 := 256#32
  let v28 : BitVec 32 := Scalar.muli v27 c256_i32
  let v29 : BitVec 32 := v28
  let v30 : Index := Scalar.indexCast v29
  let c0_14 : Index := 0#32
  ![0, v30.toNat, 0]
@[reducible] def k0_t1_loop (i : grid0.Coords) : Scf.Loop 32 :=
  let c0_i32_75 : BitVec 32 := 0#32
  let arg2 : BitVec 32 := BitVec.ofNat 32 (i 2).val
  let c1_i32_73 : BitVec 32 := 1#32
  let v194 : BitVec 32 := Scalar.muli arg2 c1_i32_73
  let v195 : BitVec 32 := Scalar.subi v194 c0_i32_75
  let c1_i32_76 : BitVec 32 := 1#32
  let v197 : BitVec 32 := Scalar.divsi v195 c1_i32_76
  let v198 : BitVec 32 := Scalar.muli v197 c1_i32_76
  let v199 : BitVec 32 := Scalar.addi c0_i32_75 v198
  let c1_i32_77 : BitVec 32 := 1#32
  ⟨c0_i32_75, v199, c1_i32_77⟩
def k0_mult2 (i : grid0.Coords) (k0_t1 : Fin (k0_t1_loop i).trips) : BitVec 32 :=
  let arg2 : BitVec 32 := BitVec.ofNat 32 (i 2).val
  let c1_i32_89 : BitVec 32 := 1#32
  let v211 : BitVec 32 := Scalar.muli arg2 c1_i32_89
  let c1_i32_90 : BitVec 32 := 1#32
  let v212 : BitVec 32 := Scalar.subi v211 c1_i32_90
  let c0_i32_75 : BitVec 32 := 0#32
  let c1_i32_77 : BitVec 32 := 1#32
  let arg10 : BitVec 32 := Scf.iv c0_i32_75 c1_i32_77 k0_t1
  let v213 : BitVec 32 := Scalar.subi v212 arg10
  let c256_i32_91 : BitVec 32 := 256#32
  let v214 : BitVec 32 := Scalar.muli v213 c256_i32_91
  v214
def k0_off2 (i : grid0.Coords) (k0_t1 : Fin (k0_t1_loop i).trips) : Fin 3 → Nat :=
  let c0_92 : Index := 0#32
  let arg2 : BitVec 32 := BitVec.ofNat 32 (i 2).val
  let c1_i32_89 : BitVec 32 := 1#32
  let v211 : BitVec 32 := Scalar.muli arg2 c1_i32_89
  let c1_i32_90 : BitVec 32 := 1#32
  let v212 : BitVec 32 := Scalar.subi v211 c1_i32_90
  let c0_i32_75 : BitVec 32 := 0#32
  let c1_i32_77 : BitVec 32 := 1#32
  let arg10 : BitVec 32 := Scf.iv c0_i32_75 c1_i32_77 k0_t1
  let v213 : BitVec 32 := Scalar.subi v212 arg10
  let c256_i32_91 : BitVec 32 := 256#32
  let v214 : BitVec 32 := Scalar.muli v213 c256_i32_91
  let v215 : BitVec 32 := v214
  let v216 : Index := Scalar.indexCast v215
  let c0_93 : Index := 0#32
  ![0, v216.toNat, 0]
@[reducible] def k0_t2_loop (i : grid0.Coords) : Scf.Loop 32 :=
  let c0_i32_75 : BitVec 32 := 0#32
  let arg2 : BitVec 32 := BitVec.ofNat 32 (i 2).val
  let c1_i32_73 : BitVec 32 := 1#32
  let v194 : BitVec 32 := Scalar.muli arg2 c1_i32_73
  let v195 : BitVec 32 := Scalar.subi v194 c0_i32_75
  let c1_i32_76 : BitVec 32 := 1#32
  let v197 : BitVec 32 := Scalar.divsi v195 c1_i32_76
  let v198 : BitVec 32 := Scalar.muli v197 c1_i32_76
  let v199 : BitVec 32 := Scalar.addi c0_i32_75 v198
  let v196 : BitVec 32 := Scalar.addi c0_i32_75 v195
  let c1_i32_78 : BitVec 32 := 1#32
  ⟨v199, v196, c1_i32_78⟩
def k0_mult3 (i : grid0.Coords) (k0_t2 : Fin (k0_t2_loop i).trips) : BitVec 32 :=
  let arg2 : BitVec 32 := BitVec.ofNat 32 (i 2).val
  let c1_i32_89 : BitVec 32 := 1#32
  let v211 : BitVec 32 := Scalar.muli arg2 c1_i32_89
  let c1_i32_90 : BitVec 32 := 1#32
  let v212 : BitVec 32 := Scalar.subi v211 c1_i32_90
  let c0_i32_75 : BitVec 32 := 0#32
  let c1_i32_73 : BitVec 32 := 1#32
  let v194 : BitVec 32 := Scalar.muli arg2 c1_i32_73
  let v195 : BitVec 32 := Scalar.subi v194 c0_i32_75
  let c1_i32_76 : BitVec 32 := 1#32
  let v197 : BitVec 32 := Scalar.divsi v195 c1_i32_76
  let v198 : BitVec 32 := Scalar.muli v197 c1_i32_76
  let v199 : BitVec 32 := Scalar.addi c0_i32_75 v198
  let c1_i32_78 : BitVec 32 := 1#32
  let arg10 : BitVec 32 := Scf.iv v199 c1_i32_78 k0_t2
  let v213 : BitVec 32 := Scalar.subi v212 arg10
  let c256_i32_91 : BitVec 32 := 256#32
  let v214 : BitVec 32 := Scalar.muli v213 c256_i32_91
  v214
def k0_off3 (i : grid0.Coords) (k0_t2 : Fin (k0_t2_loop i).trips) : Fin 3 → Nat :=
  let c0_92 : Index := 0#32
  let arg2 : BitVec 32 := BitVec.ofNat 32 (i 2).val
  let c1_i32_89 : BitVec 32 := 1#32
  let v211 : BitVec 32 := Scalar.muli arg2 c1_i32_89
  let c1_i32_90 : BitVec 32 := 1#32
  let v212 : BitVec 32 := Scalar.subi v211 c1_i32_90
  let c0_i32_75 : BitVec 32 := 0#32
  let c1_i32_73 : BitVec 32 := 1#32
  let v194 : BitVec 32 := Scalar.muli arg2 c1_i32_73
  let v195 : BitVec 32 := Scalar.subi v194 c0_i32_75
  let c1_i32_76 : BitVec 32 := 1#32
  let v197 : BitVec 32 := Scalar.divsi v195 c1_i32_76
  let v198 : BitVec 32 := Scalar.muli v197 c1_i32_76
  let v199 : BitVec 32 := Scalar.addi c0_i32_75 v198
  let c1_i32_78 : BitVec 32 := 1#32
  let arg10 : BitVec 32 := Scf.iv v199 c1_i32_78 k0_t2
  let v213 : BitVec 32 := Scalar.subi v212 arg10
  let c256_i32_91 : BitVec 32 := 256#32
  let v214 : BitVec 32 := Scalar.muli v213 c256_i32_91
  let v215 : BitVec 32 := v214
  let v216 : Index := Scalar.indexCast v215
  let c0_93 : Index := 0#32
  ![0, v216.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbReferenceIdeal.lean ====
abbrev S4x8192x3072 : Shape := ⟨3, ![4, 8192, 3072]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8x8192x8192 : Shape := ⟨4, ![4, 8, 8192, 8192]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x3072, .bf16⟩
  | .hbm, ⟨1, _⟩ => ⟨S4x8192x3072, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S4x8192x512, .f32⟩
  | .hbm, ⟨7, _⟩ => ⟨S4x8192x512, .f32⟩
  | .hbm, ⟨8, _⟩ => ⟨S4x8192x8x64, .f32⟩
  | .hbm, ⟨9, _⟩ => ⟨S4x8x8192x64, .f32⟩
  | .hbm, ⟨10, _⟩ => ⟨S_, .f32⟩
  | .hbm, ⟨11, _⟩ => ⟨S4x8x8192x64, .f32⟩
  | .hbm, ⟨12, _⟩ => ⟨S4x8x8192x64, .f32⟩
  | .hbm, ⟨13, _⟩ => ⟨S4x8192x8x64, .f32⟩
  | .hbm, ⟨14, _⟩ => ⟨S4x8x8192x64, .f32⟩
  | .hbm, ⟨15, _⟩ => ⟨S4x8192x8x64, .f32⟩
  | .hbm, ⟨16, _⟩ => ⟨S4x8x8192x64, .f32⟩
  | .hbm, ⟨17, _⟩ => ⟨S8192, .i32⟩
  | .hbm, ⟨18, _⟩ => ⟨S8192x1, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i32⟩
  | .hbm, ⟨23, _⟩ => ⟨S4x8x8192x8192, .f32⟩
  | .hbm, ⟨24, _⟩ => ⟨S_, .i32⟩
  | .hbm, ⟨25, _⟩ => ⟨S8192x8192, .i32⟩
  | .hbm, ⟨26, _⟩ => ⟨S8192x8192, .i1⟩
  | .hbm, ⟨27, _⟩ => ⟨S4x8x8192x8192, .f32⟩
  | .hbm, ⟨28, _⟩ => ⟨S4x8x8192x8192, .f32⟩
  | .hbm, ⟨29, _⟩ => ⟨S_, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .i1⟩
  | .hbm, ⟨35, _⟩ => ⟨S4x8x8192x8192, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S4x8x8192x8192, .f32⟩
  | .hbm, ⟨40, _⟩ => ⟨S4x8x8192x8192, .f32⟩
  | .hbm, ⟨41, _⟩ => ⟨S4x8x8192x8192, .f32⟩
  | .hbm, ⟨42, _⟩ => ⟨S4x8x8192x8192, .f32⟩
  | .hbm, ⟨43, _⟩ => ⟨S4x8x8192x8192, .f32⟩
  | .hbm, ⟨44, _⟩ => ⟨S_, .f32⟩
  | .hbm, ⟨45, _⟩ => ⟨S_, .f32⟩
  | .hbm, ⟨46, _⟩ => ⟨S4x8x8192x8192, .i1⟩
  | .hbm, ⟨47, _⟩ => ⟨S4x8x8192x8192, .f32⟩
  | .hbm, ⟨48, _⟩ => ⟨S4x8x8192x8192, .f32⟩
  | .hbm, ⟨49, _⟩ => ⟨S_, .f32⟩
  | .hbm, ⟨50, _⟩ => ⟨S_, .f32⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S_, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .i1⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x8192x8192, .f32⟩
  | .hbm, ⟨67, _⟩ => ⟨S4x8x8192x8192, .f32⟩
  | .hbm, ⟨68, _⟩ => ⟨S4x8x8192x8192, .f32⟩
  | .hbm, ⟨69, _⟩ => ⟨S4x8x8192x8192, .f32⟩
  | .hbm, ⟨70, _⟩ => ⟨S4x8x8192x8192, .f32⟩
  | .hbm, ⟨71, _⟩ => ⟨S_, .f32⟩
  | .hbm, ⟨72, _⟩ => ⟨S_, .f32⟩
  | .hbm, ⟨73, _⟩ => ⟨S4x8x8192x8192, .i1⟩
  | .hbm, ⟨74, _⟩ => ⟨S4x8x8192x8192, .f32⟩
  | .hbm, ⟨75, _⟩ => ⟨S4x8x8192x8192, .f32⟩
  | .hbm, ⟨76, _⟩ => ⟨S4x8x8192x64, .f32⟩
  | .hbm, ⟨77, _⟩ => ⟨S4x8192x8x64, .f32⟩
  | .hbm, ⟨78, _⟩ => ⟨S4x8192x512, .f32⟩
  | .hbm, ⟨79, _⟩ => ⟨S4x8192x512, .bf16⟩
  | _, _ => ⟨S4x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_c : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v25 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v26 : Ref sig .tc := ⟨.hbm, 48, rfl⟩
abbrev main_call2_cst : Ref sig .tc := ⟨.hbm, 49, rfl⟩
abbrev main_call2_v0 : Ref sig .tc := ⟨.hbm, 50, rfl⟩
abbrev main_v27 : Ref sig .tc := ⟨.hbm, 51, rfl⟩
abbrev main_v28 : Ref sig .tc := ⟨.hbm, 52, rfl⟩
abbrev main_call3_v0 : Ref sig .tc := ⟨.hbm, 53, rfl⟩
abbrev main_call3_call0_cst : Ref sig .tc := ⟨.hbm, 54, rfl⟩
abbrev main_call3_call0_v0 : Ref sig .tc := ⟨.hbm, 55, rfl⟩
abbrev main_call3_call0_v1 : Ref sig .tc := ⟨.hbm, 56, rfl⟩
abbrev main_call3_call0_v2 : Ref sig .tc := ⟨.hbm, 57, rfl⟩
abbrev main_call3_call0_v3 : Ref sig .tc := ⟨.hbm, 58, rfl⟩
abbrev main_call3_call0_v4 : Ref sig .tc := ⟨.hbm, 59, rfl⟩
abbrev main_call3_call0_v5 : Ref sig .tc := ⟨.hbm, 60, rfl⟩
abbrev main_call3_call0_v6 : Ref sig .tc := ⟨.hbm, 61, rfl⟩
abbrev main_call3_call0_v7 : Ref sig .tc := ⟨.hbm, 62, rfl⟩
abbrev main_call3_call0_v8 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_v1 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_1 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩

abbrev nD : Nat := 1
abbrev τ : Topo := Topo.v7x

variable {F : FTy → Type} [FloatOps F]
-- ==== FfnKernel.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== DiffKernel.lean ====
abbrev S4x8192x3072 : Shape := ⟨3, ![4, 8192, 3072]⟩
abbrev S4x64 : Shape := ⟨2, ![4, 64]⟩
abbrev S128 : Shape := ⟨1, ![128]⟩
abbrev S1x128 : Shape := ⟨2, ![1, 128]⟩
abbrev S4x8192x512 : Shape := ⟨3, ![4, 8192, 512]⟩
abbrev S1x256x128 : Shape := ⟨3, ![1, 256, 128]⟩
abbrev S1x8192x128 : Shape := ⟨3, ![1, 8192, 128]⟩
abbrev S2x256x1 : Shape := ⟨3, ![2, 256, 1]⟩
abbrev S2x256x128 : Shape := ⟨3, ![2, 256, 128]⟩
abbrev S256x128 : Shape := ⟨2, ![256, 128]⟩
abbrev S1x256 : Shape := ⟨2, ![1, 256]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S1x64 : Shape := ⟨2, ![1, 64]⟩
abbrev S1 : Shape := ⟨1, ![1]⟩
abbrev S1x1 : Shape := ⟨2, ![1, 1]⟩

abbrev nBuf : Space → Nat
  | .hbm => 5
  | .vmem => 13
  | .smem => 0
  | _ => 0

abbrev bufTy : (tb : Table) → Fin (tcTables nBuf tb) → BufTy
  | .hbm, ⟨0, _⟩ => ⟨S4x8192x3072, .bf16⟩
  | .hbm, ⟨1, _⟩ => ⟨S4x64, .f32⟩
  | .hbm, ⟨2, _⟩ => ⟨S128, .f32⟩
  | .hbm, ⟨3, _⟩ => ⟨S1x128, .f32⟩
  | .hbm, ⟨4, _⟩ => ⟨S4x8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x64, .f32⟩
  | .local _ .vmem, ⟨7, _⟩ => ⟨S1x128, .f32⟩
  | .local _ .vmem, ⟨8, _⟩ => ⟨S1x256x128, .bf16⟩
  | .local _ .vmem, ⟨9, _⟩ => ⟨S1x256x128, .bf16⟩
  | .local _ .vmem, ⟨10, _⟩ => ⟨S2x256x1, .f32⟩
  | .local _ .vmem, ⟨11, _⟩ => ⟨S2x256x1, .f32⟩
  | .local _ .vmem, ⟨12, _⟩ => ⟨S2x256x128, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 32], ![false, false, false]⟩

def k0_mult1 (i : grid0.Coords) : BitVec 32 :=
  let arg2 : BitVec 32 := BitVec.ofNat 32 (i 2).val
  let c1_i32_18 : BitVec 32 := 1#32
  let v39 : BitVec 32 := Scalar.muli arg2 c1_i32_18
  let c0_i32_19 : BitVec 32 := 0#32
  let v40 : BitVec 32 := Scalar.addi v39 c0_i32_19
  let c256_i32 : BitVec 32 := 256#32
  let v44 : BitVec 32 := Scalar.muli v40 c256_i32
  v44
def k0_off1 (i : grid0.Coords) : Fin 3 → Nat :=
  let c0_21 : Index := 0#32
  let arg2 : BitVec 32 := BitVec.ofNat 32 (i 2).val
  let c1_i32_18 : BitVec 32 := 1#32
  let v39 : BitVec 32 := Scalar.muli arg2 c1_i32_18
  let c0_i32_19 : BitVec 32 := 0#32
  let v40 : BitVec 32 := Scalar.addi v39 c0_i32_19
  let c256_i32 : BitVec 32 := 256#32
  let v44 : BitVec 32 := Scalar.muli v40 c256_i32
  let v45 : BitVec 32 := v44
  let v46 : Index := Scalar.indexCast v45
  let c0_22 : Index := 0#32
  ![0, v46.toNat, 0]
@[reducible] def k0_t1_loop (i : grid0.Coords) : Scf.Loop 32 :=
  let c0_i32_73 : BitVec 32 := 0#32
  let arg2 : BitVec 32 := BitVec.ofNat 32 (i 2).val
  let c1_i32_71 : BitVec 32 := 1#32
  let v132 : BitVec 32 := Scalar.muli arg2 c1_i32_71
  let v133 : BitVec 32 := Scalar.subi v132 c0_i32_73
  let c1_i32_74 : BitVec 32 := 1#32
  let v135 : BitVec 32 := Scalar.divsi v133 c1_i32_74
  let v136 : BitVec 32 := Scalar.muli v135 c1_i32_74
  let v137 : BitVec 32 := Scalar.addi c0_i32_73 v136
  let c1_i32_75 : BitVec 32 := 1#32
  ⟨c0_i32_73, v137, c1_i32_75⟩
def k0_mult2 (i : grid0.Coords) (k0_t1 : Fin (k0_t1_loop i).trips) : BitVec 32 :=
  let c0_i32_73 : BitVec 32 := 0#32
  let c1_i32_75 : BitVec 32 := 1#32
  let arg12 : BitVec 32 := Scf.iv c0_i32_73 c1_i32_75 k0_t1
  let c256_i32_103 : BitVec 32 := 256#32
  let v189 : BitVec 32 := Scalar.muli arg12 c256_i32_103
  v189
def k0_off2 (i : grid0.Coords) (k0_t1 : Fin (k0_t1_loop i).trips) : Fin 3 → Nat :=
  let c0_104 : Index := 0#32
  let c0_i32_73 : BitVec 32 := 0#32
  let c1_i32_75 : BitVec 32 := 1#32
  let arg12 : BitVec 32 := Scf.iv c0_i32_73 c1_i32_75 k0_t1
  let c256_i32_103 : BitVec 32 := 256#32
  let v189 : BitVec 32 := Scalar.muli arg12 c256_i32_103
  let v190 : BitVec 32 := v189
  let v191 : Index := Scalar.indexCast v190
  let c0_105 : Index := 0#32
  ![0, v191.toNat, 0]
@[reducible] def k0_t2_loop (i : grid0.Coords) : Scf.Loop 32 :=
  let c0_i32_73 : BitVec 32 := 0#32
  let arg2 : BitVec 32 := BitVec.ofNat 32 (i 2).val
  let c1_i32_71 : BitVec 32 := 1#32
  let v132 : BitVec 32 := Scalar.muli arg2 c1_i32_71
  let v133 : BitVec 32 := Scalar.subi v132 c0_i32_73
  let c1_i32_74 : BitVec 32 := 1#32
  let v135 : BitVec 32 := Scalar.divsi v133 c1_i32_74
  let v136 : BitVec 32 := Scalar.muli v135 c1_i32_74
  let v137 : BitVec 32 := Scalar.addi c0_i32_73 v136
  let v134 : BitVec 32 := Scalar.addi c0_i32_73 v133
  let c1_i32_76 : BitVec 32 := 1#32
  ⟨v137, v134, c1_i32_76⟩
def k0_mult3 (i : grid0.Coords) (k0_t2 : Fin (k0_t2_loop i).trips) : BitVec 32 :=
  let c0_i32_73 : BitVec 32 := 0#32
  let arg2 : BitVec 32 := BitVec.ofNat 32 (i 2).val
  let c1_i32_71 : BitVec 32 := 1#32
  let v132 : BitVec 32 := Scalar.muli arg2 c1_i32_71
  let v133 : BitVec 32 := Scalar.subi v132 c0_i32_73
  let c1_i32_74 : BitVec 32 := 1#32
  let v135 : BitVec 32 := Scalar.divsi v133 c1_i32_74
  let v136 : BitVec 32 := Scalar.muli v135 c1_i32_74
  let v137 : BitVec 32 := Scalar.addi c0_i32_73 v136
  let c1_i32_76 : BitVec 32 := 1#32
  let arg12 : BitVec 32 := Scf.iv v137 c1_i32_76 k0_t2
  let c256_i32_103 : BitVec 32 := 256#32
  let v189 : BitVec 32 := Scalar.muli arg12 c256_i32_103
  v189
def k0_off3 (i : grid0.Coords) (k0_t2 : Fin (k0_t2_loop i).trips) : Fin 3 → Nat :=
  let c0_104 : Index := 0#32
  let c0_i32_73 : BitVec 32 := 0#32
  let arg2 : BitVec 32 := BitVec.ofNat 32 (i 2).val
  let c1_i32_71 : BitVec 32 := 1#32
  let v132 : BitVec 32 := Scalar.muli arg2 c1_i32_71
  let v133 : BitVec 32 := Scalar.subi v132 c0_i32_73
  let c1_i32_74 : BitVec 32 := 1#32
  let v135 : BitVec 32 := Scalar.divsi v133 c1_i32_74
  let v136 : BitVec 32 := Scalar.muli v135 c1_i32_74
  let v137 : BitVec 32 := Scalar.addi c0_i32_73 v136
  let c1_i32_76 : BitVec 32 := 1#32
  let arg12 : BitVec 32 := Scf.iv v137 c1_i32_76 k0_t2
  let c256_i32_103 : BitVec 32 := 256#32
  let v189 : BitVec 32 := Scalar.muli arg12 c256_i32_103
  let v190 : BitVec 32 := v189
  let v191 : Index := Scalar.indexCast v190
  let c0_105 : Index := 0#32
  ![0, v191.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffReferenceIdeal.lean ====
abbrev S4x8192x3072 : Shape := ⟨3, ![4, 8192, 3072]⟩
abbrev S4x64 : Shape := ⟨2, ![4, 64]⟩
abbrev S128 : Shape := ⟨1, ![128]⟩
abbrev S4x8192x1536 : Shape := ⟨3, ![4, 8192, 1536]⟩
abbrev S4x8192x512 : Shape := ⟨3, ![4, 8192, 512]⟩
abbrev S4x8192x4x2x64 : Shape := ⟨5, ![4, 8192, 4, 2, 64]⟩
abbrev S4x4x2x8192x64 : Shape := ⟨5, ![4, 4, 2, 8192, 64]⟩
abbrev S_ : Shape := ⟨0, ![]⟩
abbrev S4x8192x4x128 : Shape := ⟨4, ![4, 8192, 4, 128]⟩
abbrev S4x4x8192x128 : Shape := ⟨4, ![4, 4, 8192, 128]⟩
abbrev S1x64 : Shape := ⟨2, ![1, 64]⟩
abbrev S64 : Shape := ⟨1, ![64]⟩
abbrev S4 : Shape := ⟨1, ![4]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x4x2x8192x8192 : Shape := ⟨5, ![4, 4, 2, 8192, 8192]⟩
abbrev S1x4x1x1x1 : Shape := ⟨5, ![1, 4, 1, 1, 1]⟩
abbrev S1x1x1x8192x8192 : Shape := ⟨5, ![1, 1, 1, 8192, 8192]⟩
abbrev S1x4x1x8192x8192 : Shape := ⟨5, ![1, 4, 1, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 117
  | .vmem => 0
  | .smem => 0
  | _ => 0

abbrev bufTy : (tb : Table) → Fin (tcTables nBuf tb) → BufTy
  | .hbm, ⟨0, _⟩ => ⟨S4x8192x3072, .bf16⟩
  | .hbm, ⟨1, _⟩ => ⟨S4x64, .f32⟩
  | .hbm, ⟨2, _⟩ => ⟨S128, .f32⟩
  | .hbm, ⟨3, _⟩ => ⟨S4x8192x3072, .f32⟩
  | .hbm, ⟨4, _⟩ => ⟨S4x8192x1536, .f32⟩
  | .hbm, ⟨5, _⟩ => ⟨S4x8192x512, .f32⟩
  | .hbm, ⟨6, _⟩ => ⟨S4x8192x512, .f32⟩
  | .hbm, ⟨7, _⟩ => ⟨S4x8192x512, .f32⟩
  | .hbm, ⟨8, _⟩ => ⟨S4x8192x4x2x64, .f32⟩
  | .hbm, ⟨9, _⟩ => ⟨S4x4x2x8192x64, .f32⟩
  | .hbm, ⟨10, _⟩ => ⟨S_, .f32⟩
  | .hbm, ⟨11, _⟩ => ⟨S4x4x2x8192x64, .f32⟩
  | .hbm, ⟨12, _⟩ => ⟨S4x4x2x8192x64, .f32⟩
  | .hbm, ⟨13, _⟩ => ⟨S4x8192x4x2x64, .f32⟩
  | .hbm, ⟨14, _⟩ => ⟨S4x4x2x8192x64, .f32⟩
  | .hbm, ⟨15, _⟩ => ⟨S4x8192x4x128, .f32⟩
  | .hbm, ⟨16, _⟩ => ⟨S4x4x8192x128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4, .i32⟩
  | .hbm, ⟨37, _⟩ => ⟨S_, .i32⟩
  | .hbm, ⟨38, _⟩ => ⟨S4, .i32⟩
  | .hbm, ⟨39, _⟩ => ⟨S4, .i32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S8192, .i32⟩
  | .hbm, ⟨51, _⟩ => ⟨S8192x1, .i32⟩
  | .hbm, ⟨52, _⟩ => ⟨S1x8192, .i32⟩
  | .hbm, ⟨53, _⟩ => ⟨S8192x8192, .i32⟩
  | .hbm, ⟨54, _⟩ => ⟨S8192x8192, .i32⟩
  | .hbm, ⟨55, _⟩ => ⟨S8192x8192, .i32⟩
  | .hbm, ⟨56, _⟩ => ⟨S4x4x2x8192x8192, .f32⟩
  | .hbm, ⟨57, _⟩ => ⟨S1x4x1x1x1, .f32⟩
  | .hbm, ⟨58, _⟩ => ⟨S8192x8192, .f32⟩
  | .hbm, ⟨59, _⟩ => ⟨S1x1x1x8192x8192, .f32⟩
  | .hbm, ⟨60, _⟩ => ⟨S1x4x1x8192x8192, .f32⟩
  | .hbm, ⟨61, _⟩ => ⟨S1x4x1x8192x8192, .f32⟩
  | .hbm, ⟨62, _⟩ => ⟨S1x4x1x8192x8192, .f32⟩
  | .hbm, ⟨63, _⟩ => ⟨S4x4x2x8192x8192, .f32⟩
  | .hbm, ⟨64, _⟩ => ⟨S4x4x2x8192x8192, .f32⟩
  | .hbm, ⟨65, _⟩ => ⟨S_, .i32⟩
  | .hbm, ⟨66, _⟩ => ⟨S8192x8192, .i32⟩
  | .hbm, ⟨67, _⟩ => ⟨S8192x8192, .i1⟩
  | .hbm, ⟨68, _⟩ => ⟨S_, .f32⟩
  | .hbm, ⟨69, _⟩ => ⟨S_, .f32⟩
  | .hbm, ⟨70, _⟩ => ⟨S4x4x2x8192x8192, .i1⟩
  | .hbm, ⟨71, _⟩ => ⟨S4x4x2x8192x8192, .f32⟩
  | .hbm, ⟨72, _⟩ => ⟨S4x4x2x8192x8192, .f32⟩
  | .hbm, ⟨73, _⟩ => ⟨S_, .f32⟩
  | .hbm, ⟨74, _⟩ => ⟨S4x4x2x8192, .f32⟩
  | .hbm, ⟨75, _⟩ => ⟨S_, .f32⟩
  | .hbm, ⟨76, _⟩ => ⟨S4x4x2x8192, .f32⟩
  | .hbm, ⟨77, _⟩ => ⟨S4x4x2x8192, .f32⟩
  | .hbm, ⟨78, _⟩ => ⟨S4x4x2x8192x1, .f32⟩
  | .hbm, ⟨79, _⟩ => ⟨S4x4x2x8192x8192, .f32⟩
  | .hbm, ⟨80, _⟩ => ⟨S4x4x2x8192x8192, .f32⟩
  | .hbm, ⟨81, _⟩ => ⟨S4x4x2x8192x8192, .f32⟩
  | .hbm, ⟨82, _⟩ => ⟨S_, .f32⟩
  | .hbm, ⟨83, _⟩ => ⟨S4x4x2x8192, .f32⟩
  | .hbm, ⟨84, _⟩ => ⟨S4x4x2x8192x1, .f32⟩
  | .hbm, ⟨85, _⟩ => ⟨S4x4x2x8192x8192, .f32⟩
  | .hbm, ⟨86, _⟩ => ⟨S4x4x2x8192x8192, .f32⟩
  | .hbm, ⟨87, _⟩ => ⟨S4x4x1x8192x8192, .f32⟩
  | .hbm, ⟨88, _⟩ => ⟨S4x4x8192x8192, .f32⟩
  | .hbm, ⟨89, _⟩ => ⟨S4x4x1x8192x8192, .f32⟩
  | .hbm, ⟨90, _⟩ => ⟨S4x4x8192x8192, .f32⟩
  | .hbm, ⟨91, _⟩ => ⟨S4x4x8192x8192, .f32⟩
  | .hbm, ⟨92, _⟩ => ⟨S4x4x8192x8192, .f32⟩
  | .hbm, ⟨93, _⟩ => ⟨S4x4x8192x8192, .f32⟩
  | .hbm, ⟨94, _⟩ => ⟨S4x4x8192x128, .f32⟩
  | .hbm, ⟨95, _⟩ => ⟨S4x8192x4x128, .f32⟩
  | .hbm, ⟨96, _⟩ => ⟨S4x8192x4x128, .f32⟩
  | .hbm, ⟨97, _⟩ => ⟨S_, .f32⟩
  | .hbm, ⟨98, _⟩ => ⟨S4x8192x4, .f32⟩
  | .hbm, ⟨99, _⟩ => ⟨S4x8192x4x1, .f32⟩
  | .hbm, ⟨100, _⟩ => ⟨S_, .f32⟩
  | .hbm, ⟨101, _⟩ => ⟨S4x8192x4x1, .f32⟩
  | .hbm, ⟨102, _⟩ => ⟨S4x8192x4x1, .f32⟩
  | .hbm, ⟨103, _⟩ => ⟨S_, .f32⟩
  | .hbm, ⟨104, _⟩ => ⟨S4x8192x4x1, .f32⟩
  | .hbm, ⟨105, _⟩ => ⟨S4x8192x4x1, .f32⟩
  | .hbm, ⟨106, _⟩ => ⟨S4x8192x4x1, .f32⟩
  | .hbm, ⟨107, _⟩ => ⟨S4x8192x4x128, .f32⟩
  | .hbm, ⟨108, _⟩ => ⟨S4x8192x4x128, .f32⟩
  | .hbm, ⟨109, _⟩ => ⟨S1x1x1x128, .f32⟩
  | .hbm, ⟨110, _⟩ => ⟨S4x8192x4x128, .f32⟩
  | .hbm, ⟨111, _⟩ => ⟨S4x8192x4x128, .f32⟩
  | .hbm, ⟨112, _⟩ => ⟨S_, .f32⟩
  | .hbm, ⟨113, _⟩ => ⟨S4x8192x4x128, .f32⟩
  | .hbm, ⟨114, _⟩ => ⟨S4x8192x4x128, .f32⟩
  | .hbm, ⟨115, _⟩ => ⟨S4x8192x512, .f32⟩
  | .hbm, ⟨116, _⟩ => ⟨S4x8192x512, .bf16⟩
  | _, _ => ⟨S4x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_14 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩

abbrev nD : Nat := 1
abbrev τ : Topo := Topo.v7x

variable {F : FTy → Type} [FloatOps F]
-- ==== InprojKernel.lean ====
abbrev S32768x1024 : Shape := ⟨2, ![32768, 1024]⟩
abbrev S1024 : Shape := ⟨1, ![1024]⟩
abbrev S1024x3072 : Shape := ⟨2, ![1024, 3072]⟩
abbrev S1x1024 : Shape := ⟨2, ![1, 1024]⟩
abbrev S32768x3072 : Shape := ⟨2, ![32768, 3072]⟩
abbrev S1024x1024 : Shape := ⟨2, ![1024, 1024]⟩
abbrev S1024x768 : Shape := ⟨2, ![1024, 768]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojReferenceIdeal.lean ====
abbrev S32768x1024 : Shape := ⟨2, ![32768, 1024]⟩
abbrev S1024 : Shape := ⟨1, ![1024]⟩
abbrev S1024x3072 : Shape := ⟨2, ![1024, 3072]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 21
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3072, .f32⟩
  | .hbm, ⟨20, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutprojKernel.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojReferenceIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S32768x512, .f32⟩
  | .hbm, ⟨6, _⟩ => ⟨S32768x512, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== SguKernel.lean ====
abbrev S32768x1024 : Shape := ⟨2, ![32768, 1024]⟩
abbrev S1024 : Shape := ⟨1, ![1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S128x8x128 : Shape := ⟨3, ![128, 8, 128]⟩
abbrev S128x1024 : Shape := ⟨2, ![128, 1024]⟩
abbrev S1x128x1x1024 : Shape := ⟨4, ![1, 128, 1, 1024]⟩
abbrev S4x128x1x1024 : Shape := ⟨4, ![4, 128, 1, 1024]⟩
abbrev S512x1024 : Shape := ⟨2, ![512, 1024]⟩
abbrev S1x1024 : Shape := ⟨2, ![1, 1024]⟩
abbrev S1x2048 : Shape := ⟨2, ![1, 2048]⟩
abbrev S512 : Shape := ⟨1, ![512]⟩
abbrev S512x1 : Shape := ⟨2, ![512, 1]⟩
abbrev S512x2048 : Shape := ⟨2, ![512, 2048]⟩
abbrev S128x128 : Shape := ⟨2, ![128, 128]⟩
abbrev S1x128x128 : Shape := ⟨3, ![1, 128, 128]⟩
abbrev S512x128 : Shape := ⟨2, ![512, 128]⟩

abbrev nBuf : Space → Nat
  | .hbm => 24
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S1024x2048, .bf16⟩
  | .hbm, ⟨11, _⟩ => ⟨S1024x1024, .bf16⟩
  | .hbm, ⟨12, _⟩ => ⟨S128x8, .f32⟩
  | .hbm, ⟨13, _⟩ => ⟨S128x8x128, .f32⟩
  | .hbm, ⟨14, _⟩ => ⟨S128x1024, .f32⟩
  | .hbm, ⟨15, _⟩ => ⟨S1x128x1x1024, .f32⟩
  | .hbm, ⟨16, _⟩ => ⟨S4x128x1x1024, .f32⟩
  | .hbm, ⟨17, _⟩ => ⟨S512x1024, .f32⟩
  | .hbm, ⟨18, _⟩ => ⟨S1x1024, .f32⟩
  | .hbm, ⟨19, _⟩ => ⟨S1x1024, .f32⟩
  | .hbm, ⟨20, _⟩ => ⟨S1x2048, .f32⟩
  | .hbm, ⟨21, _⟩ => ⟨S1x1024, .f32⟩
  | .hbm, ⟨22, _⟩ => ⟨S1x1024, .f32⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x2048, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SguReferenceIdeal.lean ====
abbrev S32768x1024 : Shape := ⟨2, ![32768, 1024]⟩
abbrev S1024 : Shape := ⟨1, ![1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2048 : Shape := ⟨3, ![4, 8192, 2048]⟩
abbrev S1x1x2048 : Shape := ⟨3, ![1, 1, 2048]⟩
abbrev S4x64x128x8x128 : Shape := ⟨5, ![4, 64, 128, 8, 128]⟩
abbrev S128x128 : Shape := ⟨2, ![128, 128]⟩
abbrev S1x128x128 : Shape := ⟨3, ![1, 128, 128]⟩
abbrev S8x4x64x128x128 : Shape := ⟨5, ![8, 4, 64, 128, 128]⟩
abbrev S128x8 : Shape := ⟨2, ![128, 8]⟩
abbrev S1x1x128x8x1 : Shape := ⟨5, ![1, 1, 128, 8, 1]⟩

abbrev nBuf : Space → Nat
  | .hbm => 122
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S4x8192x2048, .f32⟩
  | .hbm, ⟨28, _⟩ => ⟨S1x1x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S_, .f32⟩
  | .hbm, ⟨34, _⟩ => ⟨S4x8192x2048, .f32⟩
  | .hbm, ⟨35, _⟩ => ⟨S4x8192x2048, .f32⟩
  | .hbm, ⟨36, _⟩ => ⟨S4x8192x2048, .f32⟩
  | .hbm, ⟨37, _⟩ => ⟨S_, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S_, .f32⟩
  | .hbm, ⟨42, _⟩ => ⟨S4x8192x2048, .f32⟩
  | .hbm, ⟨43, _⟩ => ⟨S4x8192x2048, .f32⟩
  | .hbm, ⟨44, _⟩ => ⟨S_, .f32⟩
  | .hbm, ⟨45, _⟩ => ⟨S4x8192x2048, .f32⟩
  | .hbm, ⟨46, _⟩ => ⟨S4x8192x2048, .f32⟩
  | .hbm, ⟨47, _⟩ => ⟨S4x8192x2048, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192x1024, .f32⟩
  | .hbm, ⟨70, _⟩ => ⟨S4x8192x1024, .f32⟩
  | .hbm, ⟨71, _⟩ => ⟨S1x1x1024, .f32⟩
  | .hbm, ⟨72, _⟩ => ⟨S4x8192x1024, .f32⟩
  | .hbm, ⟨73, _⟩ => ⟨S4x8192x1024, .f32⟩
  | .hbm, ⟨74, _⟩ => ⟨S1x1x1024, .f32⟩
  | .hbm, ⟨75, _⟩ => ⟨S4x8192x1024, .f32⟩
  | .hbm, ⟨76, _⟩ => ⟨S4x8192x1024, .f32⟩
  | .hbm, ⟨77, _⟩ => ⟨S4x64x128x8x128, .f32⟩
  | .hbm, ⟨78, _⟩ => ⟨S_, .i1⟩
  | .hbm, ⟨79, _⟩ => ⟨S128x128, .i1⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S_, .i1⟩
  | .hbm, ⟨87, _⟩ => ⟨S128x128, .i1⟩
  | .hbm, ⟨88, _⟩ => ⟨S128x128, .i1⟩
  | .hbm, ⟨89, _⟩ => ⟨S1x128x128, .i1⟩
  | .hbm, ⟨90, _⟩ => ⟨S_, .f32⟩
  | .hbm, ⟨91, _⟩ => ⟨S_, .f32⟩
  | .hbm, ⟨92, _⟩ => ⟨S8x128x128, .i1⟩
  | .hbm, ⟨93, _⟩ => ⟨S8x128x128, .f32⟩
  | .hbm, ⟨94, _⟩ => ⟨S8x128x128, .f32⟩
  | .hbm, ⟨95, _⟩ => ⟨S8x4x64x128x128, .f32⟩
  | .hbm, ⟨96, _⟩ => ⟨S4x64x128x8x128, .f32⟩
  | .hbm, ⟨97, _⟩ => ⟨S128x8, .f32⟩
  | .hbm, ⟨98, _⟩ => ⟨S1x1x128x8x1, .f32⟩
  | .hbm, ⟨99, _⟩ => ⟨S4x64x128x8x128, .f32⟩
  | .hbm, ⟨100, _⟩ => ⟨S4x64x128x8x128, .f32⟩
  | .hbm, ⟨101, _⟩ => ⟨S4x8192x1024, .f32⟩
  | .hbm, ⟨102, _⟩ => ⟨S4x8192x1024, .f32⟩
  | .hbm, ⟨103, _⟩ => ⟨S4x8192x1024, .f32⟩
  | .hbm, ⟨104, _⟩ => ⟨S4x8192x1024, .f32⟩
  | .hbm, ⟨105, _⟩ => ⟨S_, .f32⟩
  | .hbm, ⟨106, _⟩ => ⟨S4x8192, .f32⟩
  | .hbm, ⟨107, _⟩ => ⟨S4x8192x1, .f32⟩
  | .hbm, ⟨108, _⟩ => ⟨S_, .f32⟩
  | .hbm, ⟨109, _⟩ => ⟨S4x8192x1, .f32⟩
  | .hbm, ⟨110, _⟩ => ⟨S4x8192x1, .f32⟩
  | .hbm, ⟨111, _⟩ => ⟨S_, .f32⟩
  | .hbm, ⟨112, _⟩ => ⟨S4x8192x1, .f32⟩
  | .hbm, ⟨113, _⟩ => ⟨S4x8192x1, .f32⟩
  | .hbm, ⟨114, _⟩ => ⟨S4x8192x1, .f32⟩
  | .hbm, ⟨115, _⟩ => ⟨S4x8192x1024, .f32⟩
  | .hbm, ⟨116, _⟩ => ⟨S4x8192x1024, .f32⟩
  | .hbm, ⟨117, _⟩ => ⟨S1x1x1024, .f32⟩
  | .hbm, ⟨118, _⟩ => ⟨S4x8192x1024, .f32⟩
  | .hbm, ⟨119, _⟩ => ⟨S4x8192x1024, .f32⟩
  | .hbm, ⟨120, _⟩ => ⟨S4x8192x1024, .f32⟩
  | .hbm, ⟨121, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c : Ref sig .tc := ⟨.hbm, 78, rfl⟩
abbrev main_v56 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩

abbrev nD : Nat := 1
abbrev τ : Topo := Topo.v7x

variable {F : FTy → Type} [FloatOps F]
-- ==== TailKernel.lean ====
abbrev S32768x1024 : Shape := ⟨2, ![32768, 1024]⟩
abbrev S1024 : Shape := ⟨1, ![1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S1024x2816 : Shape := ⟨2, ![1024, 2816]⟩
abbrev S2816x1024 : Shape := ⟨2, ![2816, 1024]⟩
abbrev S128x8 : Shape := ⟨2, ![128, 8]⟩
abbrev S128x8x128 : Shape := ⟨3, ![128, 8, 128]⟩
abbrev S128x1024 : Shape := ⟨2, ![128, 1024]⟩
abbrev S1x128x1x1024 : Shape := ⟨4, ![1, 128, 1, 1024]⟩
abbrev S4x128x1x1024 : Shape := ⟨4, ![4, 128, 1, 1024]⟩
abbrev S512x1024 : Shape := ⟨2, ![512, 1024]⟩
abbrev S1x1024 : Shape := ⟨2, ![1, 1024]⟩
abbrev S1x2048 : Shape := ⟨2, ![1, 2048]⟩
abbrev S512 : Shape := ⟨1, ![512]⟩
abbrev S512x1 : Shape := ⟨2, ![512, 1]⟩
abbrev S512x2048 : Shape := ⟨2, ![512, 2048]⟩
abbrev S128x128 : Shape := ⟨2, ![128, 128]⟩
abbrev S1x128x128 : Shape := ⟨3, ![1, 128, 128]⟩
abbrev S512x128 : Shape := ⟨2, ![512, 128]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 35
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S1024, .f32⟩
  | .hbm, ⟨6, _⟩ => ⟨S1024, .f32⟩
  | .hbm, ⟨7, _⟩ => ⟨S8x128x128, .f32⟩
  | .hbm, ⟨8, _⟩ => ⟨S8x128, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S1024x2048, .bf16⟩
  | .hbm, ⟨16, _⟩ => ⟨S1024x1024, .bf16⟩
  | .hbm, ⟨17, _⟩ => ⟨S128x8, .f32⟩
  | .hbm, ⟨18, _⟩ => ⟨S128x8x128, .f32⟩
  | .hbm, ⟨19, _⟩ => ⟨S128x1024, .f32⟩
  | .hbm, ⟨20, _⟩ => ⟨S1x128x1x1024, .f32⟩
  | .hbm, ⟨21, _⟩ => ⟨S4x128x1x1024, .f32⟩
  | .hbm, ⟨22, _⟩ => ⟨S512x1024, .f32⟩
  | .hbm, ⟨23, _⟩ => ⟨S1x1024, .f32⟩
  | .hbm, ⟨24, _⟩ => ⟨S1x1024, .f32⟩
  | .hbm, ⟨25, _⟩ => ⟨S1x2048, .f32⟩
  | .hbm, ⟨26, _⟩ => ⟨S1x1024, .f32⟩
  | .hbm, ⟨27, _⟩ => ⟨S1x1024, .f32⟩
  | .hbm, ⟨28, _⟩ => ⟨S32768x1024, .f32⟩
  | .hbm, ⟨29, _⟩ => ⟨S1024x2816, .bf16⟩
  | .hbm, ⟨30, _⟩ => ⟨S1024x2816, .bf16⟩
  | .hbm, ⟨31, _⟩ => ⟨S2816x1024, .bf16⟩
  | .hbm, ⟨32, _⟩ => ⟨S1x1024, .f32⟩
  | .hbm, ⟨33, _⟩ => ⟨S1x1024, .f32⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x2048, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1408x1024, .bf16⟩
  | .local _ .vmem, ⟨22, _⟩ => ⟨S1408x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![64, 2], ![false, false]⟩

def k1_cond2 (i : grid1.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1408x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== TailReferenceIdeal.lean ====
abbrev S32768x1024 : Shape := ⟨2, ![32768, 1024]⟩
abbrev S1024 : Shape := ⟨1, ![1024]⟩
abbrev S1024x2048 : Shape := ⟨2, ![1024, 2048]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S1024x2816 : Shape := ⟨2, ![1024, 2816]⟩
abbrev S2816x1024 : Shape := ⟨2, ![2816, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2048 : Shape := ⟨3, ![4, 8192, 2048]⟩
abbrev S1x1x2048 : Shape := ⟨3, ![1, 1, 2048]⟩
abbrev S4x64x128x8x128 : Shape := ⟨5, ![4, 64, 128, 8, 128]⟩
abbrev S128x128 : Shape := ⟨2, ![128, 128]⟩
abbrev S1x128x128 : Shape := ⟨3, ![1, 128, 128]⟩
abbrev S8x4x64x128x128 : Shape := ⟨5, ![8, 4, 64, 128, 128]⟩
abbrev S128x8 : Shape := ⟨2, ![128, 8]⟩
abbrev S1x1x128x8x1 : Shape := ⟨5, ![1, 1, 128, 8, 1]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 176
  | .vmem => 0
  | .smem => 0
  | _ => 0

abbrev hbmTy0_0 (i : Nat) : BufTy := match i % 128 with
  | 0 => ⟨S32768x1024, .f32⟩
  | 1 => ⟨S1024, .f32⟩
  | 2 => ⟨S1024, .f32⟩
  | 3 => ⟨S1024x2048, .f32⟩
  | 4 => ⟨S2048, .f32⟩
  | 5 => ⟨S1024, .f32⟩
  | 6 => ⟨S1024, .f32⟩
  | 7 => ⟨S8x128x128, .f32⟩
  | 8 => ⟨S8x128, .f32⟩
  | 9 => ⟨S1024x1024, .f32⟩
  | 10 => ⟨S1024, .f32⟩
  | 11 => ⟨S1024, .f32⟩
  | 12 => ⟨S1024x2816, .f32⟩
  | 13 => ⟨S1024x2816, .f32⟩
  | 14 => ⟨S2816x1024, .f32⟩
  | 15 => ⟨S4x8192x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S4x8192x2048, .f32⟩
  | 33 => ⟨S1x1x2048, .f32⟩
  | 34 => ⟨S4x8192x2048, .f32⟩
  | 35 => ⟨S4x8192x2048, .f32⟩
  | 36 => ⟨S4x8192x2048, .f32⟩
  | 37 => ⟨S4x8192x2048, .f32⟩
  | 38 => ⟨S_, .f32⟩
  | 39 => ⟨S4x8192x2048, .f32⟩
  | 40 => ⟨S4x8192x2048, .f32⟩
  | 41 => ⟨S4x8192x2048, .f32⟩
  | 42 => ⟨S_, .f32⟩
  | 43 => ⟨S4x8192x2048, .f32⟩
  | 44 => ⟨S4x8192x2048, .f32⟩
  | 45 => ⟨S4x8192x2048, .f32⟩
  | 46 => ⟨S_, .f32⟩
  | 47 => ⟨S4x8192x2048, .f32⟩
  | 48 => ⟨S4x8192x2048, .f32⟩
  | 49 => ⟨S_, .f32⟩
  | 50 => ⟨S4x8192x2048, .f32⟩
  | 51 => ⟨S4x8192x2048, .f32⟩
  | 52 => ⟨S4x8192x2048, .f32⟩
  | 53 => ⟨S4x8192x1024, .f32⟩
  | 54 => ⟨S4x8192x1024, .f32⟩
  | 55 => ⟨S_, .f32⟩
  | 56 => ⟨S4x8192, .f32⟩
  | 57 => ⟨S4x8192x1, .f32⟩
  | 58 => ⟨S_, .f32⟩
  | 59 => ⟨S4x8192x1, .f32⟩
  | 60 => ⟨S4x8192x1, .f32⟩
  | 61 => ⟨S4x8192x1024, .f32⟩
  | 62 => ⟨S4x8192x1024, .f32⟩
  | 63 => ⟨S4x8192x1024, .f32⟩
  | 64 => ⟨S_, .f32⟩
  | 65 => ⟨S4x8192, .f32⟩
  | 66 => ⟨S4x8192x1, .f32⟩
  | 67 => ⟨S_, .f32⟩
  | 68 => ⟨S4x8192x1, .f32⟩
  | 69 => ⟨S4x8192x1, .f32⟩
  | 70 => ⟨S_, .f32⟩
  | 71 => ⟨S4x8192x1, .f32⟩
  | 72 => ⟨S4x8192x1, .f32⟩
  | 73 => ⟨S4x8192x1, .f32⟩
  | 74 => ⟨S4x8192x1024, .f32⟩
  | 75 => ⟨S4x8192x1024, .f32⟩
  | 76 => ⟨S1x1x1024, .f32⟩
  | 77 => ⟨S4x8192x1024, .f32⟩
  | 78 => ⟨S4x8192x1024, .f32⟩
  | 79 => ⟨S1x1x1024, .f32⟩
  | 80 => ⟨S4x8192x1024, .f32⟩
  | 81 => ⟨S4x8192x1024, .f32⟩
  | 82 => ⟨S4x64x128x8x128, .f32⟩
  | 83 => ⟨S_, .i1⟩
  | 84 => ⟨S128x128, .i1⟩
  | 85 => ⟨S128x128, .i32⟩
  | 86 => ⟨S_, .i32⟩
  | 87 => ⟨S128x128, .i32⟩
  | 88 => ⟨S128x128, .i32⟩
  | 89 => ⟨S128x128, .i32⟩
  | 90 => ⟨S128x128, .i1⟩
  | 91 => ⟨S_, .i1⟩
  | 92 => ⟨S128x128, .i1⟩
  | 93 => ⟨S128x128, .i1⟩
  | 94 => ⟨S1x128x128, .i1⟩
  | 95 => ⟨S_, .f32⟩
  | 96 => ⟨S_, .f32⟩
  | 97 => ⟨S8x128x128, .i1⟩
  | 98 => ⟨S8x128x128, .f32⟩
  | 99 => ⟨S8x128x128, .f32⟩
  | 100 => ⟨S8x4x64x128x128, .f32⟩
  | 101 => ⟨S4x64x128x8x128, .f32⟩
  | 102 => ⟨S128x8, .f32⟩
  | 103 => ⟨S1x1x128x8x1, .f32⟩
  | 104 => ⟨S4x64x128x8x128, .f32⟩
  | 105 => ⟨S4x64x128x8x128, .f32⟩
  | 106 => ⟨S4x8192x1024, .f32⟩
  | 107 => ⟨S4x8192x1024, .f32⟩
  | 108 => ⟨S4x8192x1024, .f32⟩
  | 109 => ⟨S4x8192x1024, .f32⟩
  | 110 => ⟨S_, .f32⟩
  | 111 => ⟨S4x8192, .f32⟩
  | 112 => ⟨S4x8192x1, .f32⟩
  | 113 => ⟨S_, .f32⟩
  | 114 => ⟨S4x8192x1, .f32⟩
  | 115 => ⟨S4x8192x1, .f32⟩
  | 116 => ⟨S_, .f32⟩
  | 117 => ⟨S4x8192x1, .f32⟩
  | 118 => ⟨S4x8192x1, .f32⟩
  | 119 => ⟨S4x8192x1, .f32⟩
  | 120 => ⟨S4x8192x1024, .f32⟩
  | 121 => ⟨S4x8192x1024, .f32⟩
  | 122 => ⟨S1x1x1024, .f32⟩
  | 123 => ⟨S4x8192x1024, .f32⟩
  | 124 => ⟨S4x8192x1024, .f32⟩
  | 125 => ⟨S4x8192x1024, .f32⟩
  | 126 => ⟨S32768x1024, .f32⟩
  | 127 => ⟨S32768x1024, .f32⟩
  | _ => ⟨S32768x1024, .f32⟩

abbrev hbmTy0_1 (i : Nat) : BufTy := match i % 128 with
  | 0 => ⟨S_, .f32⟩
  | 1 => ⟨S32768, .f32⟩
  | 2 => ⟨S32768x1, .f32⟩
  | 3 => ⟨S_, .f32⟩
  | 4 => ⟨S32768x1, .f32⟩
  | 5 => ⟨S32768x1, .f32⟩
  | 6 => ⟨S_, .f32⟩
  | 7 => ⟨S32768x1, .f32⟩
  | 8 => ⟨S32768x1, .f32⟩
  | 9 => ⟨S32768x1, .f32⟩
  | 10 => ⟨S32768x1024, .f32⟩
  | 11 => ⟨S32768x1024, .f32⟩
  | 12 => ⟨S1x1024, .f32⟩
  | 13 => ⟨S32768x1024, .f32⟩
  | 14 => ⟨S32768x1024, .f32⟩
  | 15 => ⟨S32768x2816, .f32⟩
  | 16 => ⟨S32768x2816, .f32⟩
  | 17 => ⟨S32768x2816, .f32⟩
  | 18 => ⟨S_, .f32⟩
  | 19 => ⟨S32768x2816, .f32⟩
  | 20 => ⟨S32768x2816, .f32⟩
  | 21 => ⟨S_, .f32⟩
  | 22 => ⟨S32768x2816, .f32⟩
  | 23 => ⟨S32768x2816, .f32⟩
  | 24 => ⟨S32768x2816, .f32⟩
  | 25 => ⟨S32768x2816, .f32⟩
  | 26 => ⟨S32768x2816, .f32⟩
  | 27 => ⟨S32768x1024, .f32⟩
  | 28 => ⟨S32768x1024, .f32⟩
  | 29 => ⟨S_, .f32⟩
  | 30 => ⟨S32768, .f32⟩
  | 31 => ⟨S32768x1, .f32⟩
  | 32 => ⟨S_, .f32⟩
  | 33 => ⟨S32768x1, .f32⟩
  | 34 => ⟨S32768x1, .f32⟩
  | 35 => ⟨S_, .f32⟩
  | 36 => ⟨S32768x1, .f32⟩
  | 37 => ⟨S32768x1, .f32⟩
  | 38 => ⟨S32768x1, .f32⟩
  | 39 => ⟨S32768x1024, .f32⟩
  | 40 => ⟨S32768x1024, .f32⟩
  | 41 => ⟨S1x1024, .f32⟩
  | 42 => ⟨S32768x1024, .f32⟩
  | 43 => ⟨S32768x1024, .f32⟩
  | 44 => ⟨S_, .f32⟩
  | 45 => ⟨S32768x1024, .f32⟩
  | 46 => ⟨S32768x1024, .f32⟩
  | 47 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c : Ref sig .tc := ⟨.hbm, 83, rfl⟩
abbrev main_v56 : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_c_0 : Ref sig .tc := ⟨.hbm, 91, rfl⟩
abbrev main_call0_v5 : Ref sig .tc := ⟨.hbm, 92, rfl⟩
abbrev main_v57 : Ref sig .tc := ⟨.hbm, 93, rfl⟩
abbrev main_v58 : Ref sig .tc := ⟨.hbm, 94, rfl⟩
abbrev main_cst_11 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_12 : Ref sig .tc := ⟨.hbm, 110, rfl⟩
abbrev main_v70 : Ref sig .tc := ⟨.hbm, 111, rfl⟩
abbrev main_v71 : Ref sig .tc := ⟨.hbm, 112, rfl⟩
abbrev main_cst_13 : Ref sig .tc := ⟨.hbm, 113, rfl⟩
abbrev main_v72 : Ref sig .tc := ⟨.hbm, 114, rfl⟩
abbrev main_v73 : Ref sig .tc := ⟨.hbm, 115, rfl⟩
abbrev main_cst_14 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_15 : Ref sig .tc := ⟨.hbm, 128, rfl⟩
abbrev main_v85 : Ref sig .tc := ⟨.hbm, 129, rfl⟩
abbrev main_v86 : Ref sig .tc := ⟨.hbm, 130, rfl⟩
abbrev main_cst_16 : Ref sig .tc := ⟨.hbm, 131, rfl⟩
abbrev main_v87 : Ref sig .tc := ⟨.hbm, 132, rfl⟩
abbrev main_v88 : Ref sig .tc := ⟨.hbm, 133, rfl⟩
abbrev main_cst_17 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_call2_v0 : Ref sig .tc := ⟨.hbm, 144, rfl⟩
abbrev main_call2_v1 : Ref sig .tc := ⟨.hbm, 145, rfl⟩
abbrev main_call2_cst : Ref sig .tc := ⟨.hbm, 146, rfl⟩
abbrev main_call2_v2 : Ref sig .tc := ⟨.hbm, 147, rfl⟩
abbrev main_call2_v3 : Ref sig .tc := ⟨.hbm, 148, rfl⟩
abbrev main_call2_cst_0 : Ref sig .tc := ⟨.hbm, 149, rfl⟩
abbrev main_call2_v4 : Ref sig .tc := ⟨.hbm, 150, rfl⟩
abbrev main_call2_v5 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_18 : Ref sig .tc := ⟨.hbm, 157, rfl⟩
abbrev main_v103 : Ref sig .tc := ⟨.hbm, 158, rfl⟩
abbrev main_v104 : Ref sig .tc := ⟨.hbm, 159, rfl⟩
abbrev main_cst_19 : Ref sig .tc := ⟨.hbm, 160, rfl⟩
abbrev main_v105 : Ref sig .tc := ⟨.hbm, 161, rfl⟩
abbrev main_v106 : Ref sig .tc := ⟨.hbm, 162, rfl⟩
abbrev main_cst_20 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_21 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩

abbrev nD : Nat := 1
abbrev τ : Topo := Topo.v7x

variable {F : FTy → Type} [FloatOps F]
-- ==== Proof.FfnReference.lean ====
/-
  The feed-forward reference, stage by stage: the normalised rows, the gated product, the down projection and the finished
  rows, each read at an index.
-/
module

public import proofs.«01_k».proof.Proof.Gen.FfnReferenceIdeal.Run
public import Idealize.ShloMosaic.Lib.Pointwise

@[expose] public section

set_option maxRecDepth 16384

noncomputable section

namespace Cert.FfnReferenceIdeal.Stages

open Cert.FfnReferenceIdeal Cert.FfnReferenceIdeal.Gen
open Idealize.ShloMosaic Idealize.ShloMosaic.TcCoe Idealize.SL.Sem

/-- One entry of an RMS normalisation of rows of 1024 entries: the entry `v`, the row's sum of squares `ss`, the gain `g`. -/
def rmsEntry (v ss g : EReal) : EReal :=
  v * Ideal.rsqrt (Ideal.div ss (Ideal.ofBits .f32 1149239296#32) + Ideal.ofBits .f32 897988541#32) * g

/-- The gate `a · σ(a)` times the other branch. -/
def gated (a b : EReal) : EReal := a * Ideal.logistic a * b

/-- The RMS normalisation of the rows of `X` with gain `g`, as the reference composes it. -/
def normed (X : FVec Ideal S32768x1024 .f32) (g : FVec Ideal S1024 .f32) : FVec Ideal S32768x1024 .f32 :=
  mulf (mulf X (broadcastInDim S32768x1024 ![0, 1] bcast_S32768x1_S32768x1024_0_1
      (Host.rsqrt (addf (Host.divf (broadcastInDim S32768x1 ![0] bcast_S32768_S32768x1_0
          (Host.reduceAdd (mulf X X) (constant S_ FTy.f32 0x00000000#32) reducesTo_S32768x1024_S32768_d1 h_S_))
          (broadcastInDim S32768x1 ![] bcast_S_S32768x1 (constant S_ FTy.f32 0x44800000#32)))
        (broadcastInDim S32768x1 ![] bcast_S_S32768x1 (constant S_ FTy.f32 0x358637BD#32))))))
    (broadcastInDim S32768x1024 ![0, 1] bcast_S1x1024_S32768x1024_0_1 (broadcastInDim S1x1024 ![1] bcast_S1024_S1x1024_1 g))

theorem normed_at (X : FVec Ideal S32768x1024 .f32) (g : FVec Ideal S1024 .f32) (r : Fin 32768) (d : Fin 1024) :
    normed X g (ix2 r d) = rmsEntry (X (ix2 r d)) (∑ k : Fin 1024, X (ix2 r k) * X (ix2 r k)) (g (ix1 d)) := by
  unfold rmsEntry
  pointwise [normed]

/-- The hidden layer: both projections of the normalised rows, gated. -/
def hidden (H : FVec Ideal S32768x1024 .f32) (wg wu : FVec Ideal S1024x2816 .f32) : FVec Ideal S32768x2816 .f32 :=
  mulf (mulf (Host.dotGeneral dot_S32768x1024_S1024x2816_S32768x2816_1_0_0_1_n_n none H wg)
      (Host.divf (broadcastInDim S32768x2816 ![] bcast_S_S32768x2816 (constant S_ FTy.f32 0x3F800000#32))
        (addf (broadcastInDim S32768x2816 ![] bcast_S_S32768x2816 (constant S_ FTy.f32 0x3F800000#32))
          (Host.exp (Host.negf (Host.dotGeneral dot_S32768x1024_S1024x2816_S32768x2816_1_0_0_1_n_n none H wg))))))
    (Host.dotGeneral dot_S32768x1024_S1024x2816_S32768x2816_1_0_0_1_n_n none H wu)

theorem hidden_at (H : FVec Ideal S32768x1024 .f32) (wg wu : FVec Ideal S1024x2816 .f32) (r : Fin 32768) (f : Fin 2816) :
    hidden H wg wu (ix2 r f) = gated (∑ k : Fin 1024, H (ix2 r k) * wg (ix2 k f)) (∑ k : Fin 1024, H (ix2 r k) * wu (ix2 k f)) := by
  unfold gated Ideal.logistic
  pointwise [hidden]

/-- The down projection. -/
def down (Y : FVec Ideal S32768x2816 .f32) (wd : FVec Ideal S2816x1024 .f32) : FVec Ideal S32768x1024 .f32 :=
  Host.dotGeneral dot_S32768x2816_S2816x1024_S32768x1024_1_0_0_1_n_n none Y wd

theorem down_at (Y : FVec Ideal S32768x2816 .f32) (wd : FVec Ideal S2816x1024 .f32) (r : Fin 32768) (d : Fin 1024) :
    down Y wd (ix2 r d) = ∑ f : Fin 2816, Y (ix2 r f) * wd (ix2 f d) := by
  pointwise [down]

/-- The residual sum. -/
def residual (X N : FVec Ideal S32768x1024 .f32) : FVec Ideal S32768x1024 .f32 :=
  addf X (mulf (broadcastInDim S32768x1024 ![] bcast_S_S32768x1024 (constant S_ FTy.f32 0x3F000000#32)) N)

theorem residual_at (X N : FVec Ideal S32768x1024 .f32) (r : Fin 32768) (d : Fin 1024) :
    residual X N (ix2 r d) = X (ix2 r d) + Ideal.ofBits .f32 1056964608#32 * N (ix2 r d) := by
  pointwise [residual]

/-- The reference's down projection of the whole input. -/
def down_of (X : FVec Ideal S32768x1024 .f32) (g : FVec Ideal S1024 .f32) (wg wu : FVec Ideal S1024x2816 .f32)
    (wd : FVec Ideal S2816x1024 .f32) : FVec Ideal S32768x1024 .f32 := down (hidden (normed X g) wg wu) wd

/-- The reference's result is these stages in order. -/
theorem result_eq (m : (ℓ : Loc nD τ sig) → Buf (Elt Ideal) ℓ) (c : Dev nD) :
    Value.res_out0 m c = residual (m ((c.tc : Thread nD τ).loc main_arg0))
      (normed (down_of (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5)))
        (m ((c.tc : Thread nD τ).loc main_arg2))) := rfl

end Cert.FfnReferenceIdeal.Stages

end
-- ==== Proof.Inproj.lean ====
/-
  The input projection's result array is the reference's, index by index: the kernel normalises a block of rows once, keeps
  it over the four blocks of columns and multiplies it by each of them.
-/
module

public import proofs.«01_k».proof.Proof.FfnReference
public import proofs.«01_k».proof.Proof.Gen.InprojReferenceIdeal.Run
public import proofs.«01_k».proof.Proof.Gen.InprojKernelIdeal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.InprojReferenceIdeal.Stages

open Cert.InprojReferenceIdeal Cert.InprojReferenceIdeal.Gen
open Idealize.ShloMosaic Idealize.ShloMosaic.TcCoe Idealize.SL.Sem
open Cert.FfnReferenceIdeal.Stages (rmsEntry)

/-- The RMS normalisation of the rows. -/
def normed (X : FVec Ideal S32768x1024 .f32) (g : FVec Ideal S1024 .f32) : FVec Ideal S32768x1024 .f32 :=
  mulf (mulf X (broadcastInDim S32768x1024 ![0, 1] bcast_S32768x1_S32768x1024_0_1
      (Host.rsqrt (addf (Host.divf (broadcastInDim S32768x1 ![0] bcast_S32768_S32768x1_0
          (Host.reduceAdd (mulf X X) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The projection of the normalised rows. -/
def projected (X : FVec Ideal S32768x1024 .f32) (g : FVec Ideal S1024 .f32) (w : FVec Ideal S1024x3072 .f32) : FVec Ideal S32768x3072 .bf16 :=
  truncf .bf16 (Host.dotGeneral dot_S32768x1024_S1024x3072_S32768x3072_1_0_0_1_n_n none (normed X g) w) bitsLt_bf16_f32

theorem normed_at (X : FVec Ideal S32768x1024 .f32) (g : FVec Ideal S1024 .f32) (r : Fin 32768) (d : Fin 1024) :
    normed X g (ix2 r d) = rmsEntry (X (ix2 r d)) (∑ k : Fin 1024, X (ix2 r k) * X (ix2 r k)) (g (ix1 d)) := by
  unfold rmsEntry
  pointwise [normed]

theorem projected_at (X : FVec Ideal S32768x1024 .f32) (g : FVec Ideal S1024 .f32) (w : FVec Ideal S1024x3072 .f32) (r : Fin 32768) (j : Fin 3072) :
    projected X g w (ix2 r j) = (show EReal from ∑ k : Fin 1024, normed X g (ix2 r k) * w (ix2 k j)) := by
  pointwise [projected]

end Cert.InprojReferenceIdeal.Stages

namespace Cert.InprojKernelIdeal.Result

open Cert.InprojKernelIdeal Cert.InprojKernelIdeal.Gen
open Idealize.ShloMosaic Idealize.ShloMosaic.TcCoe Idealize.SL.Sem
open Cert.FfnReferenceIdeal.Stages (rmsEntry)
open Cert.InprojReferenceIdeal.Stages (normed projected normed_at projected_at)

/-! ## What a grid point leaves -/

section Body

variable {F : FTy → Type} [FloatOps F] (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x768 .bf16) (harg4 : arg4.IsWhole)
  (arg5 : Memref sig .tc .vmem S1024x768 .bf16) (harg5 : arg5.IsWhole)
  (arg6 : Memref sig .tc .vmem S1024x1024 .bf16) (harg6 : arg6.IsWhole)
  (x0 : FVec F S1024x1024 .f32) (x1 : FVec F S1x1024 .f32) (x2 : FVec F S1024x768 .bf16)

theorem zeros : (![0, 0] : Fin 2 → Nat) = fun _ => 0 := funext fun a => by fin_cases a <;> rfl

/-- First block of columns: the normalised rows are kept, -/
theorem kept_first (hc0 : cond0_0 i) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  first | rw [View.canon_unit_zero (S := S1024x1024) zeros] | rw [View.canon_cons_unit_zero (S := S1024x1024) zeros]
  simp only [View.readAt_eq_ld, harg2.read_unread, harg3.read_unread, View.ld_unit_zero (S := S1024x1024) zeros, View.ld_unit_zero (S := S1x1024) zeros]

/-- and multiplied by the block. -/
theorem out_first (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  first | rw [View.canon_unit_zero (S := S1024x768) zeros] | rw [View.canon_cons_unit_zero (S := S1024x768) zeros]
  simp only [View.readCov_unit_zero (S := S1024x1024) _ zeros, View.readAt_eq_ld, harg2.read_unread, harg3.read_unread, harg4.read_unread, harg6.read_unread,
    View.ld_unit_zero (S := S1024x1024) zeros, View.ld_unit_zero (S := S1x1024) zeros, View.ld_unit_zero (S := S1024x768) zeros]

/-- A later block of columns: the kept rows are multiplied by it. -/
theorem out_later (hc0 : ¬cond0_0 i) (xs0 : FVec F S1024x1024 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  first | rw [View.canon_unit_zero (S := S1024x768) zeros] | rw [View.canon_cons_unit_zero (S := S1024x768) zeros]
  simp only [View.readCov_unit_zero (S := S1024x1024) _ zeros, View.readAt_eq_ld, harg4.read_unread, harg6.read_unread,
    View.ld_unit_zero (S := S1024x1024) zeros, View.ld_unit_zero (S := S1024x768) zeros]

end Body

variable (m : (ℓ : Loc nD τ sig) → Buf (Elt Ideal) ℓ) (c : Dev nD)

theorem blocks_at : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

theorem points (t : Fin cfg0.N) : t.val < 128 := lt_of_lt_of_eq t.isLt (show cfg0.N = 128 from N_0)

/-- The row of the array that row `r` of a point's block is. -/
def rowOf (t : Fin cfg0.N) (r : Fin 1024) : Fin 32768 := ⟨t.val / 4 * 1024 + r.val, by have := points t; omega⟩
/-- The column that column `j` of a point's block is. -/
def colOf (t : Fin cfg0.N) (j : Fin 768) : Fin 3072 := ⟨t.val % 4 * 768 + j.val, by omega⟩

def argX : FVec Ideal S32768x1024 .f32 := m ((c : Thread nD τ).loc main_arg0)
def argG : FVec Ideal S1024 .f32 := m ((c : Thread nD τ).loc main_arg1)
def argW : FVec Ideal S1024x3072 .f32 := m ((c : Thread nD τ).loc main_arg2)

theorem x_at (t : Fin cfg0.N) (r d : Fin 1024) :
    (iblk m c 0 t : FVec Ideal S1024x1024 .f32) (ix2 r d) = argX m c (ix2 (rowOf t r) d) := by
  unfold argX rowOf
  blk_ext [iblk, V, blocks_at t]
theorem g_at (t : Fin cfg0.N) (d : Fin 1024) :
    (iblk m c 1 t : FVec Ideal S1x1024 .f32) (ix2 0 d) = argG m c (ix1 d) := by
  unfold argG
  blk_ext! [iblk, V, blocks_at t]
theorem w_at (t : Fin cfg0.N) (k : Fin 1024) (j : Fin 768) :
    (iblk m c 2 t : FVec Ideal S1024x768 .bf16) (ix2 k j) = argW m c (ix2 k (colOf t j)) := by
  unfold argW colOf
  blk_ext! [iblk, V, blocks_at t]

theorem pay1_at (x0 : FVec Ideal S1024x1024 .f32) (x1 : FVec Ideal S1x1024 .f32) (r d : Fin 1024) :
    k0_pay1 (F := Ideal) x0 x1 (ix2 r d) = (show EReal from rmsEntry (x0 (ix2 r d)) (∑ k : Fin 1024, x0 (ix2 r k) * x0 (ix2 r k)) (x1 (ix2 0 d))) := by
  unfold rmsEntry
  pointwise [k0_pay1]

theorem pay2_at (h : FVec Ideal S1024x1024 .bf16) (w : FVec Ideal S1024x768 .bf16) (r : Fin 1024) (j : Fin 768) :
    k0_pay2 (F := Ideal) h w (ix2 r j) = (show EReal from ∑ k : Fin 1024, h (ix2 r k) * w (ix2 k j)) := by
  pointwise [k0_pay2]

theorem rows_at (t : Fin cfg0.N) (r d : Fin 1024) :
    k0_pay1 (F := Ideal) (iblk m c 0 t : FVec Ideal S1024x1024 .f32) (iblk m c 1 t : FVec Ideal S1x1024 .f32) (ix2 r d)
      = (show EReal from normed (argX m c) (argG m c) (ix2 (rowOf t r) d)) := by
  rw [pay1_at, normed_at, x_at, g_at]
  simp only [x_at]

/-- After every point the scratch holds the normalised rows of the point's block. -/
theorem kept (n : ℕ) (hn : n < cfg0.N) (r d : Fin 1024) :
    ((outsAt0 m c n hn).2 : FVec Ideal S1024x1024 .bf16) (ix2 r d) = (show EReal from normed (argX m c) (argG m c) (ix2 (rowOf ⟨n, hn⟩ r) d)) := by
  induction n with
  | zero =>
    have e : outsAt0 m c 0 hn = outsAt0 m c (⟨0, hn⟩ : Fin cfg0.N).val (⟨0, hn⟩ : Fin cfg0.N).isLt := rfl
    rw [e, outsAt0_A m c ⟨0, hn⟩ (Nat.zero_mod _)]
    dsimp only
    rw [kept_first]
    exact rows_at m c ⟨0, hn⟩ r d
  | succ n ih =>
    have e : outsAt0 m c (n + 1) hn = outsAt0 m c (⟨n + 1, hn⟩ : Fin cfg0.N).val (⟨n + 1, hn⟩ : Fin cfg0.N).isLt := rfl
    by_cases h0 : (n + 1) % 4 = 0
    · rw [e, outsAt0_A m c ⟨n + 1, hn⟩ h0]
      dsimp only
      rw [kept_first]
      exact rows_at m c ⟨n + 1, hn⟩ r d
    · rw [e, outsAt0_B m c ⟨n + 1, hn⟩ h0]
      dsimp only
      unfold sout0_B_0
      refine (ih (Nat.lt_of_succ_lt hn)).trans ?_
      rw [show rowOf ⟨n, Nat.lt_of_succ_lt hn⟩ r = rowOf ⟨n + 1, hn⟩ r from Fin.ext (by show n / 4 * 1024 + r.val = (n + 1) / 4 * 1024 + r.val; omega)]

/-- What a point writes out. -/
theorem out_at (t : Fin cfg0.N) (r : Fin 1024) (j : Fin 768) :
    ((outsAt0 m c t.val t.isLt).1 : FVec Ideal S1024x768 .bf16) (ix2 r j) = (show EReal from projected (argX m c) (argG m c) (argW m c) (ix2 (rowOf t r) (colOf t j))) := by
  rw [projected_at]
  by_cases h0 : t.val % 4 = 0
  · rw [outsAt0_A m c t h0]
    dsimp only
    rw [out_first, pay2_at]
    simp only [rows_at, w_at]
  · rw [outsAt0_B m c t h0]
    dsimp only
    rw [out_later, pay2_at]
    have e : ∀ k : Fin 1024, ((outsAt0 m c (t.val - 1) (Nat.lt_of_le_of_lt (Nat.sub_le _ _) t.isLt)).2 : FVec Ideal S1024x1024 .bf16) (ix2 r k)
        = (show EReal from normed (argX m c) (argG m c) (ix2 (rowOf t r) k)) := fun k => by
      refine (kept m c _ _ r k).trans ?_
      rw [show rowOf ⟨t.val - 1, Nat.lt_of_le_of_lt (Nat.sub_le _ _) t.isLt⟩ r = rowOf t r from
        Fin.ext (by show (t.val - 1) / 4 * 1024 + r.val = t.val / 4 * 1024 + r.val; omega)]
    simp only [e, w_at]

/-- What the result array ends holding. -/
theorem result : (dats m 0 c).arrAt 3 cfg0.N = projected (argX m c) (argG m c) (argW m c) := by
  refine (dats m 0 c).arrAt_eq_of_covers 3 _ (by decide +kernel) fun t hf y => ?_
  blk_simp
  rw [after0_3]
  obtain ⟨r, j, rfl⟩ : ∃ (r : Fin 1024) (j : Fin 768), y = ix2 r j := ⟨y 0, y 1, eq_ix2 y⟩
  have place : ((cfg0.win 3).blk t).view.emb (ix2 r j) = (ix2 (rowOf t r) (colOf t j) : S32768x3072.Idx) := by
    unfold rowOf colOf
    blk_ext [blocks_at t]
  refine Eq.trans ?_ (congrArg (projected (argX m c) (argG m c) (argW m c)) place.symm)
  exact out_at m c t r j

end Cert.InprojKernelIdeal.Result

end
-- ==== Proof.Outproj.lean ====
/-
  The output projection's result array is the reference's, index by index: the kernel multiplies the two mixers' outputs by
  the two halves of the weights and adds, the reference multiplies their concatenation by the whole.
-/
module

public import proofs.«01_k».proof.Proof.FfnReference
public import proofs.«01_k».proof.Proof.Gen.OutprojReferenceIdeal.Run
public import proofs.«01_k».proof.Proof.Gen.OutprojKernelIdeal.Value
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.OutprojReferenceIdeal.Stages

open Cert.OutprojReferenceIdeal Cert.OutprojReferenceIdeal.Gen
open Idealize.ShloMosaic Idealize.ShloMosaic.TcCoe Idealize.SL.Sem
open Cert.FfnReferenceIdeal.Stages (rmsEntry)

/-- The RMS normalisation of the rows. -/
def normed (X : FVec Ideal S32768x1024 .f32) (g : FVec Ideal S1024 .f32) : FVec Ideal S32768x1024 .f32 :=
  mulf (mulf X (broadcastInDim S32768x1024 ![0, 1] bcast_S32768x1_S32768x1024_0_1
      (Host.rsqrt (addf (Host.divf (broadcastInDim S32768x1 ![0] bcast_S32768_S32768x1_0
          (Host.reduceAdd (mulf X X) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem normed_at (X : FVec Ideal S32768x1024 .f32) (g : FVec Ideal S1024 .f32) (r : Fin 32768) (d : Fin 1024) :
    normed X g (ix2 r d) = rmsEntry (X (ix2 r d)) (∑ k : Fin 1024, X (ix2 r k) * X (ix2 r k)) (g (ix1 d)) := by
  unfold rmsEntry
  pointwise [normed]

/-- The two mixers' outputs side by side. -/
def sides (A B : FVec Ideal S32768x512 .bf16) : FVec Ideal S32768x1024 .f32 :=
  concatenate S32768x1024 1 [⟨S32768x512, (extf .f32 A bitsLt_bf16_f32)⟩, ⟨S32768x512, (extf .f32 B bitsLt_bf16_f32)⟩] concatenates_S32768x512_S32768x512_S32768x1024_d1

/-- Their projection. -/
def projected (A B : FVec Ideal S32768x512 .bf16) (w : FVec Ideal S1024x1024 .f32) : FVec Ideal S32768x1024 .f32 :=
  Host.dotGeneral dot_S32768x1024_S1024x1024_S32768x1024_1_0_0_1_n_n none (sides A B) w

/-- The residual sum. -/
def residual (X N : FVec Ideal S32768x1024 .f32) : FVec Ideal S32768x1024 .f32 := addf X N

theorem sides_left (A B : FVec Ideal S32768x512 .bf16) (r : Fin 32768) (k : Fin 512) :
    sides A B (ix2 r (Fin.castAdd 512 k)) = (show EReal from A (ix2 r k)) := by
  have h : (Fin.castAdd 512 k : Fin 1024) = ⟨k.val, by omega⟩ := rfl
  rw [h]
  pointwise [sides]

theorem sides_right (A B : FVec Ideal S32768x512 .bf16) (r : Fin 32768) (k : Fin 512) :
    sides A B (ix2 r (Fin.natAdd 512 k)) = (show EReal from B (ix2 r k)) := by
  have h : (Fin.natAdd 512 k : Fin 1024) = ⟨512 + k.val, by omega⟩ := rfl
  rw [h]
  pointwise [sides]

theorem projected_at (A B : FVec Ideal S32768x512 .bf16) (w : FVec Ideal S1024x1024 .f32) (r : Fin 32768) (d : Fin 1024) :
    projected A B w (ix2 r d) = (∑ k : Fin 512, (show EReal from A (ix2 r k)) * w (ix2 (⟨k.val, by omega⟩ : Fin 1024) d))
      + ∑ k : Fin 512, (show EReal from B (ix2 r k)) * w (ix2 (⟨512 + k.val, by omega⟩ : Fin 1024) d) := by
  have e : projected A B w (ix2 r d) = ∑ k : Fin (512 + 512), sides A B (ix2 r k) * w (ix2 k d) := by pointwise [projected]
  rw [e, Fin.sum_univ_add]
  simp only [sides_left, sides_right]
  rfl

theorem residual_at (X N : FVec Ideal S32768x1024 .f32) (r : Fin 32768) (d : Fin 1024) :
    residual X N (ix2 r d) = X (ix2 r d) + N (ix2 r d) := rfl
end Cert.OutprojReferenceIdeal.Stages

namespace Cert.OutprojKernelIdeal.Result

open Cert.OutprojKernelIdeal Cert.OutprojKernelIdeal.Gen
open Idealize.ShloMosaic Idealize.ShloMosaic.TcCoe Idealize.SL.Sem
open Cert.FfnReferenceIdeal.Stages (rmsEntry)
open Cert.OutprojReferenceIdeal.Stages (normed projected residual normed_at projected_at residual_at)

variable (m : (ℓ : Loc nD τ sig) → Buf (Elt Ideal) ℓ) (c : Dev nD)

theorem zeros : (![0, 0] : Fin 2 → Nat) = fun _ => 0 := funext fun a => by fin_cases a <;> rfl

theorem blocks_at : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![t.val, 0] :=
  (by decide +kernel : ∀ t : Fin grid0.N, _)

theorem points (t : Fin cfg0.N) : t.val < 32 := lt_of_lt_of_eq t.isLt (show cfg0.N = 32 from N_0)

/-- The row of the array that row `r` of a point's block is. -/
def rowOf (t : Fin cfg0.N) (r : Fin 1024) : Fin 32768 := ⟨t.val * 1024 + r.val, by have := points t; omega⟩

def argX : FVec Ideal S32768x1024 .f32 := m ((c : Thread nD τ).loc main_arg0)
def argA : FVec Ideal S32768x512 .bf16 := m ((c : Thread nD τ).loc main_arg1)
def argB : FVec Ideal S32768x512 .bf16 := m ((c : Thread nD τ).loc main_arg2)
def argW : FVec Ideal S1024x1024 .f32 := m ((c : Thread nD τ).loc main_arg3)
def argG : FVec Ideal S1024 .f32 := m ((c : Thread nD τ).loc main_arg4)

theorem x_at (t : Fin cfg0.N) (r d : Fin 1024) :
    (iblk m c 0 t : FVec Ideal S1024x1024 .f32) (ix2 r d) = argX m c (ix2 (rowOf t r) d) := by
  unfold argX rowOf
  blk_ext [iblk, V, blocks_at t]
theorem a_at (t : Fin cfg0.N) (r : Fin 1024) (k : Fin 512) :
    (iblk m c 1 t : FVec Ideal S1024x512 .bf16) (ix2 r k) = argA m c (ix2 (rowOf t r) k) := by
  unfold argA rowOf
  blk_ext [iblk, V, blocks_at t]
theorem b_at (t : Fin cfg0.N) (r : Fin 1024) (k : Fin 512) :
    (iblk m c 2 t : FVec Ideal S1024x512 .bf16) (ix2 r k) = argB m c (ix2 (rowOf t r) k) := by
  unfold argB rowOf
  blk_ext [iblk, V, blocks_at t]
theorem upper_at (t : Fin cfg0.N) (k : Fin 512) (d : Fin 1024) :
    (iblk m c 3 t : FVec Ideal S512x1024 .bf16) (ix2 k d) = argW m c (ix2 (⟨k.val, by omega⟩ : Fin 1024) d) := by
  unfold argW
  blk_ext! [iblk, V, blocks_at t]
theorem lower_at (t : Fin cfg0.N) (k : Fin 512) (d : Fin 1024) :
    (iblk m c 4 t : FVec Ideal S512x1024 .bf16) (ix2 k d) = argW m c (ix2 (⟨512 + k.val, by omega⟩ : Fin 1024) d) := by
  unfold argW
  blk_ext! [iblk, V, blocks_at t]
theorem g_at (t : Fin cfg0.N) (d : Fin 1024) :
    (iblk m c 5 t : FVec Ideal S1x1024 .f32) (ix2 0 d) = argG m c (ix1 d) := by
  unfold argG
  blk_ext! [iblk, V, blocks_at t]

/-- One entry of the kernel's projection. -/
def both (a : FVec Ideal S1024x512 .bf16) (u : FVec Ideal S512x1024 .bf16) (b : FVec Ideal S1024x512 .bf16) (l : FVec Ideal S512x1024 .bf16)
    (r d : Fin 1024) : EReal :=
  (∑ k : Fin 512, (show EReal from a (ix2 r k)) * u (ix2 k d)) + ∑ k : Fin 512, (show EReal from b (ix2 r k)) * l (ix2 k d)

theorem pay1_at (a : FVec Ideal S1024x512 .bf16) (u : FVec Ideal S512x1024 .bf16) (b : FVec Ideal S1024x512 .bf16) (l : FVec Ideal S512x1024 .bf16)
    (x : FVec Ideal S1024x1024 .f32) (g : FVec Ideal S1x1024 .f32) (r d : Fin 1024) :
    k0_pay1 (F := Ideal) a u b l x g (ix2 r d) = x (ix2 r d)
      + rmsEntry (both a u b l r d) (∑ k : Fin 1024, both a u b l r k * both a u b l r k) (g (ix2 0 d)) := by
  unfold rmsEntry both
  pointwise [k0_pay1]

theorem both_at (t : Fin cfg0.N) (r d : Fin 1024) :
    both (iblk m c 1 t) (iblk m c 3 t) (iblk m c 2 t) (iblk m c 4 t) r d = projected (argA m c) (argB m c) (argW m c) (ix2 (rowOf t r) d) := by
  rw [projected_at]
  unfold both
  simp only [a_at, b_at, upper_at, lower_at]

/-- What the result array ends holding. -/
theorem result : (dats m 0 c).arrAt 6 cfg0.N
    = residual (argX m c) (normed (projected (argA m c) (argB m c) (argW m c)) (argG m c)) := by
  refine (dats m 0 c).arrAt_eq_of_covers 6 _ (by decide +kernel) fun t hf y => ?_
  blk_simp
  rw [after0_6]
  unfold out0_6
  rw [View.canon_unit_zero (S := S1024x1024) zeros]
  simp only [View.ld_unit_zero (S := S1024x512) zeros, View.ld_unit_zero (S := S512x1024) zeros, View.ld_unit_zero (S := S1024x1024) zeros,
    View.ld_unit_zero (S := S1x1024) zeros]
  obtain ⟨r, d, rfl⟩ : ∃ (r d : Fin 1024), y = ix2 r d := ⟨y 0, y 1, eq_ix2 y⟩
  have place : ((cfg0.win 6).blk t).view.emb (ix2 r d) = (ix2 (rowOf t r) d : S32768x1024.Idx) := by
    unfold rowOf
    blk_ext [blocks_at t]
  refine Eq.trans ?_ (congrArg (residual (argX m c) (normed (projected (argA m c) (argB m c) (argW m c)) (argG m c))) place.symm)
  rw [residual_at, normed_at]
  refine (pay1_at _ _ _ _ _ _ r d).trans ?_
  rw [x_at, g_at]
  simp only [both_at]

end Cert.OutprojKernelIdeal.Result

end
-- ==== Proof.SguReference.lean ====
/-
  The spatial gating unit's reference, stage by stage, each read at an index: the projected halves, the layer-normalised gate,
  its causal mix over each chunk of 128 tokens by group of 128 channels, the product, the output projection and the residual sum.
-/
module

public import proofs.«01_k».proof.Proof.FfnReference
public import proofs.«01_k».proof.Proof.Gen.SguReferenceIdeal.Run
public import Idealize.ShloMosaic.Lib.Pointwise

@[expose] public section

set_option maxRecDepth 16384

noncomputable section

namespace Cert.SguReferenceIdeal.Stages

open Cert.SguReferenceIdeal Cert.SguReferenceIdeal.Gen
open Idealize.ShloMosaic Idealize.ShloMosaic.TcCoe Idealize.SL.Sem
open Cert.FfnReferenceIdeal.Stages (rmsEntry)

/-! ## The mathematics of a row, over the extended reals -/

/-- The rows' length. -/
def count : EReal := Ideal.ofBits .f32 1149239296#32

/-- What a mean square is raised by before its root. -/
def small : EReal := Ideal.ofBits .f32 897988541#32

/-- The smooth rectifier, by its tanh formula. -/
def bend (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * a * a)))))

/-- Entry `j` of a row's hidden layer. -/
def hid (x g : Fin 1024 → EReal) (w : Fin 1024 → Fin 2048 → EReal) (b : Fin 2048 → EReal) (j : Fin 2048) : EReal :=
  bend ((∑ k : Fin 1024, rmsEntry (x k) (∑ i : Fin 1024, x i * x i) (g k) * w k j) + b j)

/-- The left half of a hidden row. -/
def left (h : Fin 2048 → EReal) (e : Fin 1024) : EReal := h ⟨e.val, by omega⟩

/-- The right half of a hidden row. -/
def right (h : Fin 2048 → EReal) (e : Fin 1024) : EReal := h ⟨1024 + e.val, by omega⟩

/-- A row less its mean. -/
def centre (v : Fin 1024 → EReal) (e : Fin 1024) : EReal := v e - Ideal.div (∑ k : Fin 1024, v k) count

/-- A row's layer normalisation. -/
def layered (v g b : Fin 1024 → EReal) (e : Fin 1024) : EReal :=
  centre v e * Ideal.rsqrt (Ideal.div (∑ k : Fin 1024, centre v k * centre v k) count + small) * g e + b e

/-- The causal mix of a chunk's entries. -/
def causal (w L : Fin 128 → EReal) (t : Fin 128) : EReal := ∑ s : Fin 128, (if s.val ≤ t.val then w s else 0) * L s

/-! ## The stages -/

def rows (X : FVec Ideal S32768x1024 .f32) : FVec Ideal S4x8192x1024 .f32 := shapeCast _ X shapeCasts_S32768x1024_S4x8192x1024

def normed (X : FVec Ideal S4x8192x1024 .f32) (g : FVec Ideal S1024 .f32) : FVec Ideal S4x8192x1024 .f32 :=
  mulf (mulf X (broadcastInDim S4x8192x1024 ![0, 1, 2] bcast_S4x8192x1_S4x8192x1024_0_1_2
      (Host.rsqrt (addf (Host.divf (broadcastInDim S4x8192x1 ![0, 1] bcast_S4x8192_S4x8192x1_0_1
          (Host.reduceAdd (mulf X X) (constant S_ .f32 0x00000000#32) reducesTo_S4x8192x1024_S4x8192_d2 h_S_))
          (broadcastInDim S4x8192x1 ![] bcast_S_S4x8192x1 (constant S_ .f32 0x44800000#32)))
        (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

def linear (H : FVec Ideal S4x8192x1024 .f32) (w : FVec Ideal S1024x2048 .f32) (b : FVec Ideal S2048 .f32) : FVec Ideal S4x8192x2048 .f32 :=
  addf (Host.dotGeneral dot_S4x8192x1024_S1024x2048_S4x8192x2048_2_0_01_1_n_n none H w)
    (broadcastInDim S4x8192x2048 ![0, 1, 2] bcast_S1x1x2048_S4x8192x2048_0_1_2 (broadcastInDim S1x1x2048 ![2] bcast_S2048_S1x1x2048_2 b))

def bent (A : FVec Ideal S4x8192x2048 .f32) : FVec Ideal S4x8192x2048 .f32 :=
  mulf A (mulf (broadcastInDim S4x8192x2048 ![] bcast_S_S4x8192x2048 (constant S_ .f32 0x3F000000#32))
    (addf (broadcastInDim S4x8192x2048 ![] bcast_S_S4x8192x2048 (constant S_ .f32 0x3F800000#32))
      (Host.tanh (mulf (broadcastInDim S4x8192x2048 ![] bcast_S_S4x8192x2048 (constant S_ .f32 0x3F4C422A#32))
        (addf A (mulf (broadcastInDim S4x8192x2048 ![] bcast_S_S4x8192x2048 (constant S_ .f32 0x3D372713#32)) (mulf (mulf A A) A)))))))

def leftHalf (Z : FVec Ideal S4x8192x2048 .f32) : FVec Ideal S4x8192x1024 .f32 :=
  extractStridedSlice S4x8192x1024 ![0, 0, 0] Z slices_S4x8192x2048_S4x8192x1024_0_0_0

def rightHalf (Z : FVec Ideal S4x8192x2048 .f32) : FVec Ideal S4x8192x1024 .f32 :=
  extractStridedSlice S4x8192x1024 ![0, 0, 1024] Z slices_S4x8192x2048_S4x8192x1024_0_0_1024

def centred (V : FVec Ideal S4x8192x1024 .f32) : FVec Ideal S4x8192x1024 .f32 :=
  subf V (broadcastInDim S4x8192x1024 ![0, 1, 2] bcast_S4x8192x1_S4x8192x1024_0_1_2
    (Host.divf (broadcastInDim S4x8192x1 ![0, 1] bcast_S4x8192_S4x8192x1_0_1
      (Host.reduceAdd V (constant S_ .f32 0x00000000#32) reducesTo_S4x8192x1024_S4x8192_d2 h_S_))
      (broadcastInDim S4x8192x1 ![] bcast_S_S4x8192x1 (constant S_ .f32 0x44800000#32))))

def shifted (N : FVec Ideal S4x8192x1024 .f32) (b : FVec Ideal S1024 .f32) : FVec Ideal S4x8192x1024 .f32 :=
  addf N (broadcastInDim S4x8192x1024 ![0, 1, 2] bcast_S1x1x1024_S4x8192x1024_0_1_2 (broadcastInDim S1x1x1024 ![2] bcast_S1024_S1x1x1024_2 b))

def chunked (L : FVec Ideal S4x8192x1024 .f32) : FVec Ideal S4x64x128x8x128 .f32 := shapeCast _ L shapeCasts_S4x8192x1024_S4x64x128x8x128

def lower : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

def masked (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 lower))
    w (broadcastInDim S8x128x128 ![] bcast_S_S8x128x128 (id (constant S_ .f32 0x00000000#32)))

def mixed (C : FVec Ideal S4x64x128x8x128 .f32) (W : FVec Ideal S8x128x128 .f32) : FVec Ideal S4x64x128x8x128 .f32 :=
  transpose S4x64x128x8x128 [1, 2, 4, 0, 3] (Host.dotGeneral dot_S4x64x128x8x128_S8x128x128_S8x4x64x128x128_2_2_014_1_3_0 none C W)
    transposes_S8x4x64x128x128_S4x64x128x8x128_1_2_4_0_3

def biased (M : FVec Ideal S4x64x128x8x128 .f32) (b : FVec Ideal S8x128 .f32) : FVec Ideal S4x64x128x8x128 .f32 :=
  addf M (broadcastInDim S4x64x128x8x128 ![0, 1, 2, 3, 4] bcast_S1x1x128x8x1_S4x64x128x8x128_0_1_2_3_4
    (broadcastInDim S1x1x128x8x1 ![2, 3] bcast_S128x8_S1x1x128x8x1_2_3 (transpose S128x8 [1, 0] b transposes_S8x128_S128x8_1_0)))

def flat (T : FVec Ideal S4x64x128x8x128 .f32) : FVec Ideal S4x8192x1024 .f32 := shapeCast _ T shapeCasts_S4x64x128x8x128_S4x8192x1024

def out (U M : FVec Ideal S4x8192x1024 .f32) (w : FVec Ideal S1024x1024 .f32) : FVec Ideal S4x8192x1024 .f32 :=
  Host.dotGeneral dot_S4x8192x1024_S1024x1024_S4x8192x1024_2_0_01_1_n_n none (mulf U M) w

def residual (X N : FVec Ideal S4x8192x1024 .f32) : FVec Ideal S32768x1024 .f32 := shapeCast _ (addf X N) shapeCasts_S4x8192x1024_S32768x1024

/-! ## The stages at an index -/

/-- The flat row of a sequence's token. -/
def rowNo (b : Fin 4) (n : Fin 64) (t : Fin 128) : Fin 32768 := ⟨b.val * 8192 + (n.val * 128 + t.val), by omega⟩

/-- The token of a chunk's row. -/
def tokNo (n : Fin 64) (t : Fin 128) : Fin 8192 := ⟨n.val * 128 + t.val, by omega⟩

/-- The channel of a group's column. -/
def chNo (g : Fin 8) (c : Fin 128) : Fin 1024 := ⟨g.val * 128 + c.val, by omega⟩

theorem rows_at (X : FVec Ideal S32768x1024 .f32) (b : Fin 4) (n : Fin 64) (t : Fin 128) (d : Fin 1024) :
    rows X (ix3 b (tokNo n t) d) = X (ix2 (rowNo b n t) d) := by
  unfold tokNo rowNo
  pointwise [rows]

theorem normed_at (X : FVec Ideal S4x8192x1024 .f32) (g : FVec Ideal S1024 .f32) (b : Fin 4) (s : Fin 8192) (d : Fin 1024) :
    normed X g (ix3 b s d) = rmsEntry (X (ix3 b s d)) (∑ k : Fin 1024, X (ix3 b s k) * X (ix3 b s k)) (g (ix1 d)) := by
  unfold rmsEntry
  pointwise [normed]

theorem linear_at (H : FVec Ideal S4x8192x1024 .f32) (w : FVec Ideal S1024x2048 .f32) (v : FVec Ideal S2048 .f32) (b : Fin 4) (s : Fin 8192) (j : Fin 2048) :
    linear H w v (ix3 b s j) = (∑ k : Fin 1024, H (ix3 b s k) * w (ix2 k j)) + v (ix1 j) := by
  pointwise [linear]

theorem bent_at (A : FVec Ideal S4x8192x2048 .f32) (b : Fin 4) (s : Fin 8192) (j : Fin 2048) :
    bent A (ix3 b s j) = bend (A (ix3 b s j)) := by
  unfold bend
  pointwise [bent]

theorem leftHalf_at (Z : FVec Ideal S4x8192x2048 .f32) (b : Fin 4) (s : Fin 8192) (e : Fin 1024) :
    leftHalf Z (ix3 b s e) = left (fun j => Z (ix3 b s j)) e := by
  unfold left
  pointwise [leftHalf]

theorem rightHalf_at (Z : FVec Ideal S4x8192x2048 .f32) (b : Fin 4) (s : Fin 8192) (e : Fin 1024) :
    rightHalf Z (ix3 b s e) = right (fun j => Z (ix3 b s j)) e := by
  unfold right
  pointwise [rightHalf]

theorem centred_at (V : FVec Ideal S4x8192x1024 .f32) (b : Fin 4) (s : Fin 8192) (e : Fin 1024) :
    centred V (ix3 b s e) = centre (fun k => V (ix3 b s k)) e := by
  unfold centre count
  pointwise [centred]

theorem shifted_at (N : FVec Ideal S4x8192x1024 .f32) (v : FVec Ideal S1024 .f32) (b : Fin 4) (s : Fin 8192) (e : Fin 1024) :
    shifted N v (ix3 b s e) = N (ix3 b s e) + v (ix1 e) := by
  pointwise [shifted]

theorem chunked_at (L : FVec Ideal S4x8192x1024 .f32) (b : Fin 4) (n : Fin 64) (s : Fin 128) (g : Fin 8) (c : Fin 128) :
    chunked L (ix5 b n s g c) = L (ix3 b (tokNo n s) (chNo g c)) := by
  unfold tokNo chNo
  pointwise [chunked]

theorem toInt_small (x : ℕ) (hx : x < 2 ^ 31) : (BitVec.ofNat 32 x).toInt = (x : Int) := by
  rw [BitVec.toInt_ofNat']; simp only [Int.bmod]; omega

theorem lower_at (t s : Fin 128) : lower (ix2 t s) = if s.val ≤ t.val then 1#1 else 0#1 := by
  pointwise [lower]
  have e : IntOp.cmpi CmpIPredicate.sge (IntOp.addi (BitVec.ofNat 32 t.val) 0#32) (BitVec.ofNat 32 s.val) = if s.val ≤ t.val then 1#1 else 0#1 := by
    have z : IntOp.addi (BitVec.ofNat 32 t.val) 0#32 = BitVec.ofNat 32 t.val := BitVec.add_zero _
    rw [z]
    show BitVec.ofBool (decide ((BitVec.ofNat 32 s.val).toInt ≤ (BitVec.ofNat 32 t.val).toInt)) = _
    rw [toInt_small s.val (by omega), toInt_small t.val (by omega)]
    by_cases h : s.val ≤ t.val
    · rw [if_pos h, decide_eq_true (by omega)]; rfl
    · rw [if_neg h, decide_eq_false (by omega)]; rfl
  by_cases h : s.val ≤ t.val
  · rw [if_pos h] at e ⊢; rw [e]; rfl
  · rw [if_neg h] at e ⊢; rw [e]; rfl

theorem masked_at (w : FVec Ideal S8x128x128 .f32) (g : Fin 8) (t s : Fin 128) :
    masked w (ix3 g t s) = (if s.val ≤ t.val then w (ix3 g t s) else 0 : EReal) := by
  pointwise [masked, lower_at]
  by_cases h : s.val ≤ t.val
  · rw [if_pos h, if_pos h]; rfl
  · rw [if_neg h, if_neg h]; exact Ideal.ofBits_zero_f32

theorem mixed_at (C : FVec Ideal S4x64x128x8x128 .f32) (W : FVec Ideal S8x128x128 .f32) (b : Fin 4) (n : Fin 64) (t : Fin 128) (g : Fin 8) (c : Fin 128) :
    mixed C W (ix5 b n t g c) = ∑ s : Fin 128, C (ix5 b n s g c) * W (ix3 g t s) := by
  pointwise [mixed]

theorem biased_at (M : FVec Ideal S4x64x128x8x128 .f32) (v : FVec Ideal S8x128 .f32) (b : Fin 4) (n : Fin 64) (t : Fin 128) (g : Fin 8) (c : Fin 128) :
    biased M v (ix5 b n t g c) = M (ix5 b n t g c) + v (ix2 g t) := by
  pointwise [biased]

theorem flat_at (T : FVec Ideal S4x64x128x8x128 .f32) (b : Fin 4) (n : Fin 64) (t : Fin 128) (g : Fin 8) (c : Fin 128) :
    flat T (ix3 b (tokNo n t) (chNo g c)) = T (ix5 b n t g c) := by
  unfold tokNo chNo
  pointwise [flat]

theorem out_at (U M : FVec Ideal S4x8192x1024 .f32) (w : FVec Ideal S1024x1024 .f32) (b : Fin 4) (s : Fin 8192) (d : Fin 1024) :
    out U M w (ix3 b s d) = ∑ e : Fin 1024, U (ix3 b s e) * M (ix3 b s e) * w (ix2 e d) := by
  pointwise [out]

theorem residual_at (X N : FVec Ideal S4x8192x1024 .f32) (b : Fin 4) (n : Fin 64) (t : Fin 128) (d : Fin 1024) :
    residual X N (ix2 (rowNo b n t) d) = X (ix3 b (tokNo n t) d) + N (ix3 b (tokNo n t) d) := by
  unfold rowNo tokNo
  have h : (⟨(b.val * 8192 + (n.val * 128 + t.val)) % 8192, Nat.mod_lt _ (by decide)⟩ : Fin 8192) = ⟨n.val * 128 + t.val, by omega⟩ :=
    Fin.ext (by have := n.isLt; have := t.isLt; show _ % 8192 = n.val * 128 + t.val; omega)
  pointwise [residual]
  rw [h]

/-! ## A chunk's rows and the result -/

/-- Entry `e` of the mixed gate of a chunk's row `t`, from the chunk's hidden rows `H`. -/
def mix (H : Fin 128 → Fin 2048 → EReal) (gl bl : Fin 1024 → EReal) (w : Fin 8 → Fin 128 → Fin 128 → EReal) (v : Fin 8 → Fin 128 → EReal)
    (t : Fin 128) (e : Fin 1024) : EReal :=
  causal (fun s => w ⟨e.val / 128, by omega⟩ t s) (fun s => layered (right (H s)) gl bl e) t + v ⟨e.val / 128, by omega⟩ t

/-- Entry `d` of the projected product of a chunk's row `t`. -/
def proj (H : Fin 128 → Fin 2048 → EReal) (gl bl : Fin 1024 → EReal) (w : Fin 8 → Fin 128 → Fin 128 → EReal) (v : Fin 8 → Fin 128 → EReal)
    (wo : Fin 1024 → Fin 1024 → EReal) (t : Fin 128) (d : Fin 1024) : EReal :=
  ∑ e : Fin 1024, left (H t) e * mix H gl bl w v t e * wo e d

theorem mix_group (H : Fin 128 → Fin 2048 → EReal) (gl bl : Fin 1024 → EReal) (w : Fin 8 → Fin 128 → Fin 128 → EReal) (v : Fin 8 → Fin 128 → EReal)
    (t : Fin 128) (g : Fin 8) (c : Fin 128) :
    mix H gl bl w v t (chNo g c) = causal (fun s => w g t s) (fun s => layered (right (H s)) gl bl (chNo g c)) t + v g t := by
  have h : (⟨(chNo g c).val / 128, by omega⟩ : Fin 8) = g :=
    Fin.ext (by have := c.isLt; show (g.val * 128 + c.val) / 128 = g.val; omega)
  unfold mix
  rw [h]

theorem exists_chNo (e : Fin 1024) : ∃ (g : Fin 8) (c : Fin 128), e = chNo g c :=
  ⟨⟨e.val / 128, by omega⟩, ⟨e.val % 128, by omega⟩, Fin.ext (by show e.val = e.val / 128 * 128 + e.val % 128; omega)⟩

section

variable (X : FVec Ideal S32768x1024 .f32) (g1 g2 : FVec Ideal S1024 .f32) (w : FVec Ideal S1024x2048 .f32) (v : FVec Ideal S2048 .f32)
  (gl bl : FVec Ideal S1024 .f32) (ws : FVec Ideal S8x128x128 .f32) (bs : FVec Ideal S8x128 .f32) (wo : FVec Ideal S1024x1024 .f32)

/-- The hidden layer. -/
def hidden : FVec Ideal S4x8192x2048 .f32 := bent (linear (normed (rows X) g1) w v)

/-- The layer-normalised gate. -/
def gate (Z : FVec Ideal S4x8192x2048 .f32) : FVec Ideal S4x8192x1024 .f32 := shifted (normed (centred (rightHalf Z)) gl) bl

/-- The projected product. -/
def product (Z : FVec Ideal S4x8192x2048 .f32) : FVec Ideal S4x8192x1024 .f32 :=
  out (leftHalf Z) (flat (biased (mixed (chunked (gate gl bl Z)) (masked ws)) bs)) wo

/-- The reference's result. -/
def whole : FVec Ideal S32768x1024 .f32 := residual (rows X) (normed (product gl bl ws bs wo (hidden X g1 w v)) g2)

/-- A flat row's hidden layer. -/
def hidRow (r : Fin 32768) : Fin 2048 → EReal :=
  hid (fun k => X (ix2 r k)) (fun k => g1 (ix1 k)) (fun k j => w (ix2 k j)) (fun j => v (ix1 j))

theorem hidden_at (b : Fin 4) (n : Fin 64) (t : Fin 128) (j : Fin 2048) :
    hidden X g1 w v (ix3 b (tokNo n t) j) = hidRow X g1 w v (rowNo b n t) j := by
  unfold hidden hidRow hid
  rw [bent_at, linear_at]
  simp only [normed_at, rows_at]

theorem gate_at (Z : FVec Ideal S4x8192x2048 .f32) (b : Fin 4) (s : Fin 8192) (e : Fin 1024) :
    gate gl bl Z (ix3 b s e) = layered (right (fun j => Z (ix3 b s j))) (fun k => gl (ix1 k)) (fun k => bl (ix1 k)) e := by
  unfold gate layered
  rw [shifted_at, normed_at]
  simp only [centred_at]
  have h : (fun k => rightHalf Z (ix3 b s k)) = right (fun j => Z (ix3 b s j)) := funext fun k => rightHalf_at Z b s k
  rw [h]
  rfl

theorem product_at (b : Fin 4) (n : Fin 64) (t : Fin 128) (d : Fin 1024) :
    product gl bl ws bs wo (hidden X g1 w v) (ix3 b (tokNo n t) d)
      = proj (fun s => hidRow X g1 w v (rowNo b n s)) (fun k => gl (ix1 k)) (fun k => bl (ix1 k)) (fun g t s => ws (ix3 g t s)) (fun g t => bs (ix2 g t))
        (fun e d => wo (ix2 e d)) t d := by
  unfold product proj
  rw [out_at]
  refine Finset.sum_congr rfl fun e _ => ?_
  obtain ⟨g, c, rfl⟩ := exists_chNo e
  have hz : ∀ s : Fin 128, (fun j => hidden X g1 w v (ix3 b (tokNo n s) j)) = hidRow X g1 w v (rowNo b n s) := fun s => funext fun j => hidden_at X g1 w v b n s j
  rw [leftHalf_at, flat_at, biased_at, mixed_at, mix_group, hz]
  unfold causal
  simp only [chunked_at, gate_at, masked_at, hz]
  refine congrArg (fun z : EReal => left (hidRow X g1 w v (rowNo b n t)) (chNo g c) * (z + bs (ix2 g t)) * wo (ix2 (chNo g c) d)) ?_
  exact Finset.sum_congr rfl fun s _ => mul_comm _ _

theorem whole_at (b : Fin 4) (n : Fin 64) (t : Fin 128) (d : Fin 1024) :
    whole X g1 g2 w v gl bl ws bs wo (ix2 (rowNo b n t) d) = X (ix2 (rowNo b n t) d)
      + rmsEntry (proj (fun s => hidRow X g1 w v (rowNo b n s)) (fun k => gl (ix1 k)) (fun k => bl (ix1 k)) (fun g t s => ws (ix3 g t s)) (fun g t => bs (ix2 g t))
          (fun e d => wo (ix2 e d)) t d)
        (∑ k : Fin 1024, proj (fun s => hidRow X g1 w v (rowNo b n s)) (fun k => gl (ix1 k)) (fun k => bl (ix1 k)) (fun g t s => ws (ix3 g t s)) (fun g t => bs (ix2 g t))
          (fun e d => wo (ix2 e d)) t k
          * proj (fun s => hidRow X g1 w v (rowNo b n s)) (fun k => gl (ix1 k)) (fun k => bl (ix1 k)) (fun g t s => ws (ix3 g t s)) (fun g t => bs (ix2 g t))
          (fun e d => wo (ix2 e d)) t k) (g2 (ix1 d)) := by
  unfold whole
  rw [residual_at, rows_at, normed_at]
  simp only [product_at]

end

end Cert.SguReferenceIdeal.Stages

end
-- ==== Proof.SguTile.lean ====
/-
  The spatial gating unit's kernel on one block of 512 rows: what each value of its body is at an index.
-/
module

public import proofs.«01_k».proof.Proof.SguReference
public import proofs.«01_k».proof.Proof.Gen.SguKernelIdeal.Value
public import Idealize.ShloMosaic.Lib.Pointwise
public import Idealize.ShloMosaic.Lib.Pipeline.ValueKit.Tiles

@[expose] public section

set_option maxRecDepth 16384

noncomputable section

namespace Cert.SguKernelIdeal.Tile

open Cert.SguKernelIdeal Cert.SguKernelIdeal.Gen
open Idealize.ShloMosaic Idealize.ShloMosaic.TcCoe Idealize.SL.Sem
open Cert.FfnReferenceIdeal.Stages (rmsEntry)
open Cert.SguReferenceIdeal.Stages (small bend hid left right centre layered causal chNo toInt_small proj mix_group exists_chNo)

/-- The block's row of a chunk's row. -/
def locNo (n : Fin 4) (t : Fin 128) : Fin 512 := ⟨n.val * 128 + t.val, by omega⟩

theorem exists_locNo (r : Fin 512) : ∃ (n : Fin 4) (t : Fin 128), r = locNo n t :=
  ⟨⟨r.val / 128, by omega⟩, ⟨r.val % 128, by omega⟩, Fin.ext (by show r.val = r.val / 128 * 128 + r.val % 128; omega)⟩

theorem pay2_at (x : FVec Ideal S512x1024 .f32) (g : FVec Ideal S1x1024 .f32) (w : FVec Ideal S1024x2048 .bf16) (b : FVec Ideal S1x2048 .f32)
    (r : Fin 512) (j : Fin 2048) :
    k0_pay2 (F := Ideal) x g w b (ix2 r j)
      = hid (fun k => x (ix2 r k)) (fun k => g (ix2 0 k)) (fun k j => (show EReal from w (ix2 k j))) (fun j => b (ix2 0 j)) j := by
  unfold hid rmsEntry bend
  pointwise [k0_pay2]
  simp only [mul_assoc]

theorem pay3_at (x : FVec Ideal S512x1024 .f32) (g : FVec Ideal S1x1024 .f32) (w : FVec Ideal S1024x2048 .bf16) (b : FVec Ideal S1x2048 .f32)
    (r : Fin 512) (e : Fin 1024) : k0_pay3 (F := Ideal) x g w b (ix2 r e) = left (fun j => k0_pay2 (F := Ideal) x g w b (ix2 r j)) e := by
  unfold left
  pointwise [k0_pay3]

theorem pay4_at (x : FVec Ideal S512x1024 .f32) (g : FVec Ideal S1x1024 .f32) (w : FVec Ideal S1024x2048 .bf16) (b : FVec Ideal S1x2048 .f32)
    (r : Fin 512) (e : Fin 1024) : k0_pay4 (F := Ideal) x g w b (ix2 r e) = right (fun j => k0_pay2 (F := Ideal) x g w b (ix2 r j)) e := by
  unfold right
  pointwise [k0_pay4]

theorem pay5_at (x : FVec Ideal S512x1024 .f32) (g : FVec Ideal S1x1024 .f32) (w : FVec Ideal S1024x2048 .bf16) (b : FVec Ideal S1x2048 .f32)
    (r : Fin 512) : k0_pay5 (F := Ideal) x g w b (ix2 r 0) = ∑ k : Fin 1024, k0_pay4 (F := Ideal) x g w b (ix2 r k) := by
  pointwise [k0_pay5]

theorem pay7_at (V : FVec Ideal S512x1024 .f32) (s : FVec Ideal S512x1 .f32) (g b : FVec Ideal S1x1024 .f32) (r : Fin 512) (e : Fin 1024)
    (hs : s (ix2 r 0) = ∑ k : Fin 1024, V (ix2 r k)) :
    k0_pay7 (F := Ideal) V s (k0_pay6 (F := Ideal)) g b (ix2 r e)
      = (show EReal from layered (fun k => V (ix2 r k)) (fun k => g (ix2 0 k)) (fun k => b (ix2 0 k)) e) := by
  unfold layered centre Cert.SguReferenceIdeal.Stages.count small
  pointwise [k0_pay7, k0_pay6]
  rw [hs]

/-- A comparison of column to row number, where the column is not past the row. -/
theorem upto_bit (t s : Fin 128) : IntOp.cmpi CmpIPredicate.sle (BitVec.ofNat 32 s.val) (BitVec.ofNat 32 t.val) = if s.val ≤ t.val then 1#1 else 0#1 := by
  show BitVec.ofBool (decide ((BitVec.ofNat 32 s.val).toInt ≤ (BitVec.ofNat 32 t.val).toInt)) = _
  rw [toInt_small s.val (by omega), toInt_small t.val (by omega)]
  by_cases h : s.val ≤ t.val
  · rw [if_pos h, decide_eq_true (by omega)]; rfl
  · rw [if_neg h, decide_eq_false (by omega)]; rfl

theorem pick (t s : Fin 128) (a b : EReal) :
    Scalar.select (IntOp.cmpi CmpIPredicate.sle (BitVec.ofNat 32 s.val) (BitVec.ofNat 32 t.val)) a b = if s.val ≤ t.val then a else b := by
  rw [upto_bit]
  by_cases h : s.val ≤ t.val
  · rw [if_pos h, if_pos h]; rfl
  · rw [if_neg h, if_neg h]; rfl

/-- The row numbers. -/
def rowI : IVec S128x128 32 := iota .tc S128x128 32 [0] iota_S128x128_d0_w32

/-- The column numbers. -/
def colI : IVec S128x128 32 := iota .tc S128x128 32 [1] iota_S128x128_d1_w32

/-- A chunk's causal mix, by the block's entries. -/
def mixOf (w : FVec Ideal S1x128x128 .f32) (L : FVec Ideal S512x1024 .bf16) (n : Fin 4) (t : Fin 128) (g : Fin 8) (c : Fin 128) : EReal :=
  causal (fun s => w (ix3 0 t s)) (fun s => L (ix2 (locNo n s) (chNo g c))) t

theorem pay13_at (w : FVec Ideal S1x128x128 .f32) (t s : Fin 128) :
    k0_pay13 (F := Ideal) rowI colI w (ix2 t s) = (show EReal from if s.val ≤ t.val then w (ix3 0 t s) else 0) := by
  pointwise [k0_pay13, rowI, colI, pick]

theorem pay21_at (w : FVec Ideal S1x128x128 .f32) (t s : Fin 128) :
    k0_pay21 (F := Ideal) rowI colI w (ix2 t s) = (show EReal from if s.val ≤ t.val then w (ix3 0 t s) else 0) := by
  pointwise [k0_pay21, rowI, colI, pick]

/-- Four chunks' blocks one below the other, read at a chunk's row. -/
theorem joined_of (a0 a1 a2 a3 : FVec Ideal S128x128 .f32) (F : Fin 4 → EReal) (n : Fin 4) (t c : Fin 128)
    (h0 : a0 (ix2 t c) = F 0) (h1 : a1 (ix2 t c) = F 1) (h2 : a2 (ix2 t c) = F 2) (h3 : a3 (ix2 t c) = F 3) :
    concatenate S512x128 0 [⟨S128x128, a0⟩, ⟨S128x128, a1⟩, ⟨S128x128, a2⟩, ⟨S128x128, a3⟩] concatenates_S128x128_S128x128_S128x128_S128x128_S512x128_d0
      (ix2 (locNo n t) c) = F n := by
  have e2 : (⟨256 + t.val - 128 - 128, by omega⟩ : Fin 128) = t := Fin.ext (by show 256 + t.val - 128 - 128 = t.val; omega)
  have e3 : (⟨384 + t.val - 128 - 128 - 128, by omega⟩ : Fin 128) = t := Fin.ext (by show 384 + t.val - 128 - 128 - 128 = t.val; omega)
  fin_cases n
  · refine Eq.trans ?_ h0
    pointwise [locNo]
  · refine Eq.trans ?_ h1
    pointwise [locNo]
  · refine Eq.trans ?_ h2
    pointwise [locNo]
    rw [dif_neg (by omega), dif_neg (by omega), dif_pos (by omega), e2]
  · refine Eq.trans ?_ h3
    pointwise [locNo]
    rw [dif_neg (by omega), dif_neg (by omega), dif_neg (by omega), e3]

theorem group1_at (w : FVec Ideal S1x128x128 .f32) (L : FVec Ideal S512x1024 .bf16) (n : Fin 4) (t c : Fin 128) :
    k0_pay11 (F := Ideal) L k0_pay9 (k0_pay10 w) (ix2 (locNo n t) c) = mixOf w L n t 1 c := by
  refine joined_of _ _ _ _ (fun n => mixOf w L n t 1 c) n t c ?_ ?_ ?_ ?_ <;> unfold mixOf causal <;>
    pointwise [k0_pay9, k0_pay10, locNo, chNo, pick]

theorem group2_at (w : FVec Ideal S1x128x128 .f32) (L : FVec Ideal S512x1024 .bf16) (n : Fin 4) (t c : Fin 128) :
    k0_pay12 (F := Ideal) L rowI colI w (ix2 (locNo n t) c) = mixOf w L n t 2 c := by
  refine joined_of _ _ _ _ (fun n => mixOf w L n t 2 c) n t c ?_ ?_ ?_ ?_ <;> unfold mixOf causal <;>
    pointwise [rowI, colI, locNo, chNo, pick]

theorem group3_at (w : FVec Ideal S1x128x128 .f32) (L : FVec Ideal S512x1024 .bf16) (n : Fin 4) (t c : Fin 128) :
    k0_pay18 (F := Ideal) (k0_pay13 rowI colI w) (k0_pay14 L rowI colI w) (k0_pay15 L rowI colI w) (k0_pay16 L rowI colI w) (k0_pay17 L) (ix2 (locNo n t) c) = mixOf w L n t 3 c := by
  refine joined_of _ _ _ _ (fun n => mixOf w L n t 3 c) n t c ?_ ?_ ?_ ?_ <;> unfold mixOf causal <;>
    pointwise [k0_pay13, k0_pay14, k0_pay15, k0_pay16, k0_pay17, rowI, colI, locNo, chNo, pick]

theorem group4_at (w : FVec Ideal S1x128x128 .f32) (L : FVec Ideal S512x1024 .bf16) (n : Fin 4) (t c : Fin 128) :
    k0_pay19 (F := Ideal) L rowI colI w (ix2 (locNo n t) c) = mixOf w L n t 4 c := by
  refine joined_of _ _ _ _ (fun n => mixOf w L n t 4 c) n t c ?_ ?_ ?_ ?_ <;> unfold mixOf causal <;>
    pointwise [rowI, colI, locNo, chNo, pick]

theorem group5_at (w : FVec Ideal S1x128x128 .f32) (L : FVec Ideal S512x1024 .bf16) (n : Fin 4) (t c : Fin 128) :
    k0_pay20 (F := Ideal) L rowI colI w (ix2 (locNo n t) c) = mixOf w L n t 5 c := by
  refine joined_of _ _ _ _ (fun n => mixOf w L n t 5 c) n t c ?_ ?_ ?_ ?_ <;> unfold mixOf causal <;>
    pointwise [rowI, colI, locNo, chNo, pick]

theorem group0_at (V : FVec Ideal S512x1024 .f32) (s q : FVec Ideal S512x1 .f32) (gl bl : FVec Ideal S1x1024 .f32) (w : FVec Ideal S1x128x128 .f32)
    (n : Fin 4) (t c : Fin 128) :
    k0_pay8 (F := Ideal) V s q gl bl w (ix2 (locNo n t) c) = mixOf w (k0_pay7 (F := Ideal) V s q gl bl) n t 0 c := by
  refine joined_of _ _ _ _ (fun n => mixOf w (k0_pay7 (F := Ideal) V s q gl bl) n t 0 c) n t c ?_ ?_ ?_ ?_ <;> unfold mixOf causal <;>
    generalize k0_pay7 (F := Ideal) V s q gl bl = L <;> pointwise [locNo, chNo, pick]

/-- The seventh group's columns. -/
def sixth (L : FVec Ideal S512x1024 .bf16) (W V : FVec Ideal S128x128 .bf16) : FVec Ideal S512x128 .f32 :=
  concatenate S512x128 0 [⟨S128x128, (matmul dot_S128x128_S128x128_S128x128_1_0_0_1_n_n none W V (constant S128x128 .f32 0x00000000#32))⟩,
    ⟨S128x128, (matmul dot_S128x128_S128x128_S128x128_1_0_0_1_n_n none W (extractStridedSlice S128x128 ![128, 768] L slices_S512x1024_o128_768_S128x128) (constant S128x128 .f32 0x00000000#32))⟩,
    ⟨S128x128, (matmul dot_S128x128_S128x128_S128x128_1_0_0_1_n_n none W (extractStridedSlice S128x128 ![256, 768] L slices_S512x1024_o256_768_S128x128) (constant S128x128 .f32 0x00000000#32))⟩,
    ⟨S128x128, (matmul dot_S128x128_S128x128_S128x128_1_0_0_1_n_n none W (extractStridedSlice S128x128 ![384, 768] L slices_S512x1024_o384_768_S128x128) (constant S128x128 .f32 0x00000000#32))⟩] concatenates_S128x128_S128x128_S128x128_S128x128_S512x128_d0

theorem group6_at (w : FVec Ideal S1x128x128 .f32) (L : FVec Ideal S512x1024 .bf16) (n : Fin 4) (t c : Fin 128) :
    sixth L (k0_pay21 rowI colI w) (k0_pay22 L) (ix2 (locNo n t) c) = mixOf w L n t 6 c := by
  refine joined_of _ _ _ _ (fun n => mixOf w L n t 6 c) n t c ?_ ?_ ?_ ?_ <;> unfold mixOf causal <;>
    pointwise [k0_pay21, k0_pay22, rowI, colI, locNo, chNo, pick]

/-- The eighth group's columns. -/
def seventh (L : FVec Ideal S512x1024 .bf16) (r k : IVec S128x128 32) (w : FVec Ideal S1x128x128 .f32) : FVec Ideal S512x128 .f32 :=
  have W : FVec Ideal S128x128 .bf16 := truncf .bf16 (select (cmpi .sle k r) (shapeCast S128x128 w shapeCasts_S1x128x128_S128x128)
    (broadcast S128x128 (Scalar.ofBits .f32 0x00000000#32 : Ideal .f32))) bitsLt_bf16_f32
  concatenate S512x128 0 [⟨S128x128, (matmul dot_S128x128_S128x128_S128x128_1_0_0_1_n_n none W (extractStridedSlice S128x128 ![0, 896] L slices_S512x1024_o0_896_S128x128) (constant S128x128 .f32 0x00000000#32))⟩,
    ⟨S128x128, (matmul dot_S128x128_S128x128_S128x128_1_0_0_1_n_n none W (extractStridedSlice S128x128 ![128, 896] L slices_S512x1024_o128_896_S128x128) (constant S128x128 .f32 0x00000000#32))⟩,
    ⟨S128x128, (matmul dot_S128x128_S128x128_S128x128_1_0_0_1_n_n none W (extractStridedSlice S128x128 ![256, 896] L slices_S512x1024_o256_896_S128x128) (constant S128x128 .f32 0x00000000#32))⟩,
    ⟨S128x128, (matmul dot_S128x128_S128x128_S128x128_1_0_0_1_n_n none W (extractStridedSlice S128x128 ![384, 896] L slices_S512x1024_o384_896_S128x128) (constant S128x128 .f32 0x00000000#32))⟩] concatenates_S128x128_S128x128_S128x128_S128x128_S512x128_d0

theorem group7_at (w : FVec Ideal S1x128x128 .f32) (L : FVec Ideal S512x1024 .bf16) (n : Fin 4) (t c : Fin 128) :
    seventh L rowI colI w (ix2 (locNo n t) c) = mixOf w L n t 7 c := by
  refine joined_of _ _ _ _ (fun n => mixOf w L n t 7 c) n t c ?_ ?_ ?_ ?_ <;> unfold mixOf causal <;>
    pointwise [rowI, colI, locNo, chNo, pick]

/-- The eight groups' columns side by side. -/
def beside (a0 a1 a2 a3 a4 a5 a6 a7 : FVec Ideal S512x128 .f32) : FVec Ideal S512x1024 .f32 :=
  concatenate S512x1024 1 [⟨S512x128, a0⟩, ⟨S512x128, a1⟩, ⟨S512x128, a2⟩, ⟨S512x128, a3⟩, ⟨S512x128, a4⟩, ⟨S512x128, a5⟩, ⟨S512x128, a6⟩, ⟨S512x128, a7⟩]
    concatenates_S512x128_S512x128_S512x128_S512x128_S512x128_S512x128_S512x128_S512x128_S512x1024_d1

theorem beside_of (a0 a1 a2 a3 a4 a5 a6 a7 : FVec Ideal S512x128 .f32) (F : Fin 8 → EReal) (g : Fin 8) (r : Fin 512) (c : Fin 128)
    (h0 : a0 (ix2 r c) = F 0) (h1 : a1 (ix2 r c) = F 1) (h2 : a2 (ix2 r c) = F 2) (h3 : a3 (ix2 r c) = F 3)
    (h4 : a4 (ix2 r c) = F 4) (h5 : a5 (ix2 r c) = F 5) (h6 : a6 (ix2 r c) = F 6) (h7 : a7 (ix2 r c) = F 7) :
    beside a0 a1 a2 a3 a4 a5 a6 a7 (ix2 r (chNo g c)) = F g := by
  have e2 : (⟨256 + c.val - 128 - 128, by omega⟩ : Fin 128) = c := Fin.ext (by show 256 + c.val - 128 - 128 = c.val; omega)
  have e3 : (⟨384 + c.val - 128 - 128 - 128, by omega⟩ : Fin 128) = c := Fin.ext (by show 384 + c.val - 128 - 128 - 128 = c.val; omega)
  have e4 : (⟨512 + c.val - 128 - 128 - 128 - 128, by omega⟩ : Fin 128) = c := Fin.ext (by show 512 + c.val - 128 - 128 - 128 - 128 = c.val; omega)
  have e5 : (⟨640 + c.val - 128 - 128 - 128 - 128 - 128, by omega⟩ : Fin 128) = c := Fin.ext (by show 640 + c.val - 128 - 128 - 128 - 128 - 128 = c.val; omega)
  have e6 : (⟨768 + c.val - 128 - 128 - 128 - 128 - 128 - 128, by omega⟩ : Fin 128) = c := Fin.ext (by show 768 + c.val - 128 - 128 - 128 - 128 - 128 - 128 = c.val; omega)
  have e7 : (⟨896 + c.val - 128 - 128 - 128 - 128 - 128 - 128 - 128, by omega⟩ : Fin 128) = c := Fin.ext (by show 896 + c.val - 128 - 128 - 128 - 128 - 128 - 128 - 128 = c.val; omega)
  fin_cases g
  · refine Eq.trans ?_ h0
    pointwise [beside, chNo]
  · refine Eq.trans ?_ h1
    pointwise [beside, chNo]
  · refine Eq.trans ?_ h2
    pointwise [beside, chNo]
    rw [dif_neg (by omega), dif_neg (by omega), dif_pos (by omega), e2]
  · refine Eq.trans ?_ h3
    pointwise [beside, chNo]
    rw [dif_neg (by omega), dif_neg (by omega), dif_neg (by omega), dif_pos (by omega), e3]
  · refine Eq.trans ?_ h4
    pointwise [beside, chNo]
    rw [dif_neg (by omega), dif_neg (by omega), dif_neg (by omega), dif_neg (by omega), dif_pos (by omega), e4]
  · refine Eq.trans ?_ h5
    pointwise [beside, chNo]
    rw [dif_neg (by omega), dif_neg (by omega), dif_neg (by omega), dif_neg (by omega), dif_neg (by omega), dif_pos (by omega), e5]
  · refine Eq.trans ?_ h6
    pointwise [beside, chNo]
    rw [dif_neg (by omega), dif_neg (by omega), dif_neg (by omega), dif_neg (by omega), dif_neg (by omega), dif_neg (by omega), dif_pos (by omega), e6]
  · refine Eq.trans ?_ h7
    pointwise [beside, chNo]
    rw [dif_neg (by omega), dif_neg (by omega), dif_neg (by omega), dif_neg (by omega), dif_neg (by omega), dif_neg (by omega), dif_neg (by omega), e7]

/-- The kernel's projected product, by its columns. -/
theorem pay23_eq (U : FVec Ideal S512x1024 .f32) (L : FVec Ideal S512x1024 .bf16) (r k : IVec S128x128 32) (v79 v94 v109 v124 v139 v154 : FVec Ideal S512x128 .f32)
    (W V : FVec Ideal S128x128 .bf16) (w : FVec Ideal S1x128x128 .f32) (B : FVec Ideal S512x1024 .f32) (O : FVec Ideal S1024x1024 .bf16) :
    k0_pay23 (F := Ideal) U L r k v79 v94 v109 v124 v139 v154 W V w B O
      = matmul dot_S512x1024_S1024x1024_S512x1024_1_0_0_1_n_n none
          (truncf .bf16 (mulf U (addf (beside v79 v94 v109 v124 v139 v154 (sixth L W V) (seventh L r k w)) (shapeCast S512x1024 B shapeCasts_S512x1024_S512x1024))) bitsLt_bf16_f32)
          (shapeCast S1024x1024 O shapeCasts_S1024x1024_S1024x1024) (constant S512x1024 .f32 0x00000000#32) := rfl

theorem pay23_at (U : FVec Ideal S512x1024 .f32) (L : FVec Ideal S512x1024 .bf16) (r k : IVec S128x128 32) (v79 v94 v109 v124 v139 v154 : FVec Ideal S512x128 .f32)
    (W V : FVec Ideal S128x128 .bf16) (w : FVec Ideal S1x128x128 .f32) (B : FVec Ideal S512x1024 .f32) (O : FVec Ideal S1024x1024 .bf16) (i : Fin 512) (d : Fin 1024) :
    k0_pay23 (F := Ideal) U L r k v79 v94 v109 v124 v139 v154 W V w B O (ix2 i d)
      = ∑ e : Fin 1024, U (ix2 i e) * (beside v79 v94 v109 v124 v139 v154 (sixth L W V) (seventh L r k w) (ix2 i e) + B (ix2 i e)) * (show EReal from O (ix2 e d)) := by
  rw [pay23_eq]
  generalize beside v79 v94 v109 v124 v139 v154 (sixth L W V) (seventh L r k w) = M
  pointwise []

theorem pay25_at (U : FVec Ideal S512x1024 .f32) (L : FVec Ideal S512x1024 .bf16) (r k : IVec S128x128 32) (v79 v94 v109 v124 v139 v154 : FVec Ideal S512x128 .f32)
    (W V : FVec Ideal S128x128 .bf16) (w : FVec Ideal S1x128x128 .f32) (B : FVec Ideal S512x1024 .f32) (O : FVec Ideal S1024x1024 .bf16) (i : Fin 512) :
    k0_pay25 (F := Ideal) U L r k v79 v94 v109 v124 v139 v154 W V w B O (ix2 i 0)
      = Ideal.div (∑ d : Fin 1024, k0_pay23 (F := Ideal) U L r k v79 v94 v109 v124 v139 v154 W V w B O (ix2 i d) * k0_pay23 (F := Ideal) U L r k v79 v94 v109 v124 v139 v154 W V w B O (ix2 i d))
          Cert.SguReferenceIdeal.Stages.count := by
  unfold Cert.SguReferenceIdeal.Stages.count k0_pay25
  generalize k0_pay23 (F := Ideal) U L r k v79 v94 v109 v124 v139 v154 W V w B O = Y
  pointwise []

theorem pay1_at (x Y : FVec Ideal S512x1024 .f32) (g : FVec Ideal S1x1024 .f32) (q : FVec Ideal S512x1 .f32) (i : Fin 512) (d : Fin 1024)
    (hq : q (ix2 i 0) = Ideal.div (∑ d : Fin 1024, Y (ix2 i d) * Y (ix2 i d)) Cert.SguReferenceIdeal.Stages.count) :
    k0_pay1 (F := Ideal) x Y (k0_pay24 g) q (ix2 i d) = x (ix2 i d) + rmsEntry (Y (ix2 i d)) (∑ d : Fin 1024, Y (ix2 i d) * Y (ix2 i d)) (g (ix2 0 d)) := by
  unfold rmsEntry
  pointwise [k0_pay1, k0_pay24]
  rw [hq]
  rfl

/-- One group's weights, read off the stack of eight. -/
theorem slab_at (W : Vec Ideal S8x128x128 .f32) (g : Fin 8) (off : Fin 3 → ℕ) (h : off = ![g.val, 0, 0])
    (inb : ∀ a, off a + S1x128x128.size a ≤ S8x128x128.size a) (t s : Fin 128) :
    View.ld W (Rect.unit (s := S8x128x128) off S1x128x128.size inb) (ix3 (0 : Fin 1) t s : S1x128x128.Idx) = W (ix3 g t s) := by
  subst h
  refine View.ld_unit_apply_of W _ _ inb _ (ix3 g t s) fun a => ?_
  fin_cases a
  · show g.val = g.val + 0; omega
  · show t.val = 0 + t.val; omega
  · show s.val = 0 + s.val; omega

section

variable (x : FVec Ideal S512x1024 .f32) (g1 : FVec Ideal S1x1024 .f32) (wu : FVec Ideal S1024x2048 .bf16) (bu : FVec Ideal S1x2048 .f32)
  (gl bl : FVec Ideal S1x1024 .f32) (w0 w1 w2 w3 w4 w5 w6 w7 : FVec Ideal S1x128x128 .f32) (B : FVec Ideal S512x1024 .f32) (O : FVec Ideal S1024x1024 .bf16)

/-- The block's layer-normalised gate. -/
def gateOf : FVec Ideal S512x1024 .bf16 :=
  k0_pay7 (F := Ideal) (k0_pay4 x g1 wu bu) (k0_pay5 x g1 wu bu) (k0_pay6 (F := Ideal)) gl bl

/-- The block's mixed gate before its bias. -/
def mixedOf : FVec Ideal S512x1024 .f32 :=
  beside (k0_pay8 (F := Ideal) (k0_pay4 x g1 wu bu) (k0_pay5 x g1 wu bu) (k0_pay6 (F := Ideal)) gl bl w0)
    (k0_pay11 (gateOf x g1 wu bu gl bl) k0_pay9 (k0_pay10 w1))
    (k0_pay12 (gateOf x g1 wu bu gl bl) rowI colI w2)
    (k0_pay18 (k0_pay13 rowI colI w3) (k0_pay14 (gateOf x g1 wu bu gl bl) rowI colI w3) (k0_pay15 (gateOf x g1 wu bu gl bl) rowI colI w3)
      (k0_pay16 (gateOf x g1 wu bu gl bl) rowI colI w3) (k0_pay17 (gateOf x g1 wu bu gl bl)))
    (k0_pay19 (gateOf x g1 wu bu gl bl) rowI colI w4)
    (k0_pay20 (gateOf x g1 wu bu gl bl) rowI colI w5)
    (sixth (gateOf x g1 wu bu gl bl) (k0_pay21 rowI colI w6) (k0_pay22 (gateOf x g1 wu bu gl bl)))
    (seventh (gateOf x g1 wu bu gl bl) rowI colI w7)

/-- A block row's hidden layer. -/
def hidOf (r : Fin 512) : Fin 2048 → EReal :=
  hid (fun k => x (ix2 r k)) (fun k => g1 (ix2 0 k)) (fun k j => (show EReal from wu (ix2 k j))) (fun j => bu (ix2 0 j))

theorem pay2_row (r : Fin 512) : (fun j => k0_pay2 (F := Ideal) x g1 wu bu (ix2 r j)) = hidOf x g1 wu bu r :=
  funext fun j => pay2_at x g1 wu bu r j

theorem gateOf_at (r : Fin 512) (e : Fin 1024) :
    gateOf x g1 wu bu gl bl (ix2 r e)
      = (show EReal from layered (right (hidOf x g1 wu bu r)) (fun k => gl (ix2 0 k)) (fun k => bl (ix2 0 k)) e) := by
  unfold gateOf
  rw [pay7_at _ _ _ _ r e (pay5_at x g1 wu bu r)]
  have h : (fun k => k0_pay4 (F := Ideal) x g1 wu bu (ix2 r k)) = right (hidOf x g1 wu bu r) :=
    funext fun k => by rw [pay4_at, pay2_row]
  rw [h]

theorem mixedOf_at (W : Fin 8 → Fin 128 → Fin 128 → EReal)
    (h0 : ∀ t s : Fin 128, w0 (ix3 0 t s) = W 0 t s)
    (h1 : ∀ t s : Fin 128, w1 (ix3 0 t s) = W 1 t s)
    (h2 : ∀ t s : Fin 128, w2 (ix3 0 t s) = W 2 t s)
    (h3 : ∀ t s : Fin 128, w3 (ix3 0 t s) = W 3 t s)
    (h4 : ∀ t s : Fin 128, w4 (ix3 0 t s) = W 4 t s)
    (h5 : ∀ t s : Fin 128, w5 (ix3 0 t s) = W 5 t s)
    (h6 : ∀ t s : Fin 128, w6 (ix3 0 t s) = W 6 t s)
    (h7 : ∀ t s : Fin 128, w7 (ix3 0 t s) = W 7 t s)
    (n : Fin 4) (t : Fin 128) (g : Fin 8) (c : Fin 128) :
    mixedOf x g1 wu bu gl bl w0 w1 w2 w3 w4 w5 w6 w7 (ix2 (locNo n t) (chNo g c))
      = causal (fun s => W g t s)
        (fun s => layered (right (hidOf x g1 wu bu (locNo n s))) (fun k => gl (ix2 0 k)) (fun k => bl (ix2 0 k)) (chNo g c)) t := by
  have e : ∀ (q : Fin 8) (w : FVec Ideal S1x128x128 .f32), (∀ t s : Fin 128, w (ix3 0 t s) = W q t s) →
      mixOf w (gateOf x g1 wu bu gl bl) n t q c = causal (fun s => W q t s)
        (fun s => layered (right (hidOf x g1 wu bu (locNo n s))) (fun k => gl (ix2 0 k)) (fun k => bl (ix2 0 k)) (chNo q c)) t := by
    intro q w h
    unfold mixOf
    simp only [h, gateOf_at]
  exact beside_of _ _ _ _ _ _ _ _ (fun g => causal (fun s => W g t s)
      (fun s => layered (right (hidOf x g1 wu bu (locNo n s))) (fun k => gl (ix2 0 k)) (fun k => bl (ix2 0 k)) (chNo g c)) t) g (locNo n t) c
    ((group0_at _ _ _ _ _ _ n t c).trans (e 0 w0 h0)) ((group1_at _ _ n t c).trans (e 1 w1 h1)) ((group2_at _ _ n t c).trans (e 2 w2 h2))
    ((group3_at _ _ n t c).trans (e 3 w3 h3)) ((group4_at _ _ n t c).trans (e 4 w4 h4)) ((group5_at _ _ n t c).trans (e 5 w5 h5))
    ((group6_at _ _ n t c).trans (e 6 w6 h6)) ((group7_at _ _ n t c).trans (e 7 w7 h7))

/-- The block's projected product. -/
def productOf : FVec Ideal S512x1024 .f32 :=
  k0_pay23 (F := Ideal) (k0_pay3 x g1 wu bu) (gateOf x g1 wu bu gl bl) rowI colI
    (k0_pay8 (F := Ideal) (k0_pay4 x g1 wu bu) (k0_pay5 x g1 wu bu) (k0_pay6 (F := Ideal)) gl bl w0)
    (k0_pay11 (gateOf x g1 wu bu gl bl) k0_pay9 (k0_pay10 w1))
    (k0_pay12 (gateOf x g1 wu bu gl bl) rowI colI w2)
    (k0_pay18 (k0_pay13 rowI colI w3) (k0_pay14 (gateOf x g1 wu bu gl bl) rowI colI w3) (k0_pay15 (gateOf x g1 wu bu gl bl) rowI colI w3)
      (k0_pay16 (gateOf x g1 wu bu gl bl) rowI colI w3) (k0_pay17 (gateOf x g1 wu bu gl bl)))
    (k0_pay19 (gateOf x g1 wu bu gl bl) rowI colI w4)
    (k0_pay20 (gateOf x g1 wu bu gl bl) rowI colI w5)
    (k0_pay21 rowI colI w6) (k0_pay22 (gateOf x g1 wu bu gl bl)) w7 B O

theorem productOf_at (W : Fin 8 → Fin 128 → Fin 128 → EReal) (v : Fin 8 → Fin 128 → EReal)
    (h0 : ∀ t s : Fin 128, w0 (ix3 0 t s) = W 0 t s)
    (h1 : ∀ t s : Fin 128, w1 (ix3 0 t s) = W 1 t s)
    (h2 : ∀ t s : Fin 128, w2 (ix3 0 t s) = W 2 t s)
    (h3 : ∀ t s : Fin 128, w3 (ix3 0 t s) = W 3 t s)
    (h4 : ∀ t s : Fin 128, w4 (ix3 0 t s) = W 4 t s)
    (h5 : ∀ t s : Fin 128, w5 (ix3 0 t s) = W 5 t s)
    (h6 : ∀ t s : Fin 128, w6 (ix3 0 t s) = W 6 t s)
    (h7 : ∀ t s : Fin 128, w7 (ix3 0 t s) = W 7 t s)
    (hB : ∀ (n : Fin 4) (t : Fin 128) (g : Fin 8) (c : Fin 128), B (ix2 (locNo n t) (chNo g c)) = v g t)
    (n : Fin 4) (t : Fin 128) (d : Fin 1024) :
    productOf x g1 wu bu gl bl w0 w1 w2 w3 w4 w5 w6 w7 B O (ix2 (locNo n t) d)
      = proj (fun s => hidOf x g1 wu bu (locNo n s)) (fun k => gl (ix2 0 k)) (fun k => bl (ix2 0 k)) W v (fun e d => (show EReal from O (ix2 e d))) t d := by
  unfold proj
  refine (pay23_at _ _ _ _ _ _ _ _ _ _ _ _ _ _ _ (locNo n t) d).trans ?_
  refine Finset.sum_congr rfl fun e _ => ?_
  obtain ⟨g, c, rfl⟩ := exists_chNo e
  rw [pay3_at, pay2_row, hB, mix_group]
  refine congrArg (fun z : EReal => left (hidOf x g1 wu bu (locNo n t)) (chNo g c) * (z + v g t) * (show EReal from O (ix2 (chNo g c) d))) ?_
  exact mixedOf_at x g1 wu bu gl bl w0 w1 w2 w3 w4 w5 w6 w7 W h0 h1 h2 h3 h4 h5 h6 h7 n t g c

end

end Cert.SguKernelIdeal.Tile

end
-- ==== Proof.SguValue.lean ====
/-
  The spatial gating unit's call: what its result array ends holding.
-/
module

public import proofs.«01_k».proof.Proof.SguTile
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.SguKernelIdeal.Result

open Cert.SguKernelIdeal Cert.SguKernelIdeal.Gen Cert.SguKernelIdeal.Tile
open Idealize.ShloMosaic Idealize.ShloMosaic.TcCoe Idealize.SL.Sem
open Cert.FfnReferenceIdeal.Stages (rmsEntry)
open Cert.SguReferenceIdeal.Stages (chNo rowNo proj hidRow whole whole_at)

variable (m : (ℓ : Loc nD τ sig) → Buf (Elt Ideal) ℓ) (c : Dev nD)

theorem zeros : (![0, 0] : Fin 2 → Nat) = fun _ => 0 := funext fun a => by fin_cases a <;> rfl

theorem blocks_at : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0, 0] ∧ win0_8.index t = ![0, 0] ∧ win0_9.index t = ![0, 0]
    ∧ win0_10.index t = ![t.val, 0] :=
  (by decide +kernel : ∀ t : Fin grid0.N, _)

theorem points (t : Fin cfg0.N) : t.val < 64 := lt_of_lt_of_eq t.isLt (show cfg0.N = 64 from N_0)

/-- The row of the array that row `r` of a point's block is. -/
def rowOf (t : Fin cfg0.N) (r : Fin 512) : Fin 32768 := ⟨t.val * 512 + r.val, by have := points t; omega⟩

/-- The sequence a point's block is of. -/
def seqOf (t : Fin cfg0.N) : Fin 4 := ⟨t.val / 16, by have := points t; omega⟩

/-- The sequence's chunk that a block's chunk is. -/
def chunkOf (t : Fin cfg0.N) (n : Fin 4) : Fin 64 := ⟨t.val % 16 * 4 + n.val, by omega⟩

theorem rowOf_locNo (t : Fin cfg0.N) (n : Fin 4) (s : Fin 128) : rowOf t (locNo n s) = rowNo (seqOf t) (chunkOf t n) s :=
  Fin.ext (by show t.val * 512 + (n.val * 128 + s.val) = t.val / 16 * 8192 + ((t.val % 16 * 4 + n.val) * 128 + s.val); omega)

def argX : FVec Ideal S32768x1024 .f32 := m ((c : Thread nD τ).loc main_arg0)
def argPre : FVec Ideal S1024 .f32 := m ((c : Thread nD τ).loc main_arg1)
def argPost : FVec Ideal S1024 .f32 := m ((c : Thread nD τ).loc main_arg2)
def argU : FVec Ideal S1024x2048 .f32 := m ((c : Thread nD τ).loc main_arg3)
def argV : FVec Ideal S2048 .f32 := m ((c : Thread nD τ).loc main_arg4)
def argGl : FVec Ideal S1024 .f32 := m ((c : Thread nD τ).loc main_arg5)
def argBl : FVec Ideal S1024 .f32 := m ((c : Thread nD τ).loc main_arg6)
def argWs : FVec Ideal S8x128x128 .f32 := m ((c : Thread nD τ).loc main_arg7)
def argBs : FVec Ideal S8x128 .f32 := m ((c : Thread nD τ).loc main_arg8)
def argO : FVec Ideal S1024x1024 .f32 := m ((c : Thread nD τ).loc main_arg9)

theorem x_at (t : Fin cfg0.N) (r : Fin 512) (d : Fin 1024) :
    (iblk m c 0 t : FVec Ideal S512x1024 .f32) (ix2 r d) = argX m c (ix2 (rowOf t r) d) := by
  unfold argX rowOf
  blk_ext [iblk, V, blocks_at t]
theorem pre_at (t : Fin cfg0.N) (d : Fin 1024) : (iblk m c 1 t : FVec Ideal S1x1024 .f32) (ix2 0 d) = argPre m c (ix1 d) := by
  unfold argPre
  blk_ext! [iblk, V, blocks_at t]
theorem post_at (t : Fin cfg0.N) (d : Fin 1024) : (iblk m c 2 t : FVec Ideal S1x1024 .f32) (ix2 0 d) = argPost m c (ix1 d) := by
  unfold argPost
  blk_ext! [iblk, V, blocks_at t]
theorem u_at (t : Fin cfg0.N) (k : Fin 1024) (j : Fin 2048) :
    (iblk m c 3 t : FVec Ideal S1024x2048 .bf16) (ix2 k j) = argU m c (ix2 k j) := by
  unfold argU
  blk_ext! [iblk, V, blocks_at t]
theorem v_at (t : Fin cfg0.N) (d : Fin 2048) : (iblk m c 4 t : FVec Ideal S1x2048 .f32) (ix2 0 d) = argV m c (ix1 d) := by
  unfold argV
  blk_ext! [iblk, V, blocks_at t]
theorem gl_at (t : Fin cfg0.N) (d : Fin 1024) : (iblk m c 5 t : FVec Ideal S1x1024 .f32) (ix2 0 d) = argGl m c (ix1 d) := by
  unfold argGl
  blk_ext! [iblk, V, blocks_at t]
theorem bl_at (t : Fin cfg0.N) (d : Fin 1024) : (iblk m c 6 t : FVec Ideal S1x1024 .f32) (ix2 0 d) = argBl m c (ix1 d) := by
  unfold argBl
  blk_ext! [iblk, V, blocks_at t]
theorem ws_at (t : Fin cfg0.N) (g : Fin 8) (s k : Fin 128) :
    (iblk m c 7 t : FVec Ideal S8x128x128 .f32) (ix3 g s k) = argWs m c (ix3 g s k) := by
  unfold argWs
  blk_ext [iblk, V, blocks_at t]
theorem o_at (t : Fin cfg0.N) (e d : Fin 1024) :
    (iblk m c 9 t : FVec Ideal S1024x1024 .bf16) (ix2 e d) = argO m c (ix2 e d) := by
  unfold argO
  blk_ext! [iblk, V, blocks_at t]
theorem bs_at (t : Fin cfg0.N) (n : Fin 4) (s : Fin 128) (g : Fin 8) (k : Fin 128) :
    (iblk m c 8 t : FVec Ideal S512x1024 .f32) (ix2 (locNo n s) (chNo g k)) = argBs m c (ix2 g s) := by
  unfold argBs locNo chNo
  blk_ext! [iblk, V, blocks_at t]

/-- The projected product of a point's block. -/
def productAt (t : Fin cfg0.N) : FVec Ideal S512x1024 .f32 :=
  productOf (iblk m c 0 t) (iblk m c 1 t) (iblk m c 3 t) (iblk m c 4 t) (iblk m c 5 t) (iblk m c 6 t)
    (View.ld (iblk m c 7 t) r0_4) (View.ld (iblk m c 7 t) r0_5) (View.ld (iblk m c 7 t) r0_6) (View.ld (iblk m c 7 t) r0_7) (View.ld (iblk m c 7 t) r0_8) (View.ld (iblk m c 7 t) r0_9) (View.ld (iblk m c 7 t) r0_10) (View.ld (iblk m c 7 t) r0_11)
    (iblk m c 8 t) (iblk m c 9 t)

theorem hidOf_row (t : Fin cfg0.N) (r : Fin 512) :
    hidOf (iblk m c 0 t) (iblk m c 1 t) (iblk m c 3 t) (iblk m c 4 t) r = hidRow (argX m c) (argPre m c) (argU m c) (argV m c) (rowOf t r) := by
  unfold hidOf hidRow
  simp only [x_at, pre_at, u_at, v_at]

/-- The reference's projected product at a point's chunk's row. -/
def projAt (t : Fin cfg0.N) (n : Fin 4) (s : Fin 128) (d : Fin 1024) : EReal :=
  proj (fun s => hidRow (argX m c) (argPre m c) (argU m c) (argV m c) (rowNo (seqOf t) (chunkOf t n) s)) (fun k => argGl m c (ix1 k))
    (fun k => argBl m c (ix1 k)) (fun g t s => argWs m c (ix3 g t s)) (fun g t => argBs m c (ix2 g t)) (fun e d => argO m c (ix2 e d)) s d

theorem productAt_at (t : Fin cfg0.N) (n : Fin 4) (s : Fin 128) (d : Fin 1024) : productAt m c t (ix2 (locNo n s) d) = projAt m c t n s d := by
  have h := productOf_at (iblk m c 0 t) (iblk m c 1 t) (iblk m c 3 t) (iblk m c 4 t) (iblk m c 5 t) (iblk m c 6 t)
    (View.ld (iblk m c 7 t) r0_4) (View.ld (iblk m c 7 t) r0_5) (View.ld (iblk m c 7 t) r0_6) (View.ld (iblk m c 7 t) r0_7) (View.ld (iblk m c 7 t) r0_8) (View.ld (iblk m c 7 t) r0_9) (View.ld (iblk m c 7 t) r0_10) (View.ld (iblk m c 7 t) r0_11)
    (iblk m c 8 t) (iblk m c 9 t) (fun g t s => argWs m c (ix3 g t s)) (fun g t => argBs m c (ix2 g t))
    (fun a b => (slab_at (iblk m c 7 t) 0 _ rfl _ a b).trans (ws_at m c t 0 a b))
    (fun a b => (slab_at (iblk m c 7 t) 1 _ rfl _ a b).trans (ws_at m c t 1 a b))
    (fun a b => (slab_at (iblk m c 7 t) 2 _ rfl _ a b).trans (ws_at m c t 2 a b))
    (fun a b => (slab_at (iblk m c 7 t) 3 _ rfl _ a b).trans (ws_at m c t 3 a b))
    (fun a b => (slab_at (iblk m c 7 t) 4 _ rfl _ a b).trans (ws_at m c t 4 a b))
    (fun a b => (slab_at (iblk m c 7 t) 5 _ rfl _ a b).trans (ws_at m c t 5 a b))
    (fun a b => (slab_at (iblk m c 7 t) 6 _ rfl _ a b).trans (ws_at m c t 6 a b))
    (fun a b => (slab_at (iblk m c 7 t) 7 _ rfl _ a b).trans (ws_at m c t 7 a b))
    (bs_at m c t) n s d
  refine h.trans ?_
  unfold projAt
  simp only [hidOf_row, rowOf_locNo, gl_at, bl_at, o_at]

/-- What the result array ends holding. -/
theorem result : (dats m 0 c).arrAt 10 cfg0.N
    = whole (argX m c) (argPre m c) (argPost m c) (argU m c) (argV m c) (argGl m c) (argBl m c) (argWs m c) (argBs m c) (argO m c) := by
  refine (dats m 0 c).arrAt_eq_of_covers 10 _ (by decide +kernel) fun t hf y => ?_
  blk_simp
  rw [after0_10]
  unfold_out out0_10
  rw [View.canon_unit_zero (S := S512x1024) zeros]
  simp only [View.ld_unit_zero (S := S512x1024) zeros, View.ld_unit_zero (S := S1x1024) zeros, View.ld_unit_zero (S := S1024x2048) zeros,
    View.ld_unit_zero (S := S1x2048) zeros, View.ld_unit_zero (S := S1024x1024) zeros]
  obtain ⟨r, d, rfl⟩ : ∃ (r : Fin 512) (d : Fin 1024), y = ix2 r d := ⟨y 0, y 1, eq_ix2 y⟩
  have place : ((cfg0.win 10).blk t).view.emb (ix2 r d) = (ix2 (rowOf t r) d : S32768x1024.Idx) := by
    unfold rowOf
    blk_ext [blocks_at t]
  refine Eq.trans ?_ (congrArg (whole (argX m c) (argPre m c) (argPost m c) (argU m c) (argV m c) (argGl m c) (argBl m c) (argWs m c) (argBs m c)
    (argO m c)) place.symm)
  obtain ⟨n, s, rfl⟩ := exists_locNo r
  rw [rowOf_locNo, whole_at]
  refine (pay1_at (iblk m c 0 t) (productAt m c t) (iblk m c 2 t) _ (locNo n s) d (pay25_at _ _ _ _ _ _ _ _ _ _ _ _ _ _ _ (locNo n s))).trans ?_
  rw [x_at, post_at, rowOf_locNo]
  simp only [productAt_at]
  rfl

end Cert.SguKernelIdeal.Result

end
-- ==== Proof.TailGate.lean ====
/-
  The joined tail: its first call (the spatial gating unit), entered at any buffer contents `V`.
-/
module

public import proofs.«01_k».proof.Proof.Gen.TailKernelIdeal.Launch
public import proofs.«01_k».proof.Proof.Gen.TailKernelIdeal.Skeleton
public import proofs.«01_k».proof.Proof.Gen.TailKernelIdeal.Points
public import proofs.«01_k».proof.Proof.Gen.SguKernelIdeal.Frame
public import Idealize.ShloMosaic.Lib.Pipeline.FrameBody
public import Idealize.ShloMosaic.Lib.Tactic

@[expose] public section

set_option maxRecDepth 16384

noncomputable section

namespace Cert.TailKernelIdeal.Joined

open Cert.TailKernelIdeal Cert.TailKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0

/-- What the body leaves in the output's buffer: what the gating unit's call on its own leaves there. -/
abbrev out0_10 (x0 : Vec F S512x1024 .f32) (x1 x2 : Vec F S1x1024 .f32) (x3 : Vec F S1024x2048 .bf16) (x4 : Vec F S1x2048 .f32)
    (x5 x6 : Vec F S1x1024 .f32) (x7 : Vec F S8x128x128 .f32) (x8 : Vec F S512x1024 .f32) (x9 : Vec F S1024x1024 .bf16) : Vec F S512x1024 .f32 :=
  Cert.SguKernelIdeal.Gen.out0_10 x0 x1 x2 x3 x4 x5 x6 x7 x8 x9

theorem cover0_10 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
theorem sound_kernel0 (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x128x128 .f32) (harg8 : arg8.IsWhole) (arg9 : Memref sig .tc .vmem S512x1024 .f32) (harg9 : arg9.IsWhole) (arg10 : Memref sig .tc .vmem S1024x1024 .bf16) (harg10 : arg10.IsWhole) (arg11 : Memref sig .tc .vmem S512x1024 .f32) (harg11 : arg11.IsWhole)
    (x0 : Vec F S512x1024 .f32) (x1 : Vec F S1x1024 .f32) (x2 : Vec F S1x1024 .f32) (x3 : Vec F S1024x2048 .bf16) (x4 : Vec F S1x2048 .f32) (x5 : Vec F S1x1024 .f32) (x6 : Vec F S1x1024 .f32) (x7 : Vec F S8x128x128 .f32) (x8 : Vec F S512x1024 .f32) (x9 : Vec F S1024x1024 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0_sgu i arg1 harg1 arg2 harg2 arg3 harg3 arg4 harg4 arg5 harg5 arg6 harg6 arg7 harg7 arg8 harg8 arg9 harg9 arg10 harg10 arg11 harg11) K := by
  simp only [cc0_sgu_eq_skeleton]; unfold cc0_sgu_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover0_10 _)).trans ?_
  rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.TailKernelIdeal.Joined

end
-- ==== Proof.FfnBody.lean ====
/-
  What one grid point of the feed-forward kernel leaves in its buffers: the normalised rows, the running sum over the two
  blocks of hidden columns, and, at the second block, the finished rows.
-/
module

public import proofs.«01_k».proof.Proof.Gen.FfnKernelIdeal.Frame
public import Idealize.ShloMosaic.Lib.Pipeline.ValueKit
public import Idealize.ShloMosaic.Lib.Tactic

@[expose] public section

set_option maxRecDepth 16384

noncomputable section

namespace Cert.FfnKernelIdeal.Body

open Cert.FfnKernelIdeal Cert.FfnKernelIdeal.Gen
open Idealize.ShloMosaic Idealize.ShloMosaic.TcCoe Idealize.SL.Sem

variable {F : FTy → Type} [FloatOps F]

theorem off00 : (![0, 0] : Fin 2 → Nat) = fun _ => 0 := funext fun a => by fin_cases a <;> rfl

/-- First block: the scratch of normalised rows. -/
theorem rows_first (c : Dev nD) (i : grid0.Coords)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x1024 .f32) (harg10 : arg10.IsWhole)
    (hc0 : cond0_0 i) (hc1 : ¬cond0_1 i) (x0 : FVec F S512x1024 .f32) (x1 x2 : FVec F S1x1024 .f32)
    (x3 x4 : FVec F S1024x1408 .bf16) (x5 : FVec F S1408x1024 .bf16) :
    sout0_A_0 c i arg2 harg2 arg3 harg3 arg4 harg4 arg5 harg5 arg6 harg6 arg7 harg7 arg8 harg8 arg9 harg9 arg10 harg10 hc0 hc1 x0 x1 x2 x3 x4 x5
      = k0_pay1 x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first | rw [View.canon_unit_zero (S := S512x1024) off00] | rw [View.canon_cons_unit_zero (S := S512x1024) off00]
  simp only [View.readCov_unit_zero (S := S512x1024) _ off00, View.readAt_eq_ld, harg2.read_unread, harg3.read_unread, harg4.read_unread,
    harg5.read_unread, harg6.read_unread, harg7.read_unread, harg9.read_unread, harg10.read_unread,
    View.ld_unit_zero (S := S512x1024) off00, View.ld_unit_zero (S := S1x1024) off00,
    View.ld_unit_zero (S := S1024x1408) off00, View.ld_unit_zero (S := S1408x1024) off00]

/-- First block: the running sum starts from zero. -/
theorem sum_first (c : Dev nD) (i : grid0.Coords)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x1024 .f32) (harg10 : arg10.IsWhole)
    (hc0 : cond0_0 i) (hc1 : ¬cond0_1 i) (x0 : FVec F S512x1024 .f32) (x1 x2 : FVec F S1x1024 .f32)
    (x3 x4 : FVec F S1024x1408 .bf16) (x5 : FVec F S1408x1024 .bf16) :
    sout0_A_1 c i arg2 harg2 arg3 harg3 arg4 harg4 arg5 harg5 arg6 harg6 arg7 harg7 arg8 harg8 arg9 harg9 arg10 harg10 hc0 hc1 x0 x1 x2 x3 x4 x5
      = k0_pay3 (k0_pay1 x0 x1) x3 x4 (k0_pay2 (F := F)) x5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first | rw [View.canon_unit_zero (S := S512x1024) off00] | rw [View.canon_cons_unit_zero (S := S512x1024) off00]
  simp only [View.readCov_unit_zero (S := S512x1024) _ off00, View.readAt_eq_ld, harg2.read_unread, harg3.read_unread, harg4.read_unread,
    harg5.read_unread, harg6.read_unread, harg7.read_unread, harg9.read_unread, harg10.read_unread,
    View.ld_unit_zero (S := S512x1024) off00, View.ld_unit_zero (S := S1x1024) off00,
    View.ld_unit_zero (S := S1024x1408) off00, View.ld_unit_zero (S := S1408x1024) off00]

/-- Second block: the rows the kernel writes out. -/
theorem rows_last (c : Dev nD) (i : grid0.Coords)
    (arg2 : Memref sig .tc .vmem S512x1024 .f32) (harg2 : arg2.IsWhole)
    (arg3 : Memref sig .tc .vmem S1x1024 .f32) (harg3 : arg3.IsWhole)
    (arg4 : Memref sig .tc .vmem S1x1024 .f32) (harg4 : arg4.IsWhole)
    (arg5 : Memref sig .tc .vmem S1024x1408 .bf16) (harg5 : arg5.IsWhole)
    (arg6 : Memref sig .tc .vmem S1024x1408 .bf16) (harg6 : arg6.IsWhole)
    (arg7 : Memref sig .tc .vmem S1408x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x1024 .f32) (harg10 : arg10.IsWhole)
    (hc0 : ¬cond0_0 i) (hc1 : cond0_1 i) (x0 : FVec F S512x1024 .f32) (x1 x2 : FVec F S1x1024 .f32)
    (x3 x4 : FVec F S1024x1408 .bf16) (x5 : FVec F S1408x1024 .bf16) (xs0 : FVec F S512x1024 .bf16) (xs1 : FVec F S512x1024 .f32) :
    out0_B_6 c i arg2 harg2 arg3 harg3 arg4 harg4 arg5 harg5 arg6 harg6 arg7 harg7 arg8 harg8 arg9 harg9 arg10 harg10 hc0 hc1 x0 x1 x2 x3 x4 x5 xs0 xs1
      = k0_pay4 x0 (k0_pay3 xs0 x3 x4 xs1 x5) x2 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  first | rw [View.canon_unit_zero (S := S512x1024) off00] | rw [View.canon_cons_unit_zero (S := S512x1024) off00]
  simp only [View.readCov_unit_zero (S := S512x1024) _ off00, View.readAt_eq_ld, harg2.read_unread, harg3.read_unread, harg4.read_unread,
    harg5.read_unread, harg6.read_unread, harg7.read_unread, harg9.read_unread, harg10.read_unread,
    View.ld_unit_zero (S := S512x1024) off00, View.ld_unit_zero (S := S1x1024) off00,
    View.ld_unit_zero (S := S1024x1408) off00, View.ld_unit_zero (S := S1408x1024) off00]

end Cert.FfnKernelIdeal.Body

end
-- ==== Proof.TailFeed.lean ====
/-
  The joined tail: its second call (the feed-forward sublayer), entered at any buffer contents `V`. The grid's points come in
  pairs: an even point starts the two scratch buffers (the normalised rows, and the running sum over the first block of
  hidden columns), the odd point after it reads both and writes the finished rows.
-/
module

public import proofs.«01_k».proof.Proof.Gen.TailKernelIdeal.Launch
public import proofs.«01_k».proof.Proof.Gen.TailKernelIdeal.Skeleton
public import proofs.«01_k».proof.Proof.Gen.TailKernelIdeal.Points
public import proofs.«01_k».proof.Proof.FfnBody
public import Idealize.ShloMosaic.Lib.Pipeline.FrameBody
public import Idealize.ShloMosaic.Lib.Pipeline.ValueKit
public import Idealize.ShloMosaic.Lib.Tactic
public import Idealize.ShloMosaic.Lib.WordCmp

@[expose] public section

set_option maxRecDepth 16384

noncomputable section

namespace Cert.TailKernelIdeal.Joined

open Cert.TailKernelIdeal Cert.TailKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The branch conditions -/

abbrev isFirst (i : grid1.Coords) : Prop := (Scalar.cmpi .ne (Scalar.extui (Scalar.cmpi .eq (BitVec.ofNat 32 (i 1).val) 0#32)) 0#32) = 1#1
abbrev isLast (i : grid1.Coords) : Prop := k1_cond2 i = 1#1

theorem isFirst_iff : ∀ t : Fin cfg1.N, isFirst (grid1.coords t) ↔ t.val % 2 = 0 :=
  (fun t => by
    have ht : t.val < 128 := Nat.lt_of_lt_of_eq t.isLt N_1
    have e1 : (grid1.coords t 1).val = t.val / 1 % 2 := Pipeline.Grid.coords_val t 1 (by decide) rfl
    simp only [isFirst, e1]
    word_cmp
   : ∀ t : Fin grid1.N, isFirst (grid1.coords t) ↔ t.val % 2 = 0)

theorem isLast_iff : ∀ t : Fin cfg1.N, isLast (grid1.coords t) ↔ t.val % 2 = 1 :=
  (fun t => by
    have ht : t.val < 128 := Nat.lt_of_lt_of_eq t.isLt N_1
    have e1 : (grid1.coords t 1).val = t.val / 1 % 2 := Pipeline.Grid.coords_val t 1 (by decide) rfl
    simp only [isLast, k1_cond2, e1]
    word_cmp
   : ∀ t : Fin grid1.N, isLast (grid1.coords t) ↔ t.val % 2 = 1)

theorem idle_first : ∀ t : Fin cfg1.N, isFirst (grid1.coords t) → ¬isLast (grid1.coords t) → cfg1.idle 6 (grid1.coords t) = true := by decide +kernel
theorem kept_first : ∀ t : Fin cfg1.N, isFirst (grid1.coords t) → ¬isLast (grid1.coords t) → (cfg1.win 6).flush t = false := by decide +kernel
theorem live_last : ∀ t : Fin cfg1.N, ¬isFirst (grid1.coords t) → isLast (grid1.coords t) → cfg1.idle 6 (grid1.coords t) = false := by decide +kernel

/-! ## The body's triples -/

theorem corner : (![0, 0] : Fin 2 → Nat) = fun _ => 0 := funext fun a => by fin_cases a <;> rfl

/-- The normalised rows. -/
abbrev rowsOf (x0 : Vec F S512x1024 .f32) (x1 : Vec F S1x1024 .f32) : Vec F S512x1024 .bf16 := k1_pay1 x0 x1
/-- The running sum, one block of hidden columns further. -/
abbrev sumOf (h : Vec F S512x1024 .bf16) (x3 x4 : Vec F S1024x1408 .bf16) (acc : Vec F S512x1024 .f32) (x5 : Vec F S1408x1024 .bf16) :
    Vec F S512x1024 .f32 := k1_pay3 h x3 x4 acc x5
/-- The running sum's start. -/
abbrev zeroOf : Vec F S512x1024 .f32 := k1_pay2 (F := F)
/-- The finished rows. -/
abbrev doneOf (x0 acc : Vec F S512x1024 .f32) (x2 : Vec F S1x1024 .f32) : Vec F S512x1024 .f32 := k1_pay4 x0 acc x2

set_option maxHeartbeats 1000000 in
/-- At an even point the body starts both scratch buffers and leaves the output's buffer alone. -/
theorem body_first (c : Dev nD) (E : Set ℕ) (i : grid1.Coords) (arg2 : Memref sig .tc .vmem S512x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1024x1408 .bf16) (harg5 : arg5.IsWhole) (arg6 : Memref sig .tc .vmem S1024x1408 .bf16) (harg6 : arg6.IsWhole)
    (arg7 : Memref sig .tc .vmem S1408x1024 .bf16) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S512x1024 .f32) (harg10 : arg10.IsWhole)
    (hc0 : isFirst i) (hc1 : ¬isLast i) (x0 : Vec F S512x1024 .f32) (x1 x2 : Vec F S1x1024 .f32) (x3 x4 : Vec F S1024x1408 .bf16) (x5 : Vec F S1408x1024 .bf16)
    (xi : Vec F S512x1024 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare xi ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xi ∗ owns (c : Thread nD τ) arg9 fullShare (rowsOf x0 x1)
            ∗ owns (c : Thread nD τ) arg10 fullShare (sumOf (rowsOf x0 x1) x3 x4 zeroOf x5)) -∗ K ⟨⟩))
      ⊢ wp frame (wpE (defs₀ (F := F)) Variants.none c none) E (cc1_ffn i arg2 harg2 arg3 harg3 arg4 harg4 arg5 harg5 arg6 harg6 arg7 harg7 arg8 harg8 arg9 harg9 arg10 harg10) K := by
  simp only [cc1_ffn_eq_skeleton]; unfold cc1_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, HS0⟩, ⟨%d10, %f10, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr
    swap; · iexact HS0
    ipureintro
    refine (View.read_writes_eq_canon _ _ _ fun y => View.cover_of_tiledL _ S512x1024.size (by sl_kernel_rfl) y).trans ?_
    sl_unfold_words
    first | rw [View.canon_unit_zero (S := S512x1024) corner] | rw [View.canon_cons_unit_zero (S := S512x1024) corner]
    simp only [View.readCov_unit_zero (S := S512x1024) _ corner, View.readAt_eq_ld, harg2.read_unread, harg3.read_unread, harg4.read_unread,
      harg5.read_unread, harg6.read_unread, harg7.read_unread, harg9.read_unread, harg10.read_unread,
      View.ld_unit_zero (S := S512x1024) corner, View.ld_unit_zero (S := S1x1024) corner,
      View.ld_unit_zero (S := S1024x1408) corner, View.ld_unit_zero (S := S1408x1024) corner]
  iexists _; isplitr
  swap; · iexact HS1
  ipureintro
  refine (View.read_writes_eq_canon _ _ _ fun y => View.cover_of_tiledL _ S512x1024.size (by sl_kernel_rfl) y).trans ?_
  sl_unfold_words
  first | rw [View.canon_unit_zero (S := S512x1024) corner] | rw [View.canon_cons_unit_zero (S := S512x1024) corner]
  simp only [View.readCov_unit_zero (S := S512x1024) _ corner, View.readAt_eq_ld, harg2.read_unread, harg3.read_unread, harg4.read_unread,
    harg5.read_unread, harg6.read_unread, harg7.read_unread, harg9.read_unread, harg10.read_unread,
    View.ld_unit_zero (S := S512x1024) corner, View.ld_unit_zero (S := S1x1024) corner,
    View.ld_unit_zero (S := S1024x1408) corner, View.ld_unit_zero (S := S1408x1024) corner]

set_option maxHeartbeats 1000000 in
/-- At an odd point the body reads both scratch buffers and writes the finished rows. -/
theorem body_last (c : Dev nD) (E : Set ℕ) (i : grid1.Coords) (arg2 : Memref sig .tc .vmem S512x1024 .f32) (harg2 : arg2.IsWhole)
    (arg3 : Memref sig .tc .vmem S1x1024 .f32) (harg3 : arg3.IsWhole) (arg4 : Memref sig .tc .vmem S1x1024 .f32) (harg4 : arg4.IsWhole)
    (arg5 : Memref sig .tc .vmem S1024x1408 .bf16) (harg5 : arg5.IsWhole) (arg6 : Memref sig .tc .vmem S1024x1408 .bf16) (harg6 : arg6.IsWhole)
    (arg7 : Memref sig .tc .vmem S1408x1024 .bf16) (harg7 : arg7.IsWhole) (arg8 : Memref sig .tc .vmem S512x1024 .f32) (harg8 : arg8.IsWhole)
    (arg9 : Memref sig .tc .vmem S512x1024 .bf16) (harg9 : arg9.IsWhole) (arg10 : Memref sig .tc .vmem S512x1024 .f32) (harg10 : arg10.IsWhole)
    (hc0 : ¬isFirst i) (hc1 : isLast i) (x0 : Vec F S512x1024 .f32) (x1 x2 : Vec F S1x1024 .f32) (x3 x4 : Vec F S1024x1408 .bf16) (x5 : Vec F S1408x1024 .bf16)
    (h : Vec F S512x1024 .bf16) (acc : Vec F S512x1024 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare h ∗ owns (c : Thread nD τ) arg10 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (doneOf x0 (sumOf h x3 x4 acc x5) x2)
            ∗ owns (c : Thread nD τ) arg9 fullShare h ∗ owns (c : Thread nD τ) arg10 fullShare (sumOf h x3 x4 acc x5)) -∗ K ⟨⟩))
      ⊢ wp frame (wpE (defs₀ (F := F)) Variants.none c none) E (cc1_ffn i arg2 harg2 arg3 harg3 arg4 harg4 arg5 harg5 arg6 harg6 arg7 harg7 arg8 harg8 arg9 harg9 arg10 harg10) K := by
  simp only [cc1_ffn_eq_skeleton]; unfold cc1_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, HS0⟩, ⟨%f10, %hf10, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg9.eq_unread hf9; obtain rfl := harg10.eq_unread hf10
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ fun y => View.cover_of_tiledL _ S512x1024.size (by sl_kernel_rfl) y).trans ?_
    sl_unfold_words
    first | rw [View.canon_unit_zero (S := S512x1024) corner] | rw [View.canon_cons_unit_zero (S := S512x1024) corner]
    simp only [View.readCov_unit_zero (S := S512x1024) _ corner, View.readAt_eq_ld, harg2.read_unread, harg3.read_unread, harg4.read_unread,
      harg5.read_unread, harg6.read_unread, harg7.read_unread, harg9.read_unread, harg10.read_unread,
      View.ld_unit_zero (S := S512x1024) corner, View.ld_unit_zero (S := S1x1024) corner,
      View.ld_unit_zero (S := S1024x1408) corner, View.ld_unit_zero (S := S1408x1024) corner]
  isplitl [HS0]
  · iexists _; isplitr; · ipureintro; exact harg9.read_unread _
    iexact HS0
  iexists _; isplitr
  swap; · iexact HS1
  ipureintro
  refine (View.read_writes_eq_canon _ _ _ fun y => View.cover_of_tiledL _ S512x1024.size (by sl_kernel_rfl) y).trans ?_
  sl_unfold_words
  first | rw [View.canon_unit_zero (S := S512x1024) corner] | rw [View.canon_cons_unit_zero (S := S512x1024) corner]
  simp only [View.readCov_unit_zero (S := S512x1024) _ corner, View.readAt_eq_ld, harg2.read_unread, harg3.read_unread, harg4.read_unread,
    harg5.read_unread, harg6.read_unread, harg7.read_unread, harg9.read_unread, harg10.read_unread,
    View.ld_unit_zero (S := S512x1024) corner, View.ld_unit_zero (S := S1x1024) corner,
    View.ld_unit_zero (S := S1024x1408) corner, View.ld_unit_zero (S := S1408x1024) corner]

/-! ## What the buffers hold, point by point -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before. -/
def before (t : Fin cfg1.N) : Fin cfg1.N := ⟨t.val - 1, Nat.lt_of_le_of_lt (Nat.sub_le _ _) t.isLt⟩

/-- The normalised rows after an even point. -/
def rowsAt (c : Dev nD) (t : Fin cfg1.N) : Vec F S512x1024 .bf16 := rowsOf (iblk1 V c 0 t) (iblk1 V c 1 t)
/-- The running sum after an even point. -/
def sumAt (c : Dev nD) (t : Fin cfg1.N) : Vec F S512x1024 .f32 :=
  sumOf (rowsAt V c t) (iblk1 V c 3 t) (iblk1 V c 4 t) zeroOf (iblk1 V c 5 t)
/-- The rows an odd point writes. -/
def doneAt (c : Dev nD) (t : Fin cfg1.N) : Vec F S512x1024 .f32 :=
  doneOf (iblk1 V c 0 t) (sumOf (rowsAt V c (before t)) (iblk1 V c 3 t) (iblk1 V c 4 t) (sumAt V c (before t)) (iblk1 V c 5 t)) (iblk1 V c 2 t)

/-! ## The invariant between points -/

abbrev scr0 : Memref sig .tc .vmem S512x1024 .bf16 := Memref.whole cc1_scratch0
abbrev scr1 : Memref sig .tc .vmem S512x1024 .f32 := Memref.whole cc1_scratch1

/-- What the call carries along without opening it: the other scoped buffers, and the generator register. -/
def rest1 (c : Dev nD) : sProp (MT nD τ sig Unit (Elt F) ℕ (UR sig nD τ) ℕ) :=
  iprop(Pipeline.scopedRestBut (Ix := Unit) (Name := ℕ) (U := UR sig nD τ) (Lvl := ℕ) (Val := Elt F) spec1 c [cc1_scratch0, cc1_scratch1] ∗ (∃ r, prngReg c r))

/-- Before an even point the scratch buffers hold anything. -/
def open1 (c : Dev nD) : sProp (MT nD τ sig Unit (Elt F) ℕ (UR sig nD τ) ℕ) :=
  iprop(((∃ d, owns (c : Thread nD τ) scr0 fullShare d) ∗ (∃ d, owns (c : Thread nD τ) scr1 fullShare d)) ∗ rest1 (F := F) c)

/-- After an even point they hold the rows and the running sum. -/
def held1 (c : Dev nD) (t : Fin cfg1.N) : sProp (MT nD τ sig Unit (Elt F) ℕ (UR sig nD τ) ℕ) :=
  iprop((owns (c : Thread nD τ) scr0 fullShare (rowsAt V c t) ∗ owns (c : Thread nD τ) scr1 fullShare (sumAt V c t)) ∗ rest1 (F := F) c)

def inv1 (c : Dev nD) (t : Fin (cfg1.N + 1)) : sProp (MT nD τ sig Unit (Elt F) ℕ (UR sig nD τ) ℕ) :=
  if h : t.val % 2 = 1 then held1 V c ⟨t.val - 1, by have := t.isLt; omega⟩ else open1 c

theorem inv1_even (c : Dev nD) (t : Fin (cfg1.N + 1)) (h : t.val % 2 = 0) : inv1 V c t = open1 c := dif_neg (by omega)
theorem inv1_odd (c : Dev nD) (t : Fin (cfg1.N + 1)) (h : t.val % 2 = 1) :
    inv1 V c t = held1 V c ⟨t.val - 1, by have := t.isLt; omega⟩ := dif_pos h

theorem split1 (c : Dev nD) :
    (Pipeline.scopedRest (Ix := Unit) (Name := ℕ) (U := UR sig nD τ) (Lvl := ℕ) (Val := Elt F) spec1 c : sProp (MT nD τ sig Unit (Elt F) ℕ (UR sig nD τ) ℕ))
      = iprop(((∃ d, owns (c : Thread nD τ) scr0 fullShare d) ∗ (∃ d, owns (c : Thread nD τ) scr1 fullShare d))
          ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [scr0, scr1, owns_whole]; try rfl

/-- Entering the call. -/
theorem enter1 (c : Dev nD) : (Pipeline.ΦA spec1 c : sProp (MT nD τ sig Unit (Elt F) ℕ (UR sig nD τ) ℕ)) ⊢ open1 c := by
  unfold Pipeline.ΦA open1 rest1; rw [split1]
  iintro ⟨⟨Hs, Hr⟩, Hp⟩
  isplitl [Hs]; · iexact Hs
  isplitl [Hr]; · iexact Hr
  iexact Hp

/-- Leaving it. -/
theorem leave1 (c : Dev nD) : open1 c ⊢ (Pipeline.ΦA spec1 c : sProp (MT nD τ sig Unit (Elt F) ℕ (UR sig nD τ) ℕ)) := by
  unfold Pipeline.ΦA open1 rest1; rw [split1]
  iintro ⟨Hs, Hr, Hp⟩
  isplitl [Hs Hr]
  · isplitl [Hs]; · iexact Hs
    iexact Hr
  iexact Hp

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => doneAt V c t
  Φ t := inv1 V c t
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = doneAt V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The body's obligation -/

theorem leaves1_0 (c : Dev nD) (t : Fin cfg1.N) : (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (grid1.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (grid1.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (grid1.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (grid1.coords t) = false from rfl, after1_5]

def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = inv1 V c t.succ from rfl, show (dat1 V c).Φ t.castSucc = inv1 V c t.castSucc from rfl,
    leaves1_0, leaves1_1, leaves1_2, leaves1_3, leaves1_4, leaves1_5]
  rcases Nat.mod_two_eq_zero_or_one t.val with h | h
  · have n1 : ¬t.val % 2 = 1 := by omega
    have k0 := (isFirst_iff t).mpr h
    have k1 : ¬isLast (grid1.coords t) := fun e => n1 ((isLast_iff t).mp e)
    rw [inv1_even V c t.castSucc h, inv1_odd V c t.succ (by show (t.val + 1) % 2 = 1; omega),
      Dat.leavesExact_idle (dat1 V c) 6 t (idle_first t k0 k1) (kept_first t k0 k1)]
    rw [show (⟨t.succ.val - 1, by have := t.succ.isLt; omega⟩ : Fin cfg1.N) = t from Fin.ext (Nat.add_sub_cancel t.val 1)]
    unfold open1 held1 sumAt rowsAt
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c Set.univ (grid1.coords t) _ _ _ _ _ _ _ _ _ _ _ _ _ _ _ _ _ _ k0 k1 (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have n0 : ¬t.val % 2 = 0 := by omega
    have k0 : ¬isFirst (grid1.coords t) := fun e => n0 ((isFirst_iff t).mp e)
    have k1 := (isLast_iff t).mpr h
    rw [inv1_odd V c t.castSucc h, inv1_even V c t.succ (by show (t.val + 1) % 2 = 0; omega)]
    rw [show (dat1 V c).leavesExact 6 t = owns (c : Thread nD τ) (st1_6 t) fullShare (doneAt V c t) from by
      unfold Dat.leavesExact; rw [live_last t k0 k1, after1_6]]
    rw [show (⟨t.castSucc.val - 1, by have := t.castSucc.isLt; omega⟩ : Fin cfg1.N) = before t from rfl]
    unfold open1 held1 doneAt
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (body_last c Set.univ (grid1.coords t) _ _ _ _ _ _ _ _ _ _ _ _ _ _ _ _ _ _ k0 k1 (iblk1 V c 0 t) (iblk1 V c 1 t) (iblk1 V c 2 t) (iblk1 V c 3 t) (iblk1 V c 4 t) (iblk1 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.TailKernelIdeal.Joined

end
-- ==== Proof.TailRun.lean ====
module
/-
  The joined tail, run from the launch to the return: the host operations and the two calls as segments, what each leaves
  unchanged, and what the result's buffer holds at the end.
-/
public import proofs.«01_k».proof.Proof.TailGate
public import proofs.«01_k».proof.Proof.TailFeed
public import Idealize.ShloMosaic.Lib.Pipeline.RegionsLoop
public import Idealize.ShloMosaic.Lib.Pipeline.FrameSuffix
@[expose] public section

set_option maxRecDepth 16384

noncomputable section

namespace Cert.TailKernelIdeal.Joined

open Cert.TailKernelIdeal Cert.TailKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

abbrev argRefs : List (Ref sig .tc) := [main_arg0, main_arg1, main_arg2, main_arg3, main_arg4, main_arg5, main_arg6, main_arg7, main_arg8, main_arg9, main_arg10, main_arg11, main_arg12, main_arg13, main_arg14]

/-! ## The host stretches: none allocates a buffer, and each lists the references its operations write, in order,
    so that a reference absent from the list keeps its contents across the stretch (Lib/StableHlo/Run.lean
    `after_of_writes_sub`) -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_v10, main_v11, main_v12]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v14, main_v15, main_v16, main_v17, main_v18]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-! ## The buffer contents at each segment boundary: a fold through @main, and what each item leaves unchanged -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp (MT nD τ sig Unit (Elt F) ℕ (UR sig nD τ) ℕ) := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = open1 c from inv1_even (V3 m ρ) c 0 rfl]
    iintro ⟨Hp, -, Hr⟩
    iapply (enter1 c)
    unfold Pipeline.ΦA
    isplitl [Hr]; · iexact Hr
    iexact Hp
  hout c := by
    rw [Pipeline.ownSems0_none, show (pdats m ρ 1 c).Φ (Fin.last _) = open1 c from inv1_even (V3 m ρ) c _ (by show cfg1.N % 2 = 0; rw [show cfg1.N = 128 from N_1])]
    iintro H
    ihave H := (leave1 c) $$ H
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

theorem args_kept : ∀ a ∈ argRefs, ¬ (Proc.devRef .tc a : DevRef τ sig).isScoped := ListAll.forall_mem_of_all_decide (by decide +kernel)

theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The program runs to the end; every argument ends as it began, the result's buffer holds what the fold says, and every
    semaphore is back at zero. -/
theorem run : θ_run defs (onTc (τ := τ) (main (F := F))) ⟨m, fun _ => 0, ρ⟩ (fun r => (∀ c : Dev nD,
      (∀ a ∈ argRefs, r.2.mem ((c.tc : Thread nD τ).loc a) = m ((c.tc : Thread nD τ).loc a))
      ∧ r.2.mem ((c.tc : Thread nD τ).loc main_v19) = (dat1 (V3 m ρ) c).arrAt 6 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c =>
      ⟨fun a ha => (h c _ (mem_uc a (args_kept a ha))).trans (W4_args m ρ c a ha),
        (h c _ (mem_uc main_v19 (by decide))).trans (W4_arr m ρ c 6)⟩, funext fun g => hz g (.inr (no_unscoped g.2))⟩)

/-- The same with the arguments one by one. -/
theorem tidy : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run _ _ _).mono (fun r h => ⟨fun c => by
    have k := (h.1 c).1
    simp only [argRefs, List.forall_mem_cons] at k
    obtain ⟨k0, k1, k2, k3, k4, k5, k6, k7, k8, k9, k10, k11, k12, k13, k14, _⟩ := k
    exact ⟨k0, k1, k2, k3, k4, k5, k6, k7, k8, k9, k10, k11, k12, k13, k14⟩, h.2⟩) (run m ρ)

/-- The result's buffer first, then the arguments. -/
theorem ends : θ_run (defs (F := F)) (onTc (τ := τ) (main (F := F))) ⟨m, fun _ => 0, ρ⟩ (fun r => ∀ c : Dev nD,
      r.2.mem ((c.tc : Thread nD τ).loc main_v19) = (dat1 (V3 m ρ) c).arrAt 6 cfg1.N ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run _ _ _).mono (fun _ h c => ⟨(h.1.1 c).2, h.2.1 c⟩) (θ_run_and (run m ρ) (tidy m ρ))

end Cert.TailKernelIdeal.Joined

end
-- ==== Proof.FfnValue.lean ====
/-
  The feed-forward kernel's result array is the reference's, index by index.
-/
module

public import proofs.«01_k».proof.Proof.FfnBody
public import proofs.«01_k».proof.Proof.FfnReference
public import proofs.«01_k».proof.Proof.Gen.FfnKernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.FfnKernelIdeal.Result

open Cert.FfnKernelIdeal Cert.FfnKernelIdeal.Gen Cert.FfnKernelIdeal.Body
open Idealize.ShloMosaic Idealize.ShloMosaic.TcCoe Idealize.SL.Sem
open Cert.FfnReferenceIdeal.Stages (rmsEntry gated normed hidden down down_of residual)

variable (m : (ℓ : Loc nD τ sig) → Buf (Elt Ideal) ℓ) (c : Dev nD)

theorem blocks_at : ∀ t : Fin cfg0.N, win0_0.index t = ![t.val / 2, 0] ∧ win0_1.index t = ![0, 0]
    ∧ win0_2.index t = ![0, 0] ∧ win0_3.index t = ![0, t.val % 2] ∧ win0_4.index t = ![0, t.val % 2]
    ∧ win0_5.index t = ![t.val % 2, 0] ∧ win0_6.index t = ![t.val / 2, 0] :=
  (by decide +kernel : ∀ t : Fin grid0.N, _)

theorem points (t : Fin cfg0.N) : t.val < 128 := lt_of_lt_of_eq t.isLt (show cfg0.N = 128 from N_0)

/-- The row of the array that row `r` of a point's block is. -/
def rowOf (t : Fin cfg0.N) (r : Fin 512) : Fin 32768 := ⟨t.val / 2 * 512 + r.val, by have := points t; omega⟩
/-- The hidden column that column `f` of a point's block is. -/
def colOf (t : Fin cfg0.N) (f : Fin 1408) : Fin 2816 := ⟨t.val % 2 * 1408 + f.val, by omega⟩

def argX : FVec Ideal S32768x1024 .f32 := m ((c : Thread nD τ).loc main_arg0)
def argPre : FVec Ideal S1024 .f32 := m ((c : Thread nD τ).loc main_arg1)
def argPost : FVec Ideal S1024 .f32 := m ((c : Thread nD τ).loc main_arg2)
def argGate : FVec Ideal S1024x2816 .f32 := m ((c : Thread nD τ).loc main_arg3)
def argUp : FVec Ideal S1024x2816 .f32 := m ((c : Thread nD τ).loc main_arg4)
def argDown : FVec Ideal S2816x1024 .f32 := m ((c : Thread nD τ).loc main_arg5)

theorem x_at (t : Fin cfg0.N) (r : Fin 512) (d : Fin 1024) :
    (iblk m c 0 t : FVec Ideal S512x1024 .f32) (ix2 r d) = argX m c (ix2 (rowOf t r) d) := by
  unfold argX rowOf
  blk_ext [iblk, V, blocks_at t]
theorem pre_at (t : Fin cfg0.N) (d : Fin 1024) :
    (iblk m c 1 t : FVec Ideal S1x1024 .f32) (ix2 0 d) = argPre m c (ix1 d) := by
  unfold argPre
  blk_ext! [iblk, V, blocks_at t]
theorem post_at (t : Fin cfg0.N) (d : Fin 1024) :
    (iblk m c 2 t : FVec Ideal S1x1024 .f32) (ix2 0 d) = argPost m c (ix1 d) := by
  unfold argPost
  blk_ext! [iblk, V, blocks_at t]
theorem gate_at (t : Fin cfg0.N) (k : Fin 1024) (f : Fin 1408) :
    (iblk m c 3 t : FVec Ideal S1024x1408 .bf16) (ix2 k f) = argGate m c (ix2 k (colOf t f)) := by
  unfold argGate colOf
  blk_ext! [iblk, V, blocks_at t]
theorem up_at (t : Fin cfg0.N) (k : Fin 1024) (f : Fin 1408) :
    (iblk m c 4 t : FVec Ideal S1024x1408 .bf16) (ix2 k f) = argUp m c (ix2 k (colOf t f)) := by
  unfold argUp colOf
  blk_ext! [iblk, V, blocks_at t]
theorem down_at (t : Fin cfg0.N) (f : Fin 1408) (d : Fin 1024) :
    (iblk m c 5 t : FVec Ideal S1408x1024 .bf16) (ix2 f d) = argDown m c (ix2 (colOf t f) d) := by
  unfold argDown colOf
  blk_ext! [iblk, V, blocks_at t]

/-! ## What the body computes, at an index -/

theorem pay1_at (x0 : FVec Ideal S512x1024 .f32) (x1 : FVec Ideal S1x1024 .f32) (r : Fin 512) (d : Fin 1024) :
    k0_pay1 (F := Ideal) x0 x1 (ix2 r d) = (show EReal from rmsEntry (x0 (ix2 r d)) (∑ k : Fin 1024, x0 (ix2 r k) * x0 (ix2 r k)) (x1 (ix2 0 d))) := by
  unfold rmsEntry
  pointwise [k0_pay1]

theorem pay3_at (h : FVec Ideal S512x1024 .bf16) (wg wu : FVec Ideal S1024x1408 .bf16) (acc : FVec Ideal S512x1024 .f32)
    (wd : FVec Ideal S1408x1024 .bf16) (r : Fin 512) (d : Fin 1024) :
    k0_pay3 h wg wu acc wd (ix2 r d) = acc (ix2 r d)
      + ∑ f : Fin 1408, gated (∑ k : Fin 1024, h (ix2 r k) * wg (ix2 k f)) (∑ k : Fin 1024, h (ix2 r k) * wu (ix2 k f)) * wd (ix2 f d) := by
  unfold gated
  pointwise [k0_pay3]

theorem pay4_at (x0 acc : FVec Ideal S512x1024 .f32) (x2 : FVec Ideal S1x1024 .f32) (r : Fin 512) (d : Fin 1024) :
    k0_pay4 x0 acc x2 (ix2 r d) = x0 (ix2 r d) + Ideal.ofBits .f32 1056964608#32
      * rmsEntry (acc (ix2 r d)) (∑ k : Fin 1024, acc (ix2 r k) * acc (ix2 r k)) (x2 (ix2 0 d)) := by
  unfold rmsEntry
  pointwise [k0_pay4]

/-! ## The result -/

/-- The point before an odd point. -/
def prev (t : Fin cfg0.N) : Fin cfg0.N := ⟨t.val - 1, Nat.lt_of_le_of_lt (Nat.sub_le _ _) t.isLt⟩

theorem rows_at (t : Fin cfg0.N) (r : Fin 512) (d : Fin 1024) :
    k0_pay1 (iblk m c 0 t : FVec Ideal S512x1024 .f32) (iblk m c 1 t : FVec Ideal S1x1024 .f32) (ix2 r d)
      = normed (argX m c) (argPre m c) (ix2 (rowOf t r) d) := by
  rw [pay1_at, Cert.FfnReferenceIdeal.Stages.normed_at, x_at, pre_at]
  simp only [x_at]

theorem rowOf_prev (t : Fin cfg0.N) (h : t.val % 2 = 1) (r : Fin 512) : rowOf (prev t) r = rowOf t r :=
  Fin.ext (by show (t.val - 1) / 2 * 512 + r.val = t.val / 2 * 512 + r.val; omega)

/-- A sum over the hidden columns is the sum over the first block and the sum over the second. -/
theorem halves (g : Fin 2816 → EReal) :
    (∑ f : Fin 1408, g (Fin.castAdd 1408 f)) + ∑ f : Fin 1408, g (Fin.natAdd 1408 f) = ∑ f : Fin 2816, g f :=
  (Fin.sum_univ_add (a := 1408) (b := 1408) g).symm

/-- The running sum after the second block is the whole down projection. -/
theorem sum_at (t : Fin cfg0.N) (h : t.val % 2 = 1) (r : Fin 512) (d : Fin 1024) :
    k0_pay3 (k0_pay1 (iblk m c 0 (prev t) : FVec Ideal S512x1024 .f32) (iblk m c 1 (prev t) : FVec Ideal S1x1024 .f32))
        (iblk m c 3 t : FVec Ideal S1024x1408 .bf16) (iblk m c 4 t : FVec Ideal S1024x1408 .bf16)
        (k0_pay3 (k0_pay1 (iblk m c 0 (prev t) : FVec Ideal S512x1024 .f32) (iblk m c 1 (prev t) : FVec Ideal S1x1024 .f32))
          (iblk m c 3 (prev t) : FVec Ideal S1024x1408 .bf16) (iblk m c 4 (prev t) : FVec Ideal S1024x1408 .bf16)
          (k0_pay2 (F := Ideal)) (iblk m c 5 (prev t) : FVec Ideal S1408x1024 .bf16))
        (iblk m c 5 t : FVec Ideal S1408x1024 .bf16) (ix2 r d)
      = down_of (argX m c) (argPre m c) (argGate m c) (argUp m c) (argDown m c) (ix2 (rowOf t r) d) := by
  have z : k0_pay2 (F := Ideal) (ix2 r d) = 0 := by pointwise [k0_pay2]
  have c0 : ∀ f : Fin 1408, colOf (prev t) f = Fin.castAdd 1408 f := fun f =>
    Fin.ext (by show (t.val - 1) % 2 * 1408 + f.val = f.val; omega)
  have c1 : ∀ f : Fin 1408, colOf t f = Fin.natAdd 1408 f := fun f =>
    Fin.ext (by show t.val % 2 * 1408 + f.val = 1408 + f.val; omega)
  rw [pay3_at, pay3_at, z, zero_add]
  unfold down_of
  rw [Cert.FfnReferenceIdeal.Stages.down_at]
  simp only [rows_at, gate_at, up_at, down_at, Cert.FfnReferenceIdeal.Stages.hidden_at, rowOf_prev t h, c0, c1]
  exact halves fun f => gated (∑ k : Fin 1024, normed (argX m c) (argPre m c) (ix2 (rowOf t r) k) * argGate m c (ix2 k f))
      (∑ k : Fin 1024, normed (argX m c) (argPre m c) (ix2 (rowOf t r) k) * argUp m c (ix2 k f)) * argDown m c (ix2 f d)

/-- What the result array ends holding. -/
theorem result : (dats m 0 c).arrAt 6 cfg0.N
    = residual (argX m c) (normed (down_of (argX m c) (argPre m c) (argGate m c) (argUp m c) (argDown m c)) (argPost m c)) := by
  refine (dats m 0 c).arrAt_eq_of_covers 6 _ (by decide +kernel) fun t hf y => ?_
  have h1 : t.val % 2 = 1 := (flush0_6 t).mp hf
  have h0 : ¬t.val % 2 = 0 := by omega
  have p0 : (prev t).val % 2 = 0 := by show (t.val - 1) % 2 = 0; omega
  have p1 : ¬(prev t).val % 2 = 1 := by omega
  blk_simp
  rw [after0_6, outsAt0_B m c t h0 h1]
  dsimp only
  have e : outsAt0 m c (t.val - 1) (Nat.lt_of_le_of_lt (Nat.sub_le _ _) t.isLt) = outsAt0 m c (prev t).val (prev t).isLt := rfl
  rw [e, outsAt0_A m c (prev t) p0 p1]
  dsimp only
  rw [rows_last, rows_first, sum_first]
  obtain ⟨r, d, rfl⟩ : ∃ (r : Fin 512) (d : Fin 1024), y = ix2 r d := ⟨y 0, y 1, eq_ix2 y⟩
  have place : ((cfg0.win 6).blk t).view.emb (ix2 r d) = (ix2 (rowOf t r) d : S32768x1024.Idx) := by
    unfold rowOf
    blk_ext [blocks_at t]
  refine Eq.trans ?_ (congrArg (residual (argX m c) (normed (down_of (argX m c) (argPre m c) (argGate m c) (argUp m c) (argDown m c)) (argPost m c))) place.symm)
  rw [Cert.FfnReferenceIdeal.Stages.residual_at, Cert.FfnReferenceIdeal.Stages.normed_at]
  refine (pay4_at _ _ _ r d).trans ?_
  rw [x_at, post_at]
  simp only [sum_at m c t h1]

end Cert.FfnKernelIdeal.Result

end
-- ==== Proof.TailBlocks.lean ====
/-
  The two sublayers of the joined tail, block by block: if a point's blocks are the rows and columns of some arrays, the block
  its call computes is the same rows of the reference's array.
-/
module

public import proofs.«01_k».proof.Proof.FfnValue
public import proofs.«01_k».proof.Proof.SguValue

@[expose] public section

set_option maxRecDepth 16384

noncomputable section

namespace Cert.FfnKernelIdeal.Result

open Cert.FfnKernelIdeal Cert.FfnKernelIdeal.Gen
open Idealize.ShloMosaic
open Cert.FfnReferenceIdeal.Stages (gated normed down_of residual)

/-- Two blocks of hidden columns, the first's running sum carried into the second, make the reference's rows. -/
theorem block_done (X : FVec Ideal S32768x1024 .f32) (gpre gpost : FVec Ideal S1024 .f32) (wg wu : FVec Ideal S1024x2816 .f32)
    (wd : FVec Ideal S2816x1024 .f32) (row : Fin 512 → Fin 32768)
    (x x' : FVec Ideal S512x1024 .f32) (p q : FVec Ideal S1x1024 .f32) (g g' u u' : FVec Ideal S1024x1408 .bf16) (d d' : FVec Ideal S1408x1024 .bf16)
    (hx : ∀ r k, x (ix2 r k) = X (ix2 (row r) k)) (hx' : ∀ r k, x' (ix2 r k) = X (ix2 (row r) k))
    (hp : ∀ k, p (ix2 0 k) = gpre (ix1 k)) (hq : ∀ k, q (ix2 0 k) = gpost (ix1 k))
    (hg : ∀ k f, g (ix2 k f) = wg (ix2 k (Fin.natAdd 1408 f))) (hg' : ∀ k f, g' (ix2 k f) = wg (ix2 k (Fin.castAdd 1408 f)))
    (hu : ∀ k f, u (ix2 k f) = wu (ix2 k (Fin.natAdd 1408 f))) (hu' : ∀ k f, u' (ix2 k f) = wu (ix2 k (Fin.castAdd 1408 f)))
    (hd : ∀ f k, d (ix2 f k) = wd (ix2 (Fin.natAdd 1408 f) k)) (hd' : ∀ f k, d' (ix2 f k) = wd (ix2 (Fin.castAdd 1408 f) k))
    (r : Fin 512) (k : Fin 1024) :
    k0_pay4 (F := Ideal) x (k0_pay3 (F := Ideal) (k0_pay1 (F := Ideal) x' p) g u (k0_pay3 (F := Ideal) (k0_pay1 (F := Ideal) x' p) g' u' (k0_pay2 (F := Ideal)) d') d) q (ix2 r k)
      = residual X (normed (down_of X gpre wg wu wd) gpost) (ix2 (row r) k) := by
  have rows : ∀ k, k0_pay1 (F := Ideal) x' p (ix2 r k) = normed X gpre (ix2 (row r) k) := fun k => by
    rw [pay1_at, Cert.FfnReferenceIdeal.Stages.normed_at, hx', hp]
    simp only [hx']
  have sum : ∀ k, k0_pay3 (F := Ideal) (k0_pay1 (F := Ideal) x' p) g u (k0_pay3 (F := Ideal) (k0_pay1 (F := Ideal) x' p) g' u' (k0_pay2 (F := Ideal)) d') d (ix2 r k)
      = down_of X gpre wg wu wd (ix2 (row r) k) := fun k => by
    have z : k0_pay2 (F := Ideal) (ix2 r k) = 0 := by pointwise [k0_pay2]
    rw [pay3_at, pay3_at, z, zero_add]
    unfold down_of
    rw [Cert.FfnReferenceIdeal.Stages.down_at]
    simp only [rows, hg, hg', hu, hu', hd, hd', Cert.FfnReferenceIdeal.Stages.hidden_at]
    exact halves fun f => gated (∑ i : Fin 1024, normed X gpre (ix2 (row r) i) * wg (ix2 i f))
        (∑ i : Fin 1024, normed X gpre (ix2 (row r) i) * wu (ix2 i f)) * wd (ix2 f k)
  rw [Cert.FfnReferenceIdeal.Stages.residual_at, Cert.FfnReferenceIdeal.Stages.normed_at]
  refine (pay4_at _ _ _ r k).trans ?_
  rw [hx, hq]
  simp only [sum]

end Cert.FfnKernelIdeal.Result

namespace Cert.SguKernelIdeal.Result

open Cert.SguKernelIdeal Cert.SguKernelIdeal.Gen Cert.SguKernelIdeal.Tile
open Idealize.ShloMosaic
open Cert.SguReferenceIdeal.Stages (chNo rowNo proj hidRow whole whole_at)

/-- Four chunks of one sequence make the reference's rows. -/
theorem block_done (X : FVec Ideal S32768x1024 .f32) (gpre gpost : FVec Ideal S1024 .f32) (wu : FVec Ideal S1024x2048 .f32)
    (bu : FVec Ideal S2048 .f32) (gl bl : FVec Ideal S1024 .f32) (ws : FVec Ideal S8x128x128 .f32) (bs : FVec Ideal S8x128 .f32)
    (wo : FVec Ideal S1024x1024 .f32) (b : Fin 4) (chunk : Fin 4 → Fin 64)
    (x0 : Vec Ideal S512x1024 .f32) (x1 x2 : Vec Ideal S1x1024 .f32) (x3 : Vec Ideal S1024x2048 .bf16) (x4 : Vec Ideal S1x2048 .f32)
    (x5 x6 : Vec Ideal S1x1024 .f32) (x7 : Vec Ideal S8x128x128 .f32) (x8 : Vec Ideal S512x1024 .f32) (x9 : Vec Ideal S1024x1024 .bf16)
    (h0 : ∀ n t k, x0 (ix2 (locNo n t) k) = X (ix2 (rowNo b (chunk n) t) k))
    (h1 : ∀ k, x1 (ix2 0 k) = gpre (ix1 k)) (h2 : ∀ k, x2 (ix2 0 k) = gpost (ix1 k))
    (h3 : ∀ k j, x3 (ix2 k j) = wu (ix2 k j)) (h4 : ∀ j, x4 (ix2 0 j) = bu (ix1 j))
    (h5 : ∀ k, x5 (ix2 0 k) = gl (ix1 k)) (h6 : ∀ k, x6 (ix2 0 k) = bl (ix1 k))
    (h7 : ∀ g t s, x7 (ix3 g t s) = ws (ix3 g t s)) (h8 : ∀ n t g k, x8 (ix2 (locNo n t) (chNo g k)) = bs (ix2 g t))
    (h9 : ∀ e d, x9 (ix2 e d) = wo (ix2 e d)) (n : Fin 4) (s : Fin 128) (d : Fin 1024) :
    out0_10 (F := Ideal) x0 x1 x2 x3 x4 x5 x6 x7 x8 x9 (ix2 (locNo n s) d)
      = whole X gpre gpost wu bu gl bl ws bs wo (ix2 (rowNo b (chunk n) s) d) := by
  have hid : ∀ n s, hidOf x0 x1 x3 x4 (locNo n s) = hidRow X gpre wu bu (rowNo b (chunk n) s) := fun n s => by
    unfold hidOf hidRow
    simp only [h0, h1, h3, h4]
  have prod := productOf_at x0 x1 x3 x4 x5 x6
    (View.ld x7 r0_4) (View.ld x7 r0_5) (View.ld x7 r0_6) (View.ld x7 r0_7) (View.ld x7 r0_8) (View.ld x7 r0_9) (View.ld x7 r0_10) (View.ld x7 r0_11)
    x8 x9 (fun g t s => ws (ix3 g t s)) (fun g t => bs (ix2 g t))
    (fun a b => (slab_at x7 0 _ rfl _ a b).trans (h7 0 a b))
    (fun a b => (slab_at x7 1 _ rfl _ a b).trans (h7 1 a b))
    (fun a b => (slab_at x7 2 _ rfl _ a b).trans (h7 2 a b))
    (fun a b => (slab_at x7 3 _ rfl _ a b).trans (h7 3 a b))
    (fun a b => (slab_at x7 4 _ rfl _ a b).trans (h7 4 a b))
    (fun a b => (slab_at x7 5 _ rfl _ a b).trans (h7 5 a b))
    (fun a b => (slab_at x7 6 _ rfl _ a b).trans (h7 6 a b))
    (fun a b => (slab_at x7 7 _ rfl _ a b).trans (h7 7 a b))
    h8
  simp only [hid, h5, h6, h9] at prod
  unfold_out out0_10
  rw [View.canon_unit_zero (S := S512x1024) zeros]
  simp only [View.ld_unit_zero (S := S512x1024) zeros, View.ld_unit_zero (S := S1x1024) zeros, View.ld_unit_zero (S := S1024x2048) zeros,
    View.ld_unit_zero (S := S1x2048) zeros, View.ld_unit_zero (S := S1024x1024) zeros]
  rw [whole_at]
  refine (pay1_at x0 (productOf x0 x1 x3 x4 x5 x6 (View.ld x7 r0_4) (View.ld x7 r0_5) (View.ld x7 r0_6) (View.ld x7 r0_7) (View.ld x7 r0_8)
    (View.ld x7 r0_9) (View.ld x7 r0_10) (View.ld x7 r0_11) x8 x9) x2 _ (locNo n s) d (pay25_at _ _ _ _ _ _ _ _ _ _ _ _ _ _ _ (locNo n s))).trans ?_
  rw [h0, h2]
  simp only [prod]

end Cert.SguKernelIdeal.Result

end
-- ==== Proof.TailValue.lean ====
/-
  The joined tail: what its result array ends holding.
-/
module

public import proofs.«01_k».proof.Proof.TailRun
public import proofs.«01_k».proof.Proof.TailBlocks
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.TailKernelIdeal.Result

open Cert.TailKernelIdeal Cert.TailKernelIdeal.Gen Cert.TailKernelIdeal.Joined
open Idealize.ShloMosaic Idealize.ShloMosaic.TcCoe Idealize.SL.Sem
open Cert.FfnReferenceIdeal.Stages (rmsEntry normed down_of residual)
open Cert.SguReferenceIdeal.Stages (chNo rowNo whole)
open Cert.SguKernelIdeal.Tile (locNo exists_locNo)

/-! ## Where each block lies -/

theorem places0 : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0, 0] ∧ win0_8.index t = ![0, 0] ∧ win0_9.index t = ![0, 0]
    ∧ win0_10.index t = ![t.val, 0] :=
  (by decide +kernel : ∀ t : Fin grid0.N, _)

theorem places1 : ∀ t : Fin cfg1.N, win1_0.index t = ![t.val / 2, 0] ∧ win1_1.index t = ![0, 0]
    ∧ win1_2.index t = ![0, 0] ∧ win1_3.index t = ![0, t.val % 2] ∧ win1_4.index t = ![0, t.val % 2]
    ∧ win1_5.index t = ![t.val % 2, 0] ∧ win1_6.index t = ![t.val / 2, 0] :=
  (by decide +kernel : ∀ t : Fin grid1.N, _)

theorem points0 (t : Fin cfg0.N) : t.val < 64 := lt_of_lt_of_eq t.isLt (show cfg0.N = 64 from N_0)
theorem points1 (t : Fin cfg1.N) : t.val < 128 := lt_of_lt_of_eq t.isLt (show cfg1.N = 128 from N_1)

/-- The row of the array that row `r` of a point's block is, in the first call. -/
def row0 (t : Fin cfg0.N) (r : Fin 512) : Fin 32768 := ⟨t.val * 512 + r.val, by have := points0 t; omega⟩
/-- The same in the second call. -/
def row1 (t : Fin cfg1.N) (r : Fin 512) : Fin 32768 := ⟨t.val / 2 * 512 + r.val, by have := points1 t; omega⟩
/-- The hidden column that column `f` of a point's block is. -/
def col1 (t : Fin cfg1.N) (f : Fin 1408) : Fin 2816 := ⟨t.val % 2 * 1408 + f.val, by omega⟩
/-- The sequence a point's block is of, in the first call. -/
def seq0 (t : Fin cfg0.N) : Fin 4 := ⟨t.val / 16, by have := points0 t; omega⟩
/-- The sequence's chunk that a block's chunk is. -/
def chunk0 (t : Fin cfg0.N) (n : Fin 4) : Fin 64 := ⟨t.val % 16 * 4 + n.val, by omega⟩

theorem row0_locNo (t : Fin cfg0.N) (n : Fin 4) (s : Fin 128) : row0 t (locNo n s) = rowNo (seq0 t) (chunk0 t n) s :=
  Fin.ext (by show t.val * 512 + (n.val * 128 + s.val) = t.val / 16 * 8192 + ((t.val % 16 * 4 + n.val) * 128 + s.val); omega)

theorem row1_before (t : Fin cfg1.N) (h : t.val % 2 = 1) (r : Fin 512) : row1 (before t) r = row1 t r :=
  Fin.ext (by show (t.val - 1) / 2 * 512 + r.val = t.val / 2 * 512 + r.val; omega)
theorem col1_before (t : Fin cfg1.N) (h : t.val % 2 = 1) (f : Fin 1408) : col1 (before t) f = Fin.castAdd 1408 f :=
  Fin.ext (by show (t.val - 1) % 2 * 1408 + f.val = f.val; omega)
theorem col1_odd (t : Fin cfg1.N) (h : t.val % 2 = 1) (f : Fin 1408) : col1 t f = Fin.natAdd 1408 f :=
  Fin.ext (by show t.val % 2 * 1408 + f.val = 1408 + f.val; omega)

/-! ## The blocks, read off the buffers as they stand before the host operations that feed each call -/

section

variable (W : Dev nD → Valuation τ sig (Elt Ideal)) (c : Dev nD)

theorem x0_at (t : Fin cfg0.N) (r : Fin 512) (d : Fin 1024) :
    (iblk0 (fun c b => StableHlo.after hostOps0 (W c) b) c 0 t : FVec Ideal S512x1024 .f32) (ix2 r d) = (W c (Proc.devRef .tc main_arg0) : FVec Ideal S32768x1024 .f32) (ix2 (row0 t r) d) := by
  unfold row0
  blk_ext! [iblk0, places0 t]
theorem pre0_at (t : Fin cfg0.N) (d : Fin 1024) :
    (iblk0 (fun c b => StableHlo.after hostOps0 (W c) b) c 1 t : FVec Ideal S1x1024 .f32) (ix2 0 d) = (W c (Proc.devRef .tc main_arg1) : FVec Ideal S1024 .f32) (ix1 d) := by
  blk_ext! [iblk0, places0 t]
theorem post0_at (t : Fin cfg0.N) (d : Fin 1024) :
    (iblk0 (fun c b => StableHlo.after hostOps0 (W c) b) c 2 t : FVec Ideal S1x1024 .f32) (ix2 0 d) = (W c (Proc.devRef .tc main_arg2) : FVec Ideal S1024 .f32) (ix1 d) := by
  blk_ext! [iblk0, places0 t]
theorem gl0_at (t : Fin cfg0.N) (d : Fin 1024) :
    (iblk0 (fun c b => StableHlo.after hostOps0 (W c) b) c 5 t : FVec Ideal S1x1024 .f32) (ix2 0 d) = (W c (Proc.devRef .tc main_arg5) : FVec Ideal S1024 .f32) (ix1 d) := by
  blk_ext! [iblk0, places0 t]
theorem bl0_at (t : Fin cfg0.N) (d : Fin 1024) :
    (iblk0 (fun c b => StableHlo.after hostOps0 (W c) b) c 6 t : FVec Ideal S1x1024 .f32) (ix2 0 d) = (W c (Proc.devRef .tc main_arg6) : FVec Ideal S1024 .f32) (ix1 d) := by
  blk_ext! [iblk0, places0 t]
theorem u0_at (t : Fin cfg0.N) (k : Fin 1024) (j : Fin 2048) :
    (iblk0 (fun c b => StableHlo.after hostOps0 (W c) b) c 3 t : FVec Ideal S1024x2048 .bf16) (ix2 k j) = (W c (Proc.devRef .tc main_arg3) : FVec Ideal S1024x2048 .f32) (ix2 k j) := by
  blk_ext! [iblk0, places0 t]
theorem v0_at (t : Fin cfg0.N) (j : Fin 2048) :
    (iblk0 (fun c b => StableHlo.after hostOps0 (W c) b) c 4 t : FVec Ideal S1x2048 .f32) (ix2 0 j) = (W c (Proc.devRef .tc main_arg4) : FVec Ideal S2048 .f32) (ix1 j) := by
  blk_ext! [iblk0, places0 t]
theorem ws0_at (t : Fin cfg0.N) (g : Fin 8) (s k : Fin 128) :
    (iblk0 (fun c b => StableHlo.after hostOps0 (W c) b) c 7 t : FVec Ideal S8x128x128 .f32) (ix3 g s k) = (W c (Proc.devRef .tc main_arg7) : FVec Ideal S8x128x128 .f32) (ix3 g s k) := by
  blk_ext! [iblk0, places0 t]
theorem bs0_at (t : Fin cfg0.N) (n : Fin 4) (s : Fin 128) (g : Fin 8) (k : Fin 128) :
    (iblk0 (fun c b => StableHlo.after hostOps0 (W c) b) c 8 t : FVec Ideal S512x1024 .f32) (ix2 (locNo n s) (chNo g k)) = (W c (Proc.devRef .tc main_arg8) : FVec Ideal S8x128 .f32) (ix2 g s) := by
  unfold locNo chNo
  blk_ext! [iblk0, places0 t]
theorem o0_at (t : Fin cfg0.N) (e d : Fin 1024) :
    (iblk0 (fun c b => StableHlo.after hostOps0 (W c) b) c 9 t : FVec Ideal S1024x1024 .bf16) (ix2 e d) = (W c (Proc.devRef .tc main_arg9) : FVec Ideal S1024x1024 .f32) (ix2 e d) := by
  blk_ext! [iblk0, places0 t]

theorem x1_at (t : Fin cfg1.N) (r : Fin 512) (d : Fin 1024) :
    (iblk1 (fun c b => StableHlo.after hostOps1 (W c) b) c 0 t : FVec Ideal S512x1024 .f32) (ix2 r d) = (W c (Proc.devRef .tc main_v13) : FVec Ideal S32768x1024 .f32) (ix2 (row1 t r) d) := by
  unfold row1
  blk_ext! [iblk1, places1 t]
theorem pre1_at (t : Fin cfg1.N) (d : Fin 1024) :
    (iblk1 (fun c b => StableHlo.after hostOps1 (W c) b) c 1 t : FVec Ideal S1x1024 .f32) (ix2 0 d) = (W c (Proc.devRef .tc main_arg10) : FVec Ideal S1024 .f32) (ix1 d) := by
  blk_ext! [iblk1, places1 t]
theorem post1_at (t : Fin cfg1.N) (d : Fin 1024) :
    (iblk1 (fun c b => StableHlo.after hostOps1 (W c) b) c 2 t : FVec Ideal S1x1024 .f32) (ix2 0 d) = (W c (Proc.devRef .tc main_arg11) : FVec Ideal S1024 .f32) (ix1 d) := by
  blk_ext! [iblk1, places1 t]
theorem gate1_at (t : Fin cfg1.N) (k : Fin 1024) (f : Fin 1408) :
    (iblk1 (fun c b => StableHlo.after hostOps1 (W c) b) c 3 t : FVec Ideal S1024x1408 .bf16) (ix2 k f) = (W c (Proc.devRef .tc main_arg12) : FVec Ideal S1024x2816 .f32) (ix2 k (col1 t f)) := by
  unfold col1
  blk_ext! [iblk1, places1 t]
theorem up1_at (t : Fin cfg1.N) (k : Fin 1024) (f : Fin 1408) :
    (iblk1 (fun c b => StableHlo.after hostOps1 (W c) b) c 4 t : FVec Ideal S1024x1408 .bf16) (ix2 k f) = (W c (Proc.devRef .tc main_arg13) : FVec Ideal S1024x2816 .f32) (ix2 k (col1 t f)) := by
  unfold col1
  blk_ext! [iblk1, places1 t]
theorem down1_at (t : Fin cfg1.N) (f : Fin 1408) (d : Fin 1024) :
    (iblk1 (fun c b => StableHlo.after hostOps1 (W c) b) c 5 t : FVec Ideal S1408x1024 .bf16) (ix2 f d) = (W c (Proc.devRef .tc main_arg14) : FVec Ideal S2816x1024 .f32) (ix2 (col1 t f) d) := by
  unfold col1
  blk_ext! [iblk1, places1 t]

/-! ## What each call's result array ends holding -/

theorem first : (dat0 (fun c b => StableHlo.after hostOps0 (W c) b) c).arrAt 10 cfg0.N
    = (whole (W c (Proc.devRef .tc main_arg0)) (W c (Proc.devRef .tc main_arg1)) (W c (Proc.devRef .tc main_arg2)) (W c (Proc.devRef .tc main_arg3)) (W c (Proc.devRef .tc main_arg4)) (W c (Proc.devRef .tc main_arg5)) (W c (Proc.devRef .tc main_arg6)) (W c (Proc.devRef .tc main_arg7)) (W c (Proc.devRef .tc main_arg8)) (W c (Proc.devRef .tc main_arg9)) : FVec Ideal S32768x1024 .f32) := by
  refine (dat0 _ c).arrAt_eq_of_covers 10 _ (by decide +kernel) fun t hf y => ?_
  blk_simp
  rw [after0_10]
  obtain ⟨r, d, rfl⟩ : ∃ (r : Fin 512) (d : Fin 1024), y = ix2 r d := ⟨y 0, y 1, eq_ix2 y⟩
  have place : ((cfg0.win 10).blk t).view.emb (ix2 r d) = (ix2 (row0 t r) d : S32768x1024.Idx) := by
    unfold row0
    blk_ext [places0 t]
  refine Eq.trans ?_ (congrArg (whole (W c (Proc.devRef .tc main_arg0)) (W c (Proc.devRef .tc main_arg1)) (W c (Proc.devRef .tc main_arg2)) (W c (Proc.devRef .tc main_arg3)) (W c (Proc.devRef .tc main_arg4)) (W c (Proc.devRef .tc main_arg5)) (W c (Proc.devRef .tc main_arg6)) (W c (Proc.devRef .tc main_arg7)) (W c (Proc.devRef .tc main_arg8)) (W c (Proc.devRef .tc main_arg9)) : FVec Ideal S32768x1024 .f32) place.symm)
  obtain ⟨n, s, rfl⟩ := exists_locNo r
  rw [row0_locNo]
  exact Cert.SguKernelIdeal.Result.block_done (W c (Proc.devRef .tc main_arg0)) (W c (Proc.devRef .tc main_arg1)) (W c (Proc.devRef .tc main_arg2)) (W c (Proc.devRef .tc main_arg3)) (W c (Proc.devRef .tc main_arg4)) (W c (Proc.devRef .tc main_arg5)) (W c (Proc.devRef .tc main_arg6)) (W c (Proc.devRef .tc main_arg7)) (W c (Proc.devRef .tc main_arg8)) (W c (Proc.devRef .tc main_arg9))
    (seq0 t) (chunk0 t) _ _ _ _ _ _ _ _ _ _
    (fun n s k => (x0_at W c t (locNo n s) k).trans (by rw [row0_locNo])) (pre0_at W c t) (post0_at W c t) (u0_at W c t) (v0_at W c t)
    (gl0_at W c t) (bl0_at W c t) (ws0_at W c t) (bs0_at W c t) (o0_at W c t) n s d

/-! The sublayer's body functions are the ones its own program has: this program reads the rows through one more reshape to their own shape. -/
theorem rows_same (x : FVec Ideal S512x1024 .f32) (p : FVec Ideal S1x1024 .f32) :
    k1_pay1 (F := Ideal) x p = Cert.FfnKernelIdeal.Gen.k0_pay1 (F := Ideal) x p := funext fun i => by
  obtain ⟨r, d, rfl⟩ : ∃ (r : Fin 512) (d : Fin 1024), i = ix2 r d := ⟨i 0, i 1, eq_ix2 i⟩
  refine Eq.trans ?_ (Cert.FfnKernelIdeal.Result.pay1_at x p r d).symm
  unfold rmsEntry
  pointwise [k1_pay1]
theorem zero_same : k1_pay2 (F := Ideal) = Cert.FfnKernelIdeal.Gen.k0_pay2 (F := Ideal) := by sl_kernel_rfl
theorem sum_same (h : FVec Ideal S512x1024 .bf16) (g u : FVec Ideal S1024x1408 .bf16) (acc : FVec Ideal S512x1024 .f32) (d : FVec Ideal S1408x1024 .bf16) :
    k1_pay3 (F := Ideal) h g u acc d = Cert.FfnKernelIdeal.Gen.k0_pay3 (F := Ideal) h g u acc d := by sl_kernel_rfl
theorem done_same (x acc : FVec Ideal S512x1024 .f32) (q : FVec Ideal S1x1024 .f32) :
    k1_pay4 (F := Ideal) x acc q = Cert.FfnKernelIdeal.Gen.k0_pay4 (F := Ideal) x acc q := funext fun i => by
  obtain ⟨r, d, rfl⟩ : ∃ (r : Fin 512) (d : Fin 1024), i = ix2 r d := ⟨i 0, i 1, eq_ix2 i⟩
  refine Eq.trans ?_ (Cert.FfnKernelIdeal.Result.pay4_at x acc q r d).symm
  unfold rmsEntry
  pointwise [k1_pay4]

theorem second : (dat1 (fun c b => StableHlo.after hostOps1 (W c) b) c).arrAt 6 cfg1.N
    = (residual (W c (Proc.devRef .tc main_v13))
      (normed (down_of (W c (Proc.devRef .tc main_v13)) (W c (Proc.devRef .tc main_arg10)) (W c (Proc.devRef .tc main_arg12)) (W c (Proc.devRef .tc main_arg13)) (W c (Proc.devRef .tc main_arg14))) (W c (Proc.devRef .tc main_arg11))) : FVec Ideal S32768x1024 .f32) := by
  refine (dat1 _ c).arrAt_eq_of_covers 6 _ (by decide +kernel) fun t hf y => ?_
  have h : t.val % 2 = 1 := (flush1_6 t).mp hf
  blk_simp
  rw [after1_6]
  obtain ⟨r, d, rfl⟩ : ∃ (r : Fin 512) (d : Fin 1024), y = ix2 r d := ⟨y 0, y 1, eq_ix2 y⟩
  have place : ((cfg1.win 6).blk t).view.emb (ix2 r d) = (ix2 (row1 t r) d : S32768x1024.Idx) := by
    unfold row1
    blk_ext [places1 t]
  refine Eq.trans ?_ (congrArg (residual (W c (Proc.devRef .tc main_v13))
      (normed (down_of (W c (Proc.devRef .tc main_v13)) (W c (Proc.devRef .tc main_arg10)) (W c (Proc.devRef .tc main_arg12)) (W c (Proc.devRef .tc main_arg13)) (W c (Proc.devRef .tc main_arg14))) (W c (Proc.devRef .tc main_arg11))) : FVec Ideal S32768x1024 .f32) place.symm)
  have h0 := Cert.FfnKernelIdeal.Result.block_done (W c (Proc.devRef .tc main_v13)) (W c (Proc.devRef .tc main_arg10)) (W c (Proc.devRef .tc main_arg11)) (W c (Proc.devRef .tc main_arg12)) (W c (Proc.devRef .tc main_arg13)) (W c (Proc.devRef .tc main_arg14))
    (row1 t) _ _ _ _ _ _ _ _ _ _ (x1_at W c t) (fun r k => (x1_at W c (before t) r k).trans (by rw [row1_before t h])) (pre1_at W c (before t)) (post1_at W c t)
    (fun k f => (gate1_at W c t k f).trans (by rw [col1_odd t h])) (fun k f => (gate1_at W c (before t) k f).trans (by rw [col1_before t h]))
    (fun k f => (up1_at W c t k f).trans (by rw [col1_odd t h])) (fun k f => (up1_at W c (before t) k f).trans (by rw [col1_before t h]))
    (fun f k => (down1_at W c t f k).trans (by rw [col1_odd t h])) (fun f k => (down1_at W c (before t) f k).trans (by rw [col1_before t h])) r d
  unfold doneAt sumAt rowsAt doneOf sumOf rowsOf zeroOf
  rw [done_same, sum_same, sum_same, rows_same, zero_same]
  exact h0

end

/-! ## The whole tail -/

variable (m : (ℓ : Loc nD τ sig) → Buf (Elt Ideal) ℓ) (ρ : Dev nD → PrngReg) (c : Dev nD)

/-- The rows after the mixer. -/
def mixedRows : FVec Ideal S32768x1024 .f32 :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem result : (dat1 (V3 m ρ) c).arrAt 6 cfg1.N
    = (residual (mixedRows m c) (normed (down_of (mixedRows m c) (m ((c : Thread nD τ).loc main_arg10)) (m ((c : Thread nD τ).loc main_arg12)) (m ((c : Thread nD τ).loc main_arg13)) (m ((c : Thread nD τ).loc main_arg14))) (m ((c : Thread nD τ).loc main_arg11))) : FVec Ideal S32768x1024 .f32) := by
  have e : (W2 m ρ c (Proc.devRef .tc main_v13) : FVec Ideal S32768x1024 .f32) = mixedRows m c :=
    (W2_arr m ρ c 10).trans (first (W0 m ρ) c)
  refine (second (W2 m ρ) c).trans ?_
  rw [e, W2_args m ρ c main_arg10 (by decide), W2_args m ρ c main_arg11 (by decide), W2_args m ρ c main_arg12 (by decide),
    W2_args m ρ c main_arg13 (by decide), W2_args m ρ c main_arg14 (by decide)]

end Cert.TailKernelIdeal.Result

end
-- ==== Proof.SbBody.lean ====
/-
  What one grid point of the stick-breaking attention kernel leaves in its output block: the carried log-sums and the
  accumulated values of the two heads, after the diagonal key tile and then after the tiles before it, last tile first.
-/
module

public import proofs.«01_k».proof.Proof.Gen.SbKernelIdeal.Frame
public import Idealize.ShloMosaic.Lib.Pipeline.ValueKit
public import Idealize.ShloMosaic.Lib.Tactic

@[expose] public section

set_option maxRecDepth 16384

noncomputable section

namespace Cert.SbKernelIdeal.Body

open Cert.SbKernelIdeal Cert.SbKernelIdeal.Gen
open Idealize.ShloMosaic Idealize.ShloMosaic.TcCoe Idealize.SL.Sem

variable {F : FTy → Type} [FloatOps F]

/-- What the two scratch buffers hold of the two heads: the carried log-sums and the accumulated values. -/
structure Carried (F : FTy → Type) [FloatOps F] where
  /-- the carried log-sums of the first head -/
  c0 : Vec F S1x256x128 .f32
  /-- and of the second -/
  c1 : Vec F S1x256x128 .f32
  /-- the accumulated values of the first head -/
  a0 : Vec F S1x256x128 .f32
  /-- and of the second -/
  a1 : Vec F S1x256x128 .f32

/-- The carried log-sums of a head after a full key tile. -/
def nextC (q : FVec F S256x128 .bf16) (K : Vec F S1x256x128 .bf16) (W : Vec F S256x256 .bf16) (C : Vec F S1x256x128 .f32) :
    Vec F S1x256x128 .f32 := k0_pay15 (k0_pay4 W) (k0_pay11 q K W C) (k0_pay12 q K)

/-- The accumulated values of a head after a full key tile. -/
def nextA (q : FVec F S256x128 .bf16) (K V : Vec F S1x256x128 .bf16) (W : Vec F S256x256 .bf16) (C A : Vec F S1x256x128 .f32) :
    Vec F S1x256x128 .f32 := k0_pay16 (k0_pay3 V) (k0_pay4 W) (k0_pay10 q K W C) (k0_pay11 q K W C) (k0_pay12 q K) A

/-- The row and the column numbers of a tile. -/
def rowNo : IVec S256x128 32 := iota Kind.tc S256x128 32 [0] iota_S256x128_d0_w32
def colNo : IVec S256x128 32 := iota Kind.tc S256x128 32 [1] iota_S256x128_d1_w32

/-- The carried log-sums of a head after the diagonal key tile. -/
def firstC (q : FVec F S256x128 .bf16) (K : Vec F S1x256x128 .bf16) (W : Vec F S256x256 .bf16) (C : Vec F S1x256x128 .f32) :
    Vec F S1x256x128 .f32 :=
  k0_pay78 rowNo colNo (k0_pay63 W) (k0_pay71 q rowNo colNo (k0_pay61 K) W C) (k0_pay73 q (k0_pay61 K)) (k0_pay74 q (k0_pay61 K))
    (FloatOps.ofBits FTy.f32 0#32)

/-- The accumulated values of a head after the diagonal key tile. -/
def firstA (q : FVec F S256x128 .bf16) (K V : Vec F S1x256x128 .bf16) (W : Vec F S256x256 .bf16) (C A : Vec F S1x256x128 .f32) :
    Vec F S1x256x128 .f32 :=
  k0_pay79 rowNo colNo (k0_pay62 V) (k0_pay63 W) (k0_pay70 q rowNo colNo (k0_pay61 K) W C) (k0_pay71 q rowNo colNo (k0_pay61 K) W C)
    (k0_pay72 q (k0_pay61 K)) (k0_pay73 q (k0_pay61 K)) (k0_pay74 q (k0_pay61 K)) (FloatOps.ofBits FTy.f32 0#32) A

/-- One full key tile. -/
def step (q0 q1 : FVec F S256x128 .bf16) (K V : Vec F S1x256x128 .bf16) (W : Vec F S256x256 .bf16) (s : Carried F) : Carried F :=
  ⟨nextC q0 K W s.c0, nextC q1 K W s.c1, nextA q0 K V W s.c0 s.a0, nextA q1 K V W s.c1 s.a1⟩

/-- The diagonal key tile. -/
def first (q0 q1 : FVec F S256x128 .bf16) (K V : Vec F S1x256x128 .bf16) (W : Vec F S256x256 .bf16) (s : Carried F) : Carried F :=
  ⟨firstC q0 K W s.c0, firstC q1 K W s.c1, firstA q0 K V W s.c0 s.a0, firstA q1 K V W s.c1 s.a1⟩

/-- `k` full key tiles one after the other. -/
def steps (q0 q1 : FVec F S256x128 .bf16) (K V : ℕ → Vec F S1x256x128 .bf16) (W : Vec F S256x256 .bf16) (s : Carried F) : ℕ → Carried F
  | 0 => s
  | k + 1 => step q0 q1 (K k) (V k) W (steps q0 q1 K V W s k)

/-- Nothing carried, nothing accumulated. -/
def nothing : Carried F := ⟨fun _ => FloatOps.ofBits FTy.f32 0#32, fun _ => FloatOps.ofBits FTy.f32 0#32,
  fun _ => FloatOps.ofBits FTy.f32 0#32, fun _ => FloatOps.ofBits FTy.f32 0#32⟩

theorem carried_eq {c0 c1 a0 a1 c0' c1' a0' a1' : Vec F S1x256x128 .f32} (h0 : c0 = c0') (h1 : c1 = c1') (h2 : a0 = a0') (h3 : a1 = a1') :
    (⟨c0, c1, a0, a1⟩ : Carried F) = ⟨c0', c1', a0', a1'⟩ := by subst h0 h1 h2 h3; rfl

/-! ## The halves of a scratch buffer -/

/-- The first head's half of a scratch buffer, -/
abbrev half0 : Rect S2x256x128 := Rect.unit (s := S2x256x128) ![0, 0, 0] S1x256x128.size inb_S2x256x128_S1x256x128_0_0_0
/-- and the second head's. -/
abbrev half1 : Rect S2x256x128 := Rect.unit (s := S2x256x128) ![1, 0, 0] S1x256x128.size inb_S2x256x128_S1x256x128_1_0_0

/-- What a list of stores leaves in a half. -/
def left (r : Rect S2x256x128) (L : List (View.Piece (Elt F) S2x256x128 .f32)) : r.toLoadRect.shape.Idx → Elt F .f32 :=
  fun j => View.canon L (r.toLoadRect.idx j)

theorem left_same (r : Rect S2x256x128) (w : r.shape.Idx → Elt F .f32) (L : List (View.Piece (Elt F) S2x256x128 .f32)) :
    left r (⟨r, w⟩ :: L) = w := funext fun j => View.canon_cons_emb r w L j

theorem left0_other (w : half1.shape.Idx → Elt F .f32) (L : List (View.Piece (Elt F) S2x256x128 .f32)) :
    left half0 (⟨half1, w⟩ :: L) = left half0 L :=
  funext fun j => View.canon_cons_of_not_mem ⟨half1, w⟩ L (LoadRect.idx_not_mem_of_disj (show LoadRect.disj half1 half0.toLoadRect = true by decide) j)

theorem left1_other (w : half0.shape.Idx → Elt F .f32) (L : List (View.Piece (Elt F) S2x256x128 .f32)) :
    left half1 (⟨half0, w⟩ :: L) = left half1 L :=
  funext fun j => View.canon_cons_of_not_mem ⟨half0, w⟩ L (LoadRect.idx_not_mem_of_disj (show LoadRect.disj half0 half1.toLoadRect = true by decide) j)

theorem off000 : ∀ a, (![0, 0, 0] : Fin 3 → Nat) a = 0 := fun a => by fin_cases a <;> rfl

theorem left_fill (r : Rect S2x256x128) (Z : S2x256x128.Idx → Elt F .f32) (L : List (View.Piece (Elt F) S2x256x128 .f32)) :
    left r (⟨Rect.unit (s := S2x256x128) ![0, 0, 0] S2x256x128.size inb_S2x256x128_S2x256x128_0_0_0, Z⟩ :: L) = fun j => Z (r.toLoadRect.idx j) := by
  unfold left
  rw [View.canon_cons_unit_lit inb_S2x256x128_S2x256x128_0_0_0 Z L off000]

theorem readCov_left {sig : RefSig} {κ : Kind} {sp : Space} (v : View sig κ sp S2x256x128 .f32) (r : Rect S2x256x128)
    (L : List (View.Piece (Elt F) S2x256x128 .f32)) : v.readCov L r.toLoadRect = left r L := View.readCov_eq_canon' v L _

theorem readAt_left {sig : RefSig} {κ : Kind} {sp : Space} (v : View sig κ sp S2x256x128 .f32) (r : Rect S2x256x128)
    (L : List (View.Piece (Elt F) S2x256x128 .f32)) : v.readAt (Elt F) r.toLoadRect (v.writes (Elt F) v.junk L) = left r L :=
  View.readAt_writes_junk_eq_canon v L _

/-! ## One trip -/

/-- The stores of one trip. -/
theorem trip_eq (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole) (arg8 : Memref sig .tc .vmem S2x256x128 .f32) (harg8 : arg8.IsWhole) (arg9 : Memref sig .tc .vmem S2x256x128 .f32) (harg9 : arg9.IsWhole) (arg2 : BitVec 32) (v10 : FVec F S256x128 .bf16) (v15 : FVec F S256x128 .bf16) (v35 : FVec F S256x128 .bf16) (v37 : FVec F S256x256 .bf16) (v148 : FVec F S256x128 .bf16) (v150 : FVec F S256x128 .f32) (v151 : FVec F S256x128 .f32) (v161 : FVec F S256x128 .f32) (v164 : IVec S256x128 1) (X_arg4 : BufTy.Contents (Elt F) arg4.view.ty) (X_arg5 : BufTy.Contents (Elt F) arg5.view.ty) (X_arg6 : BufTy.Contents (Elt F) arg6.view.ty) (k : Fin (k0_t1_loop i).trips) (f_arg8 : BufTy.Contents (Elt F) arg8.view.ty) (f_arg9 : BufTy.Contents (Elt F) arg9.view.ty) :
    tripL_k0_t1 𝒱 c bd i arg3 harg3 arg4 harg4 arg5 harg5 arg6 harg6 arg7 harg7 arg8 harg8 arg9 harg9 arg2 v10 v15 v35 v37 v148 v150 v151 v161 v164 X_arg4 X_arg5 X_arg6 k f_arg8 f_arg9
      = ([⟨half1, nextC v15 (View.readAt (Elt F) arg4.view (Rect.unit (s := S1x8192x128) (k0_off2 i k) S1x256x128.size (k0_off2_inb i k)).toLoadRect X_arg4)
              (View.readAt (Elt F) arg6.view (Rect.unit (s := S256x256) ![0, 0] S256x256.size inb_S256x256_S256x256_0_0).toLoadRect X_arg6)
              (View.readAt (Elt F) arg8.view half1.toLoadRect f_arg8)⟩,
          ⟨half0, nextC v10 (View.readAt (Elt F) arg4.view (Rect.unit (s := S1x8192x128) (k0_off2 i k) S1x256x128.size (k0_off2_inb i k)).toLoadRect X_arg4)
              (View.readAt (Elt F) arg6.view (Rect.unit (s := S256x256) ![0, 0] S256x256.size inb_S256x256_S256x256_0_0).toLoadRect X_arg6)
              (View.readAt (Elt F) arg8.view half0.toLoadRect f_arg8)⟩],
         [⟨half1, nextA v15 (View.readAt (Elt F) arg4.view (Rect.unit (s := S1x8192x128) (k0_off2 i k) S1x256x128.size (k0_off2_inb i k)).toLoadRect X_arg4)
              (View.readAt (Elt F) arg5.view (Rect.unit (s := S1x8192x128) (k0_off2 i k) S1x256x128.size (k0_off2_inb i k)).toLoadRect X_arg5)
              (View.readAt (Elt F) arg6.view (Rect.unit (s := S256x256) ![0, 0] S256x256.size inb_S256x256_S256x256_0_0).toLoadRect X_arg6)
              (View.readAt (Elt F) arg8.view half1.toLoadRect f_arg8) (View.readAt (Elt F) arg9.view half1.toLoadRect f_arg9)⟩,
          ⟨half0, nextA v10 (View.readAt (Elt F) arg4.view (Rect.unit (s := S1x8192x128) (k0_off2 i k) S1x256x128.size (k0_off2_inb i k)).toLoadRect X_arg4)
              (View.readAt (Elt F) arg5.view (Rect.unit (s := S1x8192x128) (k0_off2 i k) S1x256x128.size (k0_off2_inb i k)).toLoadRect X_arg5)
              (View.readAt (Elt F) arg6.view (Rect.unit (s := S256x256) ![0, 0] S256x256.size inb_S256x256_S256x256_0_0).toLoadRect X_arg6)
              (View.readAt (Elt F) arg8.view half0.toLoadRect f_arg8) (View.readAt (Elt F) arg9.view half0.toLoadRect f_arg9)⟩]) := by
  dsimp only [tripL_k0_t1]
  unfold trip_k0_t1
  dsimp only
  sl_unfold_words
  rfl

/-! ## The loads -/

/-- Key tile `n` of a staged array of 8192 rows. -/
def slab (x : Vec F S1x8192x128 .bf16) (n : ℕ) : Vec F S1x256x128 .bf16 :=
  fun y => x (ix3 0 (⟨(256 * n + (y 1).val) % 8192, Nat.mod_lt _ (by decide)⟩ : Fin 8192) (y 2))

theorem trips_eq : ∀ i : grid0.Coords, (k0_t1_loop i).trips = (i 2).val := by decide +kernel

set_option maxRecDepth 100000 in
theorem off2_eq : ∀ (i : grid0.Coords) (k : Fin (k0_t1_loop i).trips), k0_off2 i k = ![0, 256 * ((i 2).val - 1 - k.val), 0] := by decide +kernel

theorem ld_slab (x : Vec F S1x8192x128 .bf16) (n : ℕ) (hn : n < 32) (off : Fin 3 → ℕ) (ho : off = ![0, 256 * n, 0])
    (inb : ∀ a, off a + S1x256x128.size a ≤ S1x8192x128.size a) :
    View.ld x (Rect.unit (s := S1x8192x128) off (no_index S1x256x128.size) inb) = slab x n := by
  subst ho
  funext y
  have h0 : (y 0).val < 1 := (y 0).isLt
  have h1 : (y 1).val < 256 := (y 1).isLt
  unfold slab
  refine congrArg x (funext fun a => Fin.ext ?_)
  fin_cases a
  · show 0 + 1 * (y 0).val = 0; omega
  · show 256 * n + 1 * (y 1).val = (256 * n + (y 1).val) % 8192; omega
  · show 0 + 1 * (y 2).val = (y 2).val; omega

/-! ## The loop -/

/-- After `k` trips the two scratch buffers hold what `k` full key tiles leave. -/
theorem loop_eq (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole) (arg8 : Memref sig .tc .vmem S2x256x128 .f32) (harg8 : arg8.IsWhole) (arg9 : Memref sig .tc .vmem S2x256x128 .f32) (harg9 : arg9.IsWhole) (arg2 : BitVec 32) (v10 : FVec F S256x128 .bf16) (v15 : FVec F S256x128 .bf16) (v35 : FVec F S256x128 .bf16) (v37 : FVec F S256x256 .bf16) (v148 : FVec F S256x128 .bf16) (v150 : FVec F S256x128 .f32) (v151 : FVec F S256x128 .f32) (v161 : FVec F S256x128 .f32) (v164 : IVec S256x128 1)
    (x1 : Vec F S1x8192x128 .bf16) (x2 : Vec F S1x8192x128 .bf16) (x3 : Vec F S256x256 .bf16)
    (L8 L9 : List (View.Piece (Elt F) S2x256x128 .f32)) (k : ℕ) (hk : k ≤ (k0_t1_loop i).trips) :
    let s : Carried F := steps v10 v15 (fun k => slab x1 ((i 2).val - 1 - k)) (fun k => slab x2 ((i 2).val - 1 - k)) x3
      ⟨left half0 L8, left half1 L8, left half0 L9, left half1 L9⟩ k
    let p := pb_k0_t1 𝒱 c bd i arg3 harg3 arg4 harg4 arg5 harg5 arg6 harg6 arg7 harg7 arg8 harg8 arg9 harg9 arg2 v10 v15 v35 v37 v148 v150 v151 v161 v164 (harg4.unread x1) (harg5.unread x2) (harg6.unread x3) (arg8.view.writes (Elt F) arg8.view.junk L8) (arg9.view.writes (Elt F) arg9.view.junk L9) k
    left half0 (p.1 ++ L8) = s.c0 ∧ left half1 (p.1 ++ L8) = s.c1 ∧ left half0 (p.2 ++ L9) = s.a0 ∧ left half1 (p.2 ++ L9) = s.a1 := by
  induction k with
  | zero => exact ⟨rfl, rfl, rfl, rfl⟩
  | succ k ih =>
    have hk' : k < (k0_t1_loop i).trips := hk
    obtain ⟨e0, e1, e2, e3⟩ := ih (Nat.le_of_lt hk')
    have hn : (i 2).val - 1 - k < 32 := by have : (i 2).val < 32 := (i 2).isLt; omega
    have hs := pb_k0_t1_succ 𝒱 c bd i arg3 harg3 arg4 harg4 arg5 harg5 arg6 harg6 arg7 harg7 arg8 harg8 arg9 harg9 arg2 v10 v15 v35 v37 v148 v150 v151 v161 v164 (harg4.unread x1) (harg5.unread x2) (harg6.unread x3) (arg8.view.writes (Elt F) arg8.view.junk L8) (arg9.view.writes (Elt F) arg9.view.junk L9) ⟨k, hk'⟩
    rw [trip_eq] at hs
    dsimp only at hs e0 e1 e2 e3 ⊢
    rw [hs]
    simp only [← View.writes_append, readAt_left, List.cons_append, List.nil_append]
    simp only [View.readAt_eq_ld, harg4.read_unread, harg5.read_unread, harg6.read_unread,
      ld_slab x1 _ hn _ (off2_eq i ⟨k, hk'⟩), ld_slab x2 _ hn _ (off2_eq i ⟨k, hk'⟩),
      View.ld_unit_zero (S := S256x256) (show (![0, 0] : Fin 2 → Nat) = fun _ => 0 from funext fun a => by fin_cases a <;> rfl),
      left_same, left0_other, left1_other, e0, e1, e2, e3]
    exact ⟨rfl, rfl, rfl, rfl⟩

/-- The accumulated values of the first head after the loop, -/
theorem loop_a0 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole) (arg8 : Memref sig .tc .vmem S2x256x128 .f32) (harg8 : arg8.IsWhole) (arg9 : Memref sig .tc .vmem S2x256x128 .f32) (harg9 : arg9.IsWhole) (arg2 : BitVec 32) (v10 : FVec F S256x128 .bf16) (v15 : FVec F S256x128 .bf16) (v35 : FVec F S256x128 .bf16) (v37 : FVec F S256x256 .bf16) (v148 : FVec F S256x128 .bf16) (v150 : FVec F S256x128 .f32) (v151 : FVec F S256x128 .f32) (v161 : FVec F S256x128 .f32) (v164 : IVec S256x128 1)
    (x1 : Vec F S1x8192x128 .bf16) (x2 : Vec F S1x8192x128 .bf16) (x3 : Vec F S256x256 .bf16)
    (L8 L9 : List (View.Piece (Elt F) S2x256x128 .f32)) (k : ℕ) (hk : k = (k0_t1_loop i).trips) :
    left half0 ((pb_k0_t1 𝒱 c bd i arg3 harg3 arg4 harg4 arg5 harg5 arg6 harg6 arg7 harg7 arg8 harg8 arg9 harg9 arg2 v10 v15 v35 v37 v148 v150 v151 v161 v164 (harg4.unread x1) (harg5.unread x2) (harg6.unread x3) (arg8.view.writes (Elt F) arg8.view.junk L8) (arg9.view.writes (Elt F) arg9.view.junk L9) k).2 ++ L9)
      = (steps v10 v15 (fun k => slab x1 ((i 2).val - 1 - k)) (fun k => slab x2 ((i 2).val - 1 - k)) x3
          ⟨left half0 L8, left half1 L8, left half0 L9, left half1 L9⟩ (i 2).val).a0 := by
  have := (loop_eq 𝒱 c bd i arg3 harg3 arg4 harg4 arg5 harg5 arg6 harg6 arg7 harg7 arg8 harg8 arg9 harg9 arg2 v10 v15 v35 v37 v148 v150 v151 v161 v164 x1 x2 x3 L8 L9 k hk.le).2.2.1
  rw [this, hk, trips_eq]

/-- and of the second. -/
theorem loop_a1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole) (arg8 : Memref sig .tc .vmem S2x256x128 .f32) (harg8 : arg8.IsWhole) (arg9 : Memref sig .tc .vmem S2x256x128 .f32) (harg9 : arg9.IsWhole) (arg2 : BitVec 32) (v10 : FVec F S256x128 .bf16) (v15 : FVec F S256x128 .bf16) (v35 : FVec F S256x128 .bf16) (v37 : FVec F S256x256 .bf16) (v148 : FVec F S256x128 .bf16) (v150 : FVec F S256x128 .f32) (v151 : FVec F S256x128 .f32) (v161 : FVec F S256x128 .f32) (v164 : IVec S256x128 1)
    (x1 : Vec F S1x8192x128 .bf16) (x2 : Vec F S1x8192x128 .bf16) (x3 : Vec F S256x256 .bf16)
    (L8 L9 : List (View.Piece (Elt F) S2x256x128 .f32)) (k : ℕ) (hk : k = (k0_t1_loop i).trips) :
    left half1 ((pb_k0_t1 𝒱 c bd i arg3 harg3 arg4 harg4 arg5 harg5 arg6 harg6 arg7 harg7 arg8 harg8 arg9 harg9 arg2 v10 v15 v35 v37 v148 v150 v151 v161 v164 (harg4.unread x1) (harg5.unread x2) (harg6.unread x3) (arg8.view.writes (Elt F) arg8.view.junk L8) (arg9.view.writes (Elt F) arg9.view.junk L9) k).2 ++ L9)
      = (steps v10 v15 (fun k => slab x1 ((i 2).val - 1 - k)) (fun k => slab x2 ((i 2).val - 1 - k)) x3
          ⟨left half0 L8, left half1 L8, left half0 L9, left half1 L9⟩ (i 2).val).a1 := by
  have := (loop_eq 𝒱 c bd i arg3 harg3 arg4 harg4 arg5 harg5 arg6 harg6 arg7 harg7 arg8 harg8 arg9 harg9 arg2 v10 v15 v35 v37 v148 v150 v151 v161 v164 x1 x2 x3 L8 L9 k hk.le).2.2.2
  rw [this, hk, trips_eq]

/-- The second loop makes no trip. -/
theorem none_left (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole) (arg8 : Memref sig .tc .vmem S2x256x128 .f32) (harg8 : arg8.IsWhole) (arg9 : Memref sig .tc .vmem S2x256x128 .f32) (harg9 : arg9.IsWhole) (arg2 : BitVec 32) (v10 : FVec F S256x128 .bf16) (v15 : FVec F S256x128 .bf16) (v35 : FVec F S256x128 .bf16) (v37 : FVec F S256x256 .bf16) (v148 : FVec F S256x128 .bf16) (v150 : FVec F S256x128 .f32) (v151 : FVec F S256x128 .f32) (v161 : FVec F S256x128 .f32) (v164 : IVec S256x128 1)   (u : BitVec 32)
    (X4 : BufTy.Contents (Elt F) arg4.view.ty) (X5 : BufTy.Contents (Elt F) arg5.view.ty) (X6 : BufTy.Contents (Elt F) arg6.view.ty)
    (G8 : BufTy.Contents (Elt F) arg8.view.ty) (G9 : BufTy.Contents (Elt F) arg9.view.ty) (k : ℕ) (hk : k = 0) :
    pb_k0_t2 𝒱 c bd i arg3 harg3 arg4 harg4 arg5 harg5 arg6 harg6 arg7 harg7 arg8 harg8 arg9 harg9 arg2 v10 v15 v35 v37 v148 v150 v151 v161 v164 u X4 X5 X6 G8 G9 k = ([], []) := by
  subst hk
  rfl

/-! ## The body -/

set_option maxHeartbeats 4000000 in
/-- What a grid point leaves in its output block. -/
theorem out_eq (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S256x256 .bf16) (harg6 : arg6.IsWhole) (arg7 : Memref sig .tc .vmem S1x256x128 .bf16) (harg7 : arg7.IsWhole) (arg8 : Memref sig .tc .vmem S2x256x128 .f32) (harg8 : arg8.IsWhole) (arg9 : Memref sig .tc .vmem S2x256x128 .f32) (harg9 : arg9.IsWhole)
    (x0 : Vec F S1x256x128 .bf16) (x1 : Vec F S1x8192x128 .bf16) (x2 : Vec F S1x8192x128 .bf16) (x3 : Vec F S256x256 .bf16) :
    let s : Carried F := steps (k0_pay57 x0) (k0_pay58 x0) (fun k => slab x1 ((i 2).val - 1 - k)) (fun k => slab x2 ((i 2).val - 1 - k)) x3
      (first (k0_pay57 x0) (k0_pay58 x0) (slab x1 (i 2).val) (slab x2 (i 2).val) x3 nothing) (i 2).val
    out0_A_4 c i arg3 harg3 arg4 harg4 arg5 harg5 arg6 harg6 arg7 harg7 arg8 harg8 arg9 harg9 x0 x1 x2 x3 = k0_pay1 colNo k0_pay99 s.a0 s.a1 := by
  intro s
  unfold out0_A_4
  rw [View.read_writes_eq_canon _ _ _ (cover0_A_4 c i arg3 harg3 arg4 harg4 arg5 harg5 arg6 harg6 arg7 harg7 arg8 harg8 arg9 harg9 x0 x1 x2 x3)]
  unfold kernelRun0_A
  dsimp only
  sl_unfold_words
  rw [View.canon_unit_zero (S := S1x256x128) (funext off000)]
  simp only [readCov_left]
  have hn : (i 2).val < 32 := (i 2).isLt
  have ho : (![0, BitVec.toNat (Scalar.indexCast (Scalar.muli (Scalar.addi (Scalar.muli (BitVec.ofNat 32 (i 2).val) 1#32) 0#32) 256#32)), 0] : Fin 3 → ℕ)
      = ![0, 256 * (i 2).val, 0] := k0_off1_eq i
  simp only [View.readAt_eq_ld, harg3.read_unread, harg4.read_unread, harg5.read_unread, harg6.read_unread,
    View.ld_unit_zero (S := S256x256) (show (![0, 0] : Fin 2 → Nat) = fun _ => 0 from funext fun a => by fin_cases a <;> rfl),
    View.ld_unit_zero (S := S1x256x128) (funext off000)]
  generalize hK : View.ld x1 _ = K
  generalize hV : View.ld x2 _ = V
  have hK' : K = slab x1 (i 2).val := hK.symm.trans (ld_slab x1 _ hn _ ho _)
  have hV' : V = slab x2 (i 2).val := hV.symm.trans (ld_slab x2 _ hn _ ho _)
  clear hK hV
  subst hK' hV'
  rw [none_left (hk := Nat.le_zero.mp (k0_t2_abs i).2.1)]
  simp only [List.nil_append]
  rw [loop_a0 (hk := rfl), loop_a1 (hk := rfl)]
  have key : ∀ s' : Carried F, s' = first (k0_pay57 x0) (k0_pay58 x0) (slab x1 (i 2).val) (slab x2 (i 2).val) x3 nothing →
      k0_pay1 colNo k0_pay99
          (steps (k0_pay57 x0) (k0_pay58 x0) (fun k => slab x1 ((i 2).val - 1 - k)) (fun k => slab x2 ((i 2).val - 1 - k)) x3 s' (i 2).val).a0
          (steps (k0_pay57 x0) (k0_pay58 x0) (fun k => slab x1 ((i 2).val - 1 - k)) (fun k => slab x2 ((i 2).val - 1 - k)) x3 s' (i 2).val).a1
        = k0_pay1 colNo k0_pay99 s.a0 s.a1 := by rintro _ rfl; rfl
  refine key _ ?_
  clear key
  generalize z0 : left _ [(⟨Rect.unit (s := S2x256x128) ![0, 0, 0] ![2, 256, 128] inb_S2x256x128_S2x256x128_0_0_0, k0_pay59⟩ : View.Piece (Elt F) S2x256x128 .f32)] = Z0
  generalize z1 : left _ [_, (⟨Rect.unit (s := S2x256x128) ![0, 0, 0] ![2, 256, 128] inb_S2x256x128_S2x256x128_0_0_0, k0_pay59⟩ : View.Piece (Elt F) S2x256x128 .f32)] = Z1
  generalize z2 : left _ [(⟨Rect.unit (s := S2x256x128) ![0, 0, 0] ![2, 256, 128] inb_S2x256x128_S2x256x128_0_0_0, k0_pay60⟩ : View.Piece (Elt F) S2x256x128 .f32)] = Z2
  generalize z3 : left _ [_, (⟨Rect.unit (s := S2x256x128) ![0, 0, 0] ![2, 256, 128] inb_S2x256x128_S2x256x128_0_0_0, k0_pay60⟩ : View.Piece (Elt F) S2x256x128 .f32)] = Z3
  have e0 : Z0 = fun _ => FloatOps.ofBits FTy.f32 0#32 := z0.symm.trans (left_fill _ _ _)
  have e1 : Z1 = fun _ => FloatOps.ofBits FTy.f32 0#32 := z1.symm.trans ((left1_other _ _).trans (left_fill _ _ _))
  have e2 : Z2 = fun _ => FloatOps.ofBits FTy.f32 0#32 := z2.symm.trans (left_fill _ _ _)
  have e3 : Z3 = fun _ => FloatOps.ofBits FTy.f32 0#32 := z3.symm.trans ((left1_other _ _).trans (left_fill _ _ _))
  clear z0 z1 z2 z3
  subst e0 e1 e2 e3
  exact carried_eq ((left0_other _ _).trans (left_same half0 _ _)) (left_same half1 _ _)
    ((left0_other _ _).trans (left_same half0 _ _)) (left_same half1 _ _)

end Cert.SbKernelIdeal.Body

end
-- ==== Proof.SbMath.lean ====
/-
  The mathematics of one row of the stick-breaking attention: the log-probability that a key fails to take the stick, the
  sum of these over the later keys, the weight of a key and the weighted sum of the values, over keys counted by naturals;
  and how a tile of 256 keys, cut in two blocks of 128, extends the sums.
-/
module

public import Idealize.ShloMosaic.Lib.Pointwise

@[expose] public section

set_option maxRecDepth 16384

noncomputable section

namespace Cert.StickBreaking

open Idealize.ShloMosaic

/-- `log (1 + exp z)`, as the kernel writes it. -/
def splus (z : EReal) : EReal := max z 0 + Ideal.log (1 + Ideal.exp (0 - max z (-z)))

/-- The same as the reference writes it. -/
def rsoft (x : EReal) : EReal := max x 0 + Ideal.log1p (Ideal.exp (-(max (x - 0) (-(x - 0)))))

/-- The log-probability that key `s` fails, for a query at position `t` with scores `z`: nothing from the query on. -/
def fail (t : ℕ) (z : ℕ → EReal) (s : ℕ) : EReal := if s < t then -(splus (z s)) else 0

/-- The sum of these from key `n` on. -/
def rest (t : ℕ) (z : ℕ → EReal) (n : ℕ) : EReal := ∑ s ∈ Finset.Ico n 8192, fail t z s

/-- The weight of key `s`. -/
def weight (t : ℕ) (z : ℕ → EReal) (s : ℕ) : EReal :=
  if s < t then Ideal.exp (z s - splus (z s) + rest t z (s + 1)) else 0

/-- The weighted values from key `n` on. -/
def mixed (t : ℕ) (z v : ℕ → EReal) (n : ℕ) : EReal := ∑ s ∈ Finset.Ico n 8192, weight t z s * v s

/-! ## The softplus -/

theorem coe_max (x y : ℝ) : ((max x y : ℝ) : EReal) = max (x : EReal) (y : EReal) := EReal.coe_strictMono.monotone.map_max

theorem exp_coe (x : ℝ) : Ideal.exp (x : EReal) = (Real.exp x : ℝ) := rfl

theorem log_one_add_exp (x : ℝ) : Ideal.log (1 + ((Real.exp x : ℝ) : EReal)) = ((Real.log (1 + Real.exp x) : ℝ) : EReal) := by
  have h : (1 : EReal) + ((Real.exp x : ℝ) : EReal) = ((1 + Real.exp x : ℝ) : EReal) := by push_cast; rfl
  rw [h]
  show (if (1 + Real.exp x : ℝ) ≤ 0 then (⊥ : EReal) else _) = _
  rw [if_neg (by have := Real.exp_pos x; linarith)]

theorem log_one : Ideal.log (1 + 0) = 0 := by
  rw [add_zero]
  show (if (1 : ℝ) ≤ 0 then (⊥ : EReal) else ((Real.log 1 : ℝ) : EReal)) = 0
  rw [if_neg (by norm_num), Real.log_one]
  rfl

theorem splus_coe (x : ℝ) : splus (x : EReal) = ((max x 0 + Real.log (1 + Real.exp (-|x|)) : ℝ) : EReal) := by
  unfold splus
  have h : (0 : EReal) - max (x : EReal) (-(x : EReal)) = ((-|x| : ℝ) : EReal) := by
    rw [← EReal.coe_neg, ← coe_max, zero_sub, ← EReal.coe_neg]; rfl
  rw [h, exp_coe, log_one_add_exp, ← EReal.coe_zero, ← coe_max, ← EReal.coe_add]

theorem splus_top : splus ⊤ = ⊤ := by
  unfold splus
  have h : (0 : EReal) - max ⊤ (-⊤) = ⊥ := by simp
  rw [h, show Ideal.exp ⊥ = 0 from rfl, log_one]
  simp

theorem splus_bot : splus ⊥ = 0 := by
  unfold splus
  have h : (0 : EReal) - max ⊥ (-⊥) = ⊥ := by simp
  rw [h, show Ideal.exp ⊥ = 0 from rfl, log_one]
  simp

theorem rsoft_eq (x : EReal) : rsoft x = splus x := by
  unfold rsoft splus Ideal.log1p
  rw [sub_zero, zero_sub]

/-- The reference's exponent is the kernel's, whatever the later keys sum to. -/
theorem weight_eq (z R : EReal) :
    Ideal.exp (-(rsoft (-z)) + ((-(rsoft (- -z)) + R) - -(rsoft (- -z)))) = Ideal.exp (z - splus z + R) := by
  rw [neg_neg, rsoft_eq, rsoft_eq]
  induction z using EReal.rec with
  | bot => rw [EReal.neg_bot, splus_top, splus_bot, EReal.neg_top, EReal.bot_add, sub_eq_add_neg, EReal.bot_add, EReal.bot_add]
  | top => rw [splus_top, EReal.neg_top, EReal.bot_add, show ((⊥ : EReal) - ⊥) = ⊥ from rfl, EReal.add_bot, show ((⊤ : EReal) - ⊤) = ⊥ from rfl, EReal.bot_add]
  | coe x =>
    rw [← EReal.coe_neg, splus_coe, splus_coe, ← EReal.coe_neg, ← EReal.coe_neg, ← EReal.coe_sub]
    rw [add_comm _ R, EReal.add_sub_cancel_right]
    congr 3
    rw [abs_neg]
    rcases le_total x 0 with h | h
    · rw [max_eq_left (by linarith), max_eq_right h]; ring
    · rw [max_eq_right (by linarith), max_eq_left h]; ring

/-! ## The suffix matrix -/

/-- The entries of the matrix that sums the later keys of a block (left half) and all of them (right half). -/
def suffix (j s : ℕ) : EReal := if s < 128 then (if s < j % 128 then -1 else 0) else -1

theorem suffix_all (j l : ℕ) : suffix j (128 + l) = -1 := if_neg (by omega)
theorem suffix_later (j l : ℕ) (hj : j < 128) (hl : l < 128) : suffix j l = if l < j then -1 else 0 := by
  unfold suffix; rw [if_pos hl, Nat.mod_eq_of_lt hj]
theorem suffix_later' (j l : ℕ) (hj : j < 128) (hl : l < 128) : suffix (128 + j) l = if l < j then -1 else 0 := by
  unfold suffix; rw [if_pos hl, Nat.add_mod_left, Nat.mod_eq_of_lt hj]

/-- A value and its rounding error, which is nothing, both times minus one. -/
theorem split_neg (a : EReal) : a * -1 + (a - a) * -1 = -a := by
  induction a using EReal.rec with
  | bot => rw [show ((⊥ : EReal) - ⊥) = ⊥ from rfl, mul_neg, mul_one, EReal.neg_bot]; rfl
  | top => rw [show ((⊤ : EReal) - ⊤) = ⊥ from rfl, mul_neg, mul_neg, mul_one, mul_one, EReal.neg_top, EReal.neg_bot]; rfl
  | coe x => rw [← EReal.coe_sub, sub_self, EReal.coe_zero, zero_mul, add_zero, mul_neg, mul_one]

theorem sum_all (p : Fin 128 → EReal) (l : ℕ) :
    (∑ x : Fin 128, p x * suffix x.val (128 + l)) + ∑ x : Fin 128, (p x - p x) * suffix (128 + x.val) (128 + l) = ∑ x : Fin 128, -(p x) := by
  rw [← Finset.sum_add_distrib]
  refine Finset.sum_congr rfl fun x _ => ?_
  rw [suffix_all, suffix_all, split_neg]

theorem sum_later (p : Fin 128 → EReal) (l : Fin 128) :
    (∑ x : Fin 128, p x * suffix x.val l.val) + ∑ x : Fin 128, (p x - p x) * suffix (128 + x.val) l.val
      = ∑ x : Fin 128, if l.val < x.val then -(p x) else 0 := by
  rw [← Finset.sum_add_distrib]
  refine Finset.sum_congr rfl fun x _ => ?_
  rw [suffix_later _ _ x.isLt l.isLt, suffix_later' _ _ x.isLt l.isLt]
  split
  · exact split_neg _
  · rw [mul_zero, mul_zero, add_zero]

/-! ## Sums over a block of keys -/

theorem sum_block (f : ℕ → EReal) (n m : ℕ) : (∑ x : Fin m, f (n + x.val)) = ∑ s ∈ Finset.Ico n (n + m), f s := by
  rw [Finset.sum_Ico_eq_sum_range, Nat.add_sub_cancel_left, Fin.sum_univ_eq_sum_range fun i => f (n + i)]

theorem sum_block_later (f : ℕ → EReal) (n : ℕ) (l : Fin 128) :
    (∑ x : Fin 128, if l.val < x.val then f (n + x.val) else 0) = ∑ s ∈ Finset.Ico (n + l.val + 1) (n + 128), f s := by
  rw [Fin.sum_univ_eq_sum_range (fun i => if l.val < i then f (n + i) else 0) 128, ← Finset.sum_filter]
  refine Finset.sum_bij (fun i _ => n + i) ?_ ?_ ?_ ?_
  · intro i hi
    simp only [Finset.mem_filter, Finset.mem_range] at hi
    simp only [Finset.mem_Ico]
    omega
  · intro i _ j _ h; omega
  · intro b hb
    simp only [Finset.mem_Ico] at hb
    refine ⟨b - n, ?_, by omega⟩
    simp only [Finset.mem_filter, Finset.mem_range]
    omega
  · intro i _; rfl

theorem sum_window (f : ℕ → EReal) (s : ℕ) (hs : s < 8192) :
    (∑ n : Fin 8192, if s + n.val < 8192 then f (s + n.val) else 0) = f s + ∑ k ∈ Finset.Ico (s + 1) 8192, f k := by
  rw [Fin.sum_univ_eq_sum_range (fun i => if s + i < 8192 then f (s + i) else 0) 8192, ← Finset.sum_filter,
    ← Finset.sum_eq_sum_Ico_succ_bot hs f]
  refine Finset.sum_bij (fun i _ => s + i) ?_ ?_ ?_ ?_
  · intro i hi
    simp only [Finset.mem_filter, Finset.mem_range] at hi
    simp only [Finset.mem_Ico]
    omega
  · intro i _ j _ h; omega
  · intro b hb
    simp only [Finset.mem_Ico] at hb
    refine ⟨b - s, ?_, by omega⟩
    simp only [Finset.mem_filter, Finset.mem_range]
    omega
  · intro i _; rfl

theorem rest_split (t : ℕ) (z : ℕ → EReal) {n k : ℕ} (h : n ≤ k) (hk : k ≤ 8192) :
    (∑ s ∈ Finset.Ico n k, fail t z s) + rest t z k = rest t z n :=
  Finset.sum_Ico_consecutive _ h hk

theorem mixed_split (t : ℕ) (z v : ℕ → EReal) {n k : ℕ} (h : n ≤ k) (hk : k ≤ 8192) :
    mixed t z v k + (∑ s ∈ Finset.Ico n k, weight t z s * v s) = mixed t z v n := by
  rw [add_comm]; exact Finset.sum_Ico_consecutive _ h hk

/-- What a block adds to the carried sum. -/
theorem carry_block (t : ℕ) (z : ℕ → EReal) (n l : ℕ) (hn : n + 128 ≤ 8192) (p : Fin 128 → EReal) (hp : ∀ x : Fin 128, -(p x) = fail t z (n + x.val)) :
    rest t z (n + 128) + ((∑ x : Fin 128, p x * suffix x.val (128 + l)) + ∑ x : Fin 128, (p x - p x) * suffix (128 + x.val) (128 + l)) = rest t z n := by
  rw [sum_all, Finset.sum_congr rfl fun x _ => hp x, sum_block (fail t z), add_comm]
  exact rest_split t z (by omega) hn

/-- The exponent of a key of a block. -/
theorem exponent_block (t : ℕ) (z : ℕ → EReal) (n : ℕ) (hn : n + 128 ≤ 8192) (p : Fin 128 → EReal) (hp : ∀ x : Fin 128, -(p x) = fail t z (n + x.val))
    (l : Fin 128) (a : EReal) :
    a + ((∑ x : Fin 128, p x * suffix x.val l.val) + ∑ x : Fin 128, (p x - p x) * suffix (128 + x.val) l.val) + rest t z (n + 128)
      = a + rest t z (n + l.val + 1) := by
  rw [sum_later, Finset.sum_congr rfl fun x _ => by rw [hp x], sum_block_later (fail t z), add_assoc]
  rw [rest_split t z (by omega) hn]

/-- What a tile adds to the accumulated values. -/
theorem values_block (t : ℕ) (z v : ℕ → EReal) (n : ℕ) (hn : n + 256 ≤ 8192) :
    mixed t z v (n + 256) + ((∑ x : Fin 128, weight t z (n + x.val) * v (n + x.val))
      + ∑ x : Fin 128, weight t z (n + 128 + x.val) * v (n + (128 + x.val))) = mixed t z v n := by
  have e : ∀ x : Fin 128, weight t z (n + 128 + x.val) * v (n + (128 + x.val)) = weight t z (n + 128 + x.val) * v (n + 128 + x.val) := fun x => by
    rw [add_assoc n 128 x.val]
  rw [Finset.sum_congr rfl fun x _ => e x, sum_block (fun s => weight t z s * v s), sum_block (fun s => weight t z s * v s),
    Finset.sum_Ico_consecutive _ (by omega) (by omega)]
  exact mixed_split t z v (by omega) hn

/-- Past the query nothing is summed. -/
theorem rest_past (t : ℕ) (z : ℕ → EReal) (n : ℕ) (h : t ≤ n) : rest t z n = 0 :=
  Finset.sum_eq_zero fun s hs => if_neg (by have := (Finset.mem_Ico.mp hs).1; omega)

theorem mixed_past (t : ℕ) (z v : ℕ → EReal) (n : ℕ) (h : t ≤ n) : mixed t z v n = 0 :=
  Finset.sum_eq_zero fun s hs => by
    have e : weight t z s = 0 := if_neg (by have := (Finset.mem_Ico.mp hs).1; omega)
    rw [e, zero_mul]

end Cert.StickBreaking

end
-- ==== Proof.SbTile.lean ====
/-
  One key tile of the stick-breaking attention kernel, one row at a time: what the carried log-sums and the accumulated
  values of a head become.
-/
module

public import proofs.«01_k».proof.Proof.SbBody
public import proofs.«01_k».proof.Proof.SbMath
public import Idealize.ShloMosaic.Lib.Pointwise

@[expose] public section

set_option maxRecDepth 16384

noncomputable section

namespace Cert.SbKernelIdeal.Tile

open Cert.SbKernelIdeal Cert.SbKernelIdeal.Gen Cert.SbKernelIdeal.Body
open Cert.StickBreaking
open Idealize.ShloMosaic Idealize.ShloMosaic.TcCoe Idealize.SL.Sem

/-- The tile's scores at an index. -/
theorem pay5_at (q : FVec Ideal S256x128 .bf16) (K : FVec Ideal S1x256x128 .bf16) (r s : Fin 256) :
    k0_pay5 (F := Ideal) q K (ix2 r s) = ∑ d : Fin 128, q (ix2 r d) * K (ix3 0 s d) := by
  pointwise [k0_pay5, k0_pay2]

theorem pay7_at (q : FVec Ideal S256x128 .bf16) (K : FVec Ideal S1x256x128 .bf16) (r : Fin 256) (l : Fin 128) :
    k0_pay7 (F := Ideal) q K (ix2 r l) = k0_pay5 (F := Ideal) q K (ix2 r ⟨128 + l.val, by omega⟩) := by
  pointwise [k0_pay7]

theorem pay8_at (q : FVec Ideal S256x128 .bf16) (K : FVec Ideal S1x256x128 .bf16) (r : Fin 256) (l : Fin 128) :
    k0_pay8 (F := Ideal) q K (ix2 r l) = (show EReal from splus (k0_pay5 (F := Ideal) q K (ix2 r ⟨128 + l.val, by omega⟩))) := by
  unfold splus
  pointwise [k0_pay8, pay7_at]
  rfl

theorem pay9_at (q : FVec Ideal S256x128 .bf16) (K : FVec Ideal S1x256x128 .bf16) (W : FVec Ideal S256x256 .bf16) (r s : Fin 256) :
    k0_pay9 (F := Ideal) q K W (ix2 r s) = (∑ x : Fin 128, k0_pay8 (F := Ideal) q K (ix2 r x) * W (ix2 ⟨x.val, by omega⟩ s))
      + ∑ x : Fin 128, (k0_pay8 (F := Ideal) q K (ix2 r x) - k0_pay8 (F := Ideal) q K (ix2 r x)) * W (ix2 ⟨128 + x.val, by omega⟩ s) := by
  pointwise [k0_pay9, k0_pay4]

theorem pay10_at (q : FVec Ideal S256x128 .bf16) (K : FVec Ideal S1x256x128 .bf16) (W : FVec Ideal S256x256 .bf16) (C : FVec Ideal S1x256x128 .f32) (r : Fin 256) (l : Fin 128) :
    k0_pay10 (F := Ideal) q K W C (ix2 r l) = (show EReal from Ideal.exp (k0_pay7 (F := Ideal) q K (ix2 r l) - k0_pay8 (F := Ideal) q K (ix2 r l)
      + k0_pay9 (F := Ideal) q K W (ix2 r ⟨l.val, by omega⟩) + C (ix3 0 r l))) := by
  pointwise [k0_pay10, k0_pay6]

theorem pay11_at (q : FVec Ideal S256x128 .bf16) (K : FVec Ideal S1x256x128 .bf16) (W : FVec Ideal S256x256 .bf16) (C : FVec Ideal S1x256x128 .f32) (r : Fin 256) (l : Fin 128) :
    k0_pay11 (F := Ideal) q K W C (ix2 r l) = C (ix3 0 r l) + k0_pay9 (F := Ideal) q K W (ix2 r ⟨128 + l.val, by omega⟩) := by
  pointwise [k0_pay11, k0_pay6]

theorem pay12_at (q : FVec Ideal S256x128 .bf16) (K : FVec Ideal S1x256x128 .bf16) (r : Fin 256) (l : Fin 128) :
    k0_pay12 (F := Ideal) q K (ix2 r l) = k0_pay5 (F := Ideal) q K (ix2 r ⟨l.val, by omega⟩) := by
  pointwise [k0_pay12]

theorem pay13_at (X : FVec Ideal S256x128 .f32) (r : Fin 256) (l : Fin 128) :
    k0_pay13 (F := Ideal) X (ix2 r l) = (show EReal from splus (X (ix2 r l))) := by
  unfold splus
  pointwise [k0_pay13]
  rfl

theorem pay14_at (W : FVec Ideal S256x256 .bf16) (X : FVec Ideal S256x128 .f32) (r s : Fin 256) :
    k0_pay14 (F := Ideal) W X (ix2 r s) = (∑ x : Fin 128, k0_pay13 (F := Ideal) X (ix2 r x) * W (ix2 ⟨x.val, by omega⟩ s))
      + ∑ x : Fin 128, (k0_pay13 (F := Ideal) X (ix2 r x) - k0_pay13 (F := Ideal) X (ix2 r x)) * W (ix2 ⟨128 + x.val, by omega⟩ s) := by
  pointwise [k0_pay14]

theorem pay15_at (W : FVec Ideal S256x256 .bf16) (C X : FVec Ideal S256x128 .f32) (r : Fin 256) (l : Fin 128) :
    k0_pay15 (F := Ideal) W C X (ix3 0 r l) = C (ix2 r l) + k0_pay14 (F := Ideal) W X (ix2 r ⟨128 + l.val, by omega⟩) := by
  pointwise [k0_pay15]

theorem pay16_at (V : FVec Ideal S256x128 .bf16) (W : FVec Ideal S256x256 .bf16) (P : FVec Ideal S256x128 .bf16) (C X : FVec Ideal S256x128 .f32)
    (A : FVec Ideal S1x256x128 .f32) (r : Fin 256) (d : Fin 128) :
    k0_pay16 (F := Ideal) V W P C X A (ix3 0 r d) = A (ix3 0 r d)
      + ((∑ x : Fin 128, (show EReal from Ideal.exp (X (ix2 r x) - k0_pay13 (F := Ideal) X (ix2 r x) + k0_pay14 (F := Ideal) W X (ix2 r ⟨x.val, by omega⟩) + C (ix2 r x)))
            * V (ix2 ⟨x.val, by omega⟩ d))
        + ∑ x : Fin 128, P (ix2 r x) * V (ix2 ⟨128 + x.val, by omega⟩ d)) := by
  pointwise [k0_pay16]

theorem pay3_at (V : FVec Ideal S1x256x128 .bf16) (s : Fin 256) (d : Fin 128) : k0_pay3 (F := Ideal) V (ix2 s d) = V (ix3 0 s d) := by
  pointwise [k0_pay3]
theorem pay4_at (W : FVec Ideal S256x256 .bf16) (s j : Fin 256) : k0_pay4 (F := Ideal) W (ix2 s j) = W (ix2 s j) := by
  pointwise [k0_pay4]

section full

variable (q : FVec Ideal S256x128 .bf16) (K V : FVec Ideal S1x256x128 .bf16) (W : FVec Ideal S256x256 .bf16) (C A : FVec Ideal S1x256x128 .f32)
  (r : Fin 256) (t n : ℕ) (z v : ℕ → EReal)

/-- The carried log-sum after the later half of a full tile. -/
theorem half_carry (hn : n + 256 ≤ 8192) (ht : n + 256 ≤ t) (hz : ∀ s : Fin 256, k0_pay5 (F := Ideal) q K (ix2 r s) = z (n + s.val))
    (hW : ∀ j s : Fin 256, W (ix2 j s) = suffix j.val s.val) (hC : ∀ l : Fin 128, C (ix3 0 r l) = rest t z (n + 256)) (l : Fin 128) :
    k0_pay11 (F := Ideal) q K W C (ix2 r l) = rest t z (n + 128) := by
  rw [pay11_at, pay9_at, hC]
  simp only [hW, pay8_at, hz]
  refine carry_block t z (n + 128) l.val (by omega) (fun x => splus (z (n + (128 + x.val)))) fun x => ?_
  unfold fail
  rw [if_pos (by omega), add_assoc]

/-- The carried log-sum after a full tile. -/
theorem full_carry (hn : n + 256 ≤ 8192) (ht : n + 256 ≤ t) (hz : ∀ s : Fin 256, k0_pay5 (F := Ideal) q K (ix2 r s) = z (n + s.val))
    (hW : ∀ j s : Fin 256, W (ix2 j s) = suffix j.val s.val) (hC : ∀ l : Fin 128, C (ix3 0 r l) = rest t z (n + 256)) (l : Fin 128) :
    nextC (F := Ideal) q K W C (ix3 0 r l) = rest t z n := by
  unfold nextC
  rw [pay15_at, half_carry q K W C r t n z hn ht hz hW hC, pay14_at]
  simp only [pay4_at, hW, pay13_at, pay12_at, hz]
  refine carry_block t z n l.val (by omega) (fun x => splus (z (n + x.val))) fun x => ?_
  unfold fail
  rw [if_pos (by omega)]

/-- The accumulated values after a full tile. -/
theorem full_values (hn : n + 256 ≤ 8192) (ht : n + 256 ≤ t) (hz : ∀ s : Fin 256, k0_pay5 (F := Ideal) q K (ix2 r s) = z (n + s.val))
    (hW : ∀ j s : Fin 256, W (ix2 j s) = suffix j.val s.val) (hC : ∀ l : Fin 128, C (ix3 0 r l) = rest t z (n + 256))
    (d : Fin 128) (hV : ∀ s : Fin 256, V (ix3 0 s d) = v (n + s.val)) (hA : A (ix3 0 r d) = mixed t z v (n + 256)) :
    nextA (F := Ideal) q K V W C A (ix3 0 r d) = mixed t z v n := by
  unfold nextA
  rw [pay16_at, hA]
  have lo : ∀ x : Fin 128, Ideal.exp (k0_pay12 (F := Ideal) q K (ix2 r x) - k0_pay13 (F := Ideal) (k0_pay12 (F := Ideal) q K) (ix2 r x)
      + k0_pay14 (F := Ideal) (k0_pay4 (F := Ideal) W) (k0_pay12 (F := Ideal) q K) (ix2 r ⟨x.val, by omega⟩)
      + k0_pay11 (F := Ideal) q K W C (ix2 r x)) = weight t z (n + x.val) := by
    intro x
    rw [half_carry q K W C r t n z hn ht hz hW hC, pay14_at]
    simp only [pay4_at, hW, pay13_at, pay12_at, hz]
    unfold weight
    rw [if_pos (by omega)]
    refine congrArg Ideal.exp (exponent_block t z n (by omega) (fun x => splus (z (n + x.val))) (fun x => ?_) x _)
    unfold fail
    rw [if_pos (by omega)]
  have hi : ∀ x : Fin 128, k0_pay10 (F := Ideal) q K W C (ix2 r x) = weight t z (n + 128 + x.val) := by
    intro x
    rw [pay10_at, pay9_at, hC]
    simp only [hW, pay8_at, pay7_at, hz]
    unfold weight
    rw [if_pos (by omega), ← add_assoc n 128 x.val]
    refine congrArg Ideal.exp (exponent_block t z (n + 128) (by omega) (fun x => splus (z (n + (128 + x.val)))) (fun x => ?_) x _)
    unfold fail
    rw [if_pos (by omega), add_assoc]
  simp only [lo, hi, pay3_at, hV]
  rw [values_block t z v n hn]

end full

/-! ## The diagonal tile -/

/-- The comparison of a column's number with a row's. -/
theorem below (l r : ℕ) (hl : l < 2 ^ 31) (hr : r < 2 ^ 31) :
    IntOp.cmpi CmpIPredicate.slt (BitVec.ofNat 32 l) (BitVec.ofNat 32 r) = if l < r then 1#1 else 0#1 := by
  have e : ∀ x : ℕ, x < 2 ^ 31 → (BitVec.ofNat 32 x).toInt = (x : Int) := fun x hx => by
    rw [BitVec.toInt_ofNat']; simp only [Int.bmod]; omega
  show BitVec.ofBool (decide ((BitVec.ofNat 32 l).toInt < (BitVec.ofNat 32 r).toInt)) = _
  rw [e l hl, e r hr]
  by_cases h : l < r
  · rw [if_pos h, decide_eq_true (by omega)]; rfl
  · rw [if_neg h, decide_eq_false (by omega)]; rfl

theorem pay67_at (r : Fin 256) (l : Fin 128) : k0_pay67 rowNo colNo (ix2 r l) = if 128 + l.val < r.val then 1#1 else 0#1 := by
  pointwise [k0_pay67, rowNo, colNo]
  unfold IntOp.addi
  rw [← BitVec.ofNat_add, below _ _ (by omega) (by omega), add_comm]

theorem pay75_at (r : Fin 256) (l : Fin 128) : k0_pay75 rowNo colNo (ix2 r l) = if l.val < r.val then 1#1 else 0#1 := by
  pointwise [k0_pay75, rowNo, colNo]
  unfold IntOp.addi
  rw [BitVec.add_zero, below _ _ (by omega) (by omega)]

theorem pay61_at (K : FVec Ideal S1x256x128 .bf16) (s : Fin 256) (d : Fin 128) : k0_pay61 (F := Ideal) K (ix2 s d) = K (ix3 0 s d) := by
  pointwise [k0_pay61]
theorem pay62_at (V : FVec Ideal S1x256x128 .bf16) (s : Fin 256) (d : Fin 128) : k0_pay62 (F := Ideal) V (ix2 s d) = V (ix3 0 s d) := by
  pointwise [k0_pay62]
theorem pay63_at (W : FVec Ideal S256x256 .bf16) (s j : Fin 256) : k0_pay63 (F := Ideal) W (ix2 s j) = W (ix2 s j) := by
  pointwise [k0_pay63]

theorem pay64_at (q : FVec Ideal S256x128 .bf16) (K : FVec Ideal S1x256x128 .bf16) (r s : Fin 256) :
    k0_pay64 (F := Ideal) q (k0_pay61 (F := Ideal) K) (ix2 r s) = k0_pay5 (F := Ideal) q K (ix2 r s) := by
  rw [pay5_at]
  pointwise [k0_pay64, pay61_at]

theorem pay66_at (q : FVec Ideal S256x128 .bf16) (K : FVec Ideal S1x256x128 .bf16) (r : Fin 256) (l : Fin 128) :
    k0_pay66 (F := Ideal) q (k0_pay61 (F := Ideal) K) (ix2 r l) = k0_pay5 (F := Ideal) q K (ix2 r ⟨128 + l.val, by omega⟩) := by
  pointwise [k0_pay66, pay64_at]

theorem pay72_at (q : FVec Ideal S256x128 .bf16) (K : FVec Ideal S1x256x128 .bf16) (r : Fin 256) (l : Fin 128) :
    k0_pay72 (F := Ideal) q (k0_pay61 (F := Ideal) K) (ix2 r l) = k0_pay5 (F := Ideal) q K (ix2 r ⟨l.val, by omega⟩) := by
  pointwise [k0_pay72, pay64_at]

theorem select_at {α : Type} {p : Prop} [Decidable p] (a b : α) : Scalar.select (if p then 1#1 else 0#1) a b = if p then a else b := by
  by_cases h : p
  · rw [if_pos h, if_pos h]; rfl
  · rw [if_neg h, if_neg h]; rfl

theorem pay68_at (q : FVec Ideal S256x128 .bf16) (K : FVec Ideal S1x256x128 .bf16) (r : Fin 256) (l : Fin 128) :
    k0_pay68 (F := Ideal) q rowNo colNo (k0_pay61 (F := Ideal) K) (ix2 r l)
      = (show EReal from if 128 + l.val < r.val then splus (k0_pay5 (F := Ideal) q K (ix2 r ⟨128 + l.val, by omega⟩)) else 0) := by
  unfold splus
  pointwise [k0_pay68, pay67_at, pay66_at]
  rw [select_at]
  rfl

theorem pay76_at (q : FVec Ideal S256x128 .bf16) (K : FVec Ideal S1x256x128 .bf16) (r : Fin 256) (l : Fin 128) :
    k0_pay76 (F := Ideal) rowNo colNo (k0_pay73 (F := Ideal) q (k0_pay61 (F := Ideal) K)) (k0_pay74 (F := Ideal) q (k0_pay61 (F := Ideal) K)) (FloatOps.ofBits FTy.f32 0#32) (ix2 r l)
      = (show EReal from if l.val < r.val then splus (k0_pay5 (F := Ideal) q K (ix2 r ⟨l.val, by omega⟩)) else 0) := by
  unfold splus
  pointwise [k0_pay76, k0_pay73, k0_pay74, pay75_at, pay72_at]
  rw [select_at]
  rfl

theorem pay69_at (q : FVec Ideal S256x128 .bf16) (K : FVec Ideal S256x128 .bf16) (W : FVec Ideal S256x256 .bf16) (r s : Fin 256) :
    k0_pay69 (F := Ideal) q rowNo colNo K W (ix2 r s) = (∑ x : Fin 128, k0_pay68 (F := Ideal) q rowNo colNo K (ix2 r x) * W (ix2 ⟨x.val, by omega⟩ s))
      + ∑ x : Fin 128, (k0_pay68 (F := Ideal) q rowNo colNo K (ix2 r x) - k0_pay68 (F := Ideal) q rowNo colNo K (ix2 r x)) * W (ix2 ⟨128 + x.val, by omega⟩ s) := by
  pointwise [k0_pay69, pay63_at]

theorem pay70_at (q : FVec Ideal S256x128 .bf16) (K : FVec Ideal S256x128 .bf16) (W : FVec Ideal S256x256 .bf16) (C : FVec Ideal S1x256x128 .f32) (r : Fin 256) (l : Fin 128) :
    k0_pay70 (F := Ideal) q rowNo colNo K W C (ix2 r l) = (show EReal from if 128 + l.val < r.val then
      Ideal.exp (k0_pay66 (F := Ideal) q K (ix2 r l) - k0_pay68 (F := Ideal) q rowNo colNo K (ix2 r l)
      + k0_pay69 (F := Ideal) q rowNo colNo K W (ix2 r ⟨l.val, by omega⟩) + C (ix3 0 r l)) else 0) := by
  pointwise [k0_pay70, k0_pay65, pay67_at]
  rw [select_at]

theorem pay71_at (q : FVec Ideal S256x128 .bf16) (K : FVec Ideal S256x128 .bf16) (W : FVec Ideal S256x256 .bf16) (C : FVec Ideal S1x256x128 .f32) (r : Fin 256) (l : Fin 128) :
    k0_pay71 (F := Ideal) q rowNo colNo K W C (ix2 r l) = C (ix3 0 r l) + k0_pay69 (F := Ideal) q rowNo colNo K W (ix2 r ⟨128 + l.val, by omega⟩) := by
  pointwise [k0_pay71, k0_pay65]

theorem pay77_at (W : FVec Ideal S256x256 .bf16) (X Y : FVec Ideal S256x128 .f32) (o : Ideal .f32) (r s : Fin 256) :
    k0_pay77 (F := Ideal) rowNo colNo W X Y o (ix2 r s) = (∑ x : Fin 128, k0_pay76 (F := Ideal) rowNo colNo X Y o (ix2 r x) * W (ix2 ⟨x.val, by omega⟩ s))
      + ∑ x : Fin 128, (k0_pay76 (F := Ideal) rowNo colNo X Y o (ix2 r x) - k0_pay76 (F := Ideal) rowNo colNo X Y o (ix2 r x)) * W (ix2 ⟨128 + x.val, by omega⟩ s) := by
  pointwise [k0_pay77]

theorem pay78_at (W : FVec Ideal S256x256 .bf16) (C X Y : FVec Ideal S256x128 .f32) (o : Ideal .f32) (r : Fin 256) (l : Fin 128) :
    k0_pay78 (F := Ideal) rowNo colNo W C X Y o (ix3 0 r l) = C (ix2 r l) + k0_pay77 (F := Ideal) rowNo colNo W X Y o (ix2 r ⟨128 + l.val, by omega⟩) := by
  pointwise [k0_pay78]

theorem pay79_at (V : FVec Ideal S256x128 .bf16) (W : FVec Ideal S256x256 .bf16) (P : FVec Ideal S256x128 .bf16) (C Z X Y : FVec Ideal S256x128 .f32) (o : Ideal .f32)
    (A : FVec Ideal S1x256x128 .f32) (r : Fin 256) (d : Fin 128) :
    k0_pay79 (F := Ideal) rowNo colNo V W P C Z X Y o A (ix3 0 r d) = A (ix3 0 r d)
      + ((∑ x : Fin 128, (show EReal from if x.val < r.val then Ideal.exp (Z (ix2 r x) - k0_pay76 (F := Ideal) rowNo colNo X Y o (ix2 r x)
            + k0_pay77 (F := Ideal) rowNo colNo W X Y o (ix2 r ⟨x.val, by omega⟩) + C (ix2 r x)) else 0)
            * V (ix2 ⟨x.val, by omega⟩ d))
        + ∑ x : Fin 128, P (ix2 r x) * V (ix2 ⟨128 + x.val, by omega⟩ d)) := by
  pointwise [k0_pay79, pay75_at]
  simp only [select_at, ite_mul, zero_mul]

section diagonal

variable (q : FVec Ideal S256x128 .bf16) (K V : FVec Ideal S1x256x128 .bf16) (W : FVec Ideal S256x256 .bf16) (C A : FVec Ideal S1x256x128 .f32)
  (r : Fin 256) (n : ℕ) (z v : ℕ → EReal)

theorem masked_fail (l : ℕ) : -(if l < r.val then splus (z (n + l)) else 0) = fail (n + r.val) z (n + l) := by
  unfold fail
  by_cases h : l < r.val
  · rw [if_pos h, if_pos (by omega)]
  · rw [if_neg h, if_neg (by omega), neg_zero]

/-- The carried log-sum after the later half of the diagonal tile. -/
theorem diagonal_half (hn : n + 256 ≤ 8192) (hz : ∀ s : Fin 256, k0_pay5 (F := Ideal) q K (ix2 r s) = z (n + s.val))
    (hW : ∀ j s : Fin 256, W (ix2 j s) = suffix j.val s.val) (hC : ∀ l : Fin 128, C (ix3 0 r l) = rest (n + r.val) z (n + 256)) (l : Fin 128) :
    k0_pay71 (F := Ideal) q rowNo colNo (k0_pay61 (F := Ideal) K) W C (ix2 r l) = rest (n + r.val) z (n + 128) := by
  rw [pay71_at, pay69_at, hC]
  simp only [hW, pay68_at, hz]
  refine carry_block (n + r.val) z (n + 128) l.val (by omega) (fun x => if 128 + x.val < r.val then splus (z (n + (128 + x.val))) else 0) fun x => ?_
  rw [masked_fail, add_assoc]

/-- The carried log-sum after the diagonal tile. -/
theorem diagonal_carry (hn : n + 256 ≤ 8192) (hz : ∀ s : Fin 256, k0_pay5 (F := Ideal) q K (ix2 r s) = z (n + s.val))
    (hW : ∀ j s : Fin 256, W (ix2 j s) = suffix j.val s.val) (hC : ∀ l : Fin 128, C (ix3 0 r l) = rest (n + r.val) z (n + 256)) (l : Fin 128) :
    firstC (F := Ideal) q K W C (ix3 0 r l) = rest (n + r.val) z n := by
  unfold firstC
  rw [pay78_at, diagonal_half q K W C r n z hn hz hW hC, pay77_at]
  simp only [pay63_at, hW, pay76_at, hz]
  refine carry_block (n + r.val) z n l.val (by omega) (fun x => if x.val < r.val then splus (z (n + x.val)) else 0) fun x => ?_
  rw [masked_fail]

/-- The accumulated values after the diagonal tile. -/
theorem diagonal_values (hn : n + 256 ≤ 8192) (hz : ∀ s : Fin 256, k0_pay5 (F := Ideal) q K (ix2 r s) = z (n + s.val))
    (hW : ∀ j s : Fin 256, W (ix2 j s) = suffix j.val s.val) (hC : ∀ l : Fin 128, C (ix3 0 r l) = rest (n + r.val) z (n + 256))
    (d : Fin 128) (hV : ∀ s : Fin 256, V (ix3 0 s d) = v (n + s.val)) (hA : A (ix3 0 r d) = mixed (n + r.val) z v (n + 256)) :
    firstA (F := Ideal) q K V W C A (ix3 0 r d) = mixed (n + r.val) z v n := by
  unfold firstA
  rw [pay79_at, hA]
  have lo : ∀ x : Fin 128, (if x.val < r.val then Ideal.exp (k0_pay72 (F := Ideal) q (k0_pay61 (F := Ideal) K) (ix2 r x)
      - k0_pay76 (F := Ideal) rowNo colNo (k0_pay73 (F := Ideal) q (k0_pay61 (F := Ideal) K)) (k0_pay74 (F := Ideal) q (k0_pay61 (F := Ideal) K)) (FloatOps.ofBits FTy.f32 0#32) (ix2 r x)
      + k0_pay77 (F := Ideal) rowNo colNo (k0_pay63 (F := Ideal) W) (k0_pay73 (F := Ideal) q (k0_pay61 (F := Ideal) K)) (k0_pay74 (F := Ideal) q (k0_pay61 (F := Ideal) K)) (FloatOps.ofBits FTy.f32 0#32) (ix2 r ⟨x.val, by omega⟩)
      + k0_pay71 (F := Ideal) q rowNo colNo (k0_pay61 (F := Ideal) K) W C (ix2 r x)) else 0) = weight (n + r.val) z (n + x.val) := by
    intro x
    rw [diagonal_half q K W C r n z hn hz hW hC, pay77_at]
    simp only [pay63_at, hW, pay76_at, pay72_at, hz]
    unfold weight
    by_cases h : x.val < r.val
    · rw [if_pos h, if_pos h, if_pos (show n + x.val < n + r.val by omega)]
      refine congrArg Ideal.exp (exponent_block (n + r.val) z n (by omega) (fun x => if x.val < r.val then splus (z (n + x.val)) else 0) (fun x => ?_) x _)
      rw [masked_fail]
    · rw [if_neg h, if_neg (by omega)]
  have hi : ∀ x : Fin 128, k0_pay70 (F := Ideal) q rowNo colNo (k0_pay61 (F := Ideal) K) W C (ix2 r x) = weight (n + r.val) z (n + 128 + x.val) := by
    intro x
    rw [pay70_at, pay69_at, hC]
    simp only [hW, pay68_at, pay66_at, hz]
    unfold weight
    rw [add_assoc n 128 x.val]
    by_cases h : 128 + x.val < r.val
    · rw [if_pos h, if_pos h, if_pos (show n + (128 + x.val) < n + r.val by omega), ← add_assoc n 128 x.val]
      refine congrArg Ideal.exp (exponent_block (n + r.val) z (n + 128) (by omega) (fun x => if 128 + x.val < r.val then splus (z (n + (128 + x.val))) else 0) (fun x => ?_) x _)
      rw [masked_fail, add_assoc]
    · rw [if_neg h, if_neg (by omega)]
  simp only [lo, hi, pay62_at, hV]
  rw [values_block (n + r.val) z v n hn]

end diagonal

end Cert.SbKernelIdeal.Tile

end
-- ==== Proof.SbReference.lean ====
/-
  The stick-breaking attention's reference, stage by stage: the heads, the scores, the log-probabilities, the sum over the
  later keys and the mixed values, each read at an index.
-/
module

public import proofs.«01_k».proof.Proof.Gen.SbReferenceIdeal.Run
public import proofs.«01_k».proof.Proof.SbMath
public import Idealize.ShloMosaic.Lib.Pointwise

@[expose] public section

set_option maxRecDepth 16384

noncomputable section

namespace Cert.SbReferenceIdeal.Stages

open Cert.SbReferenceIdeal Cert.SbReferenceIdeal.Gen
open Cert.StickBreaking
open Idealize.ShloMosaic Idealize.ShloMosaic.TcCoe Idealize.SL.Sem

/-- The queries, by heads. -/
def qHeads (P : FVec Ideal S4x8192x3072 .bf16) : FVec Ideal S4x8x8192x64 .f32 :=
  transpose S4x8x8192x64 [0, 2, 1, 3] (shapeCast S4x8192x8x64 (extractStridedSlice S4x8192x512 ![0, 0, 1536]
    (extf .f32 P bitsLt_bf16_f32) slices_S4x8192x3072_S4x8192x512_0_0_1536) shapeCasts_S4x8192x512_S4x8192x8x64) transposes_S4x8192x8x64_S4x8x8192x64_0_2_1_3

/-- The keys, by heads. -/
def kHeads (P : FVec Ideal S4x8192x3072 .bf16) : FVec Ideal S4x8x8192x64 .f32 :=
  transpose S4x8x8192x64 [0, 2, 1, 3] (shapeCast S4x8192x8x64 (extractStridedSlice S4x8192x512 ![0, 0, 2048]
    (extf .f32 P bitsLt_bf16_f32) slices_S4x8192x3072_S4x8192x512_0_0_2048) shapeCasts_S4x8192x512_S4x8192x8x64) transposes_S4x8192x8x64_S4x8x8192x64_0_2_1_3

/-- The values, by heads. -/
def vHeads (P : FVec Ideal S4x8192x3072 .bf16) : FVec Ideal S4x8x8192x64 .f32 :=
  transpose S4x8x8192x64 [0, 2, 1, 3] (shapeCast S4x8192x8x64 (extractStridedSlice S4x8192x512 ![0, 0, 2560]
    (extf .f32 P bitsLt_bf16_f32) slices_S4x8192x3072_S4x8192x512_0_0_2560) shapeCasts_S4x8192x512_S4x8192x8x64) transposes_S4x8192x8x64_S4x8x8192x64_0_2_1_3

/-- The scores. -/
def scores (Q K : FVec Ideal S4x8x8192x64 .f32) : FVec Ideal S4x8x8192x8192 .f32 :=
  Host.dotGeneral dot_S4x8x8192x64_S4x8x8192x64_S4x8x8192x8192_3_3_2_2_01_01 none
    (mulf Q (broadcastInDim S4x8x8192x64 ![] bcast_S_S4x8x8192x64 (constant S_ .f32 0x3E000000#32))) K

/-- Whether a key comes before the query. -/
def earlier : IVec S8192x8192 1 :=
  cmpi .sgt (subi (broadcastInDim S8192x8192 ![0,1] bcast_S8192x1_S8192x8192_0_1 (broadcastInDim S8192x1 ![0] bcast_S8192_S8192x1_0 (iotaInDim S8192 32 0)))
      (broadcastInDim S8192x8192 ![0,1] bcast_S1x8192_S8192x8192_0_1 (broadcastInDim S1x8192 ![1] bcast_S8192_S1x8192_1 (iotaInDim S8192 32 0))))
    (broadcastInDim S8192x8192 ![] bcast_S_S8192x8192 (constantI S_ 32 0#32))

def nought : FVec Ideal S4x8x8192x8192 .f32 :=
  broadcastInDim S4x8x8192x8192 ![] bcast_S_S4x8x8192x8192 (constant S_ .f32 0x00000000#32)

/-- The logarithm of the logistic. -/
def logSig (Y : FVec Ideal S4x8x8192x8192 .f32) : FVec Ideal S4x8x8192x8192 .f32 :=
  Host.negf (select (cmpf .une (subf (Host.negf Y) nought) (subf (Host.negf Y) nought)) (addf (Host.negf Y) nought)
    (addf (maximumf (Host.negf Y) nought) (Host.log1p (Host.exp (Host.negf (Host.absf (subf (Host.negf Y) nought)))))))

/-- The log-probabilities of a failure at the earlier keys. -/
def fails (Z : FVec Ideal S4x8x8192x8192 .f32) : FVec Ideal S4x8x8192x8192 .f32 :=
  select (broadcastInDim S4x8x8192x8192 ![2, 3] bcast_S8192x8192_S4x8x8192x8192_2_3 earlier) (logSig (Host.negf Z)) nought

/-- Their sum from a key on. -/
def suffixes (f : FVec Ideal S4x8x8192x8192 .f32) : FVec Ideal S4x8x8192x8192 .f32 :=
  Host.reduceWindowAdd ![1,1,1,8192] ![1,1,1,1] ![0,0,0,0] ![0,0,0,8191] f
    (broadcastInDim S_ ![] bcast_S_S_ (constant S_ .f32 0x00000000#32))
    reduceWindows_S4x8x8192x8192_S4x8x8192x8192_w1s1p0_0_w1s1p0_0_w1s1p0_0_w8192s1p0_8191 h_S_

/-- The weights. -/
def weights (Z f : FVec Ideal S4x8x8192x8192 .f32) : FVec Ideal S4x8x8192x8192 .f32 :=
  select (broadcastInDim S4x8x8192x8192 ![2, 3] bcast_S8192x8192_S4x8x8192x8192_2_3 earlier)
    (Host.exp (addf (logSig Z) (subf (suffixes f) f))) nought

/-- The mixed values, by positions. -/
def mix (W : FVec Ideal S4x8x8192x8192 .f32) (V : FVec Ideal S4x8x8192x64 .f32) : FVec Ideal S4x8192x512 .bf16 :=
  truncf .bf16 (shapeCast S4x8192x512 (transpose S4x8192x8x64 [0, 2, 1, 3]
    (Host.dotGeneral dot_S4x8x8192x8192_S4x8x8192x64_S4x8x8192x64_3_2_2_3_01_01 none W V) transposes_S4x8x8192x64_S4x8192x8x64_0_2_1_3)
    shapeCasts_S4x8192x8x64_S4x8192x512) bitsLt_bf16_f32

/-- The attention as the reference composes it. -/
def attention (P : FVec Ideal S4x8192x3072 .bf16) : FVec Ideal S4x8192x512 .bf16 :=
  mix (weights (scores (qHeads P) (kHeads P)) (fails (scores (qHeads P) (kHeads P)))) (vHeads P)

theorem result_eq (m : (ℓ : Loc nD τ sig) → Buf (Elt Ideal) ℓ) (c : Dev nD) :
    Value.res_out0 m c = attention (m ((c.tc : Thread nD τ).loc main_arg0)) := rfl

theorem qHeads_at (P : FVec Ideal S4x8192x3072 .bf16) (b : Fin 4) (h : Fin 8) (t : Fin 8192) (d : Fin 64) :
    qHeads P (ix4 b h t d) = P (ix3 b t ⟨1536 + (h.val * 64 + d.val), by omega⟩) := by
  pointwise [qHeads]
theorem kHeads_at (P : FVec Ideal S4x8192x3072 .bf16) (b : Fin 4) (h : Fin 8) (t : Fin 8192) (d : Fin 64) :
    kHeads P (ix4 b h t d) = P (ix3 b t ⟨2048 + (h.val * 64 + d.val), by omega⟩) := by
  pointwise [kHeads]
theorem vHeads_at (P : FVec Ideal S4x8192x3072 .bf16) (b : Fin 4) (h : Fin 8) (t : Fin 8192) (d : Fin 64) :
    vHeads P (ix4 b h t d) = P (ix3 b t ⟨2560 + (h.val * 64 + d.val), by omega⟩) := by
  pointwise [vHeads]
theorem scores_at (Q K : FVec Ideal S4x8x8192x64 .f32) (b : Fin 4) (h : Fin 8) (t s : Fin 8192) :
    scores Q K (ix4 b h t s) = ∑ d : Fin 64, Q (ix4 b h t d) * Ideal.ofBits .f32 0x3E000000#32 * K (ix4 b h s d) := by
  pointwise [scores]
theorem earlier_at (t s : Fin 8192) : earlier (ix2 t s) = if s.val < t.val then 1#1 else 0#1 := by
  pointwise [earlier]
  have ht := t.isLt
  have hs := s.isLt
  have e : (IntOp.subi (BitVec.ofNat 32 t.val) (BitVec.ofNat 32 s.val)).toInt = (t.val : Int) - (s.val : Int) := by
    unfold IntOp.subi
    rw [BitVec.toInt_sub, BitVec.toInt_ofNat', BitVec.toInt_ofNat']
    simp only [Int.bmod]
    omega
  show BitVec.ofBool (decide ((0#32).toInt < (IntOp.subi (BitVec.ofNat 32 t.val) (BitVec.ofNat 32 s.val)).toInt)) = _
  rw [e]
  by_cases h : s.val < t.val
  · rw [if_pos h, decide_eq_true (by simp; omega)]; rfl
  · rw [if_neg h, decide_eq_false (by simp; omega)]; rfl
theorem logSig_at (Y : FVec Ideal S4x8x8192x8192 .f32) (i : S4x8x8192x8192.Idx) : logSig Y i = -(rsoft (-(Y i))) := by
  unfold rsoft
  pointwise [logSig, nought]
  rw [if_neg (by simp)]
  rfl
theorem fails_at (Z : FVec Ideal S4x8x8192x8192 .f32) (b : Fin 4) (h : Fin 8) (t s : Fin 8192) :
    fails Z (ix4 b h t s) = if s.val < t.val then -(rsoft (- -(Z (ix4 b h t s)))) else 0 := by
  pointwise [fails, logSig_at, earlier_at, nought]
  split <;> rfl
theorem weights_at (Z f : FVec Ideal S4x8x8192x8192 .f32) (b : Fin 4) (h : Fin 8) (t s : Fin 8192) :
    weights Z f (ix4 b h t s) = if s.val < t.val then Ideal.exp (-(rsoft (-(Z (ix4 b h t s)))) + (suffixes f (ix4 b h t s) - f (ix4 b h t s))) else 0 := by
  pointwise [weights, logSig_at, earlier_at, nought]
  split <;> rfl
/-- A left fold of sums is the sum. -/
theorem foldl_sum {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- A sum over windows, from zero, at an index: the sum over the window's positions of what lies inside the operand. -/
theorem window_sum {s t u : Shape} (window strides lo hi : Fin s.rank → Nat) (x : FVec Ideal s .f32) (init : FVec Ideal u .f32)
    (h : s.ReduceWindows window strides lo hi t) (hu : 0 < u.numel) (j : t.Idx) (h0 : init (Shape.Idx.first hu) = (0 : EReal)) :
    Host.reduceWindowAdd window strides lo hi x init h hu j = ∑ w : (⟨s.rank, window⟩ : Shape).Idx,
      if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal) := by
  show Host.reduceWindow (· + ·) window strides lo hi (x : s.Idx → EReal) (fun _ => init (Shape.Idx.first hu)) h hu j = _
  rw [h0]
  unfold Host.reduceWindow
  dsimp only
  rw [foldl_sum _ _ (0 : EReal), zero_add, ← Fin.sum_univ_def]
  refine Eq.trans (Finset.sum_congr rfl fun i _ => ?_) (Equiv.sum_comp (⟨s.rank, window⟩ : Shape).rowMajor.symm fun w : (⟨s.rank, window⟩ : Shape).Idx =>
      if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal))
  split <;> rfl

/-- The positions of a window that spans the last axis only. -/
def positions : Fin 8192 ≃ (⟨4, ![1, 1, 1, 8192]⟩ : Shape).Idx where
  toFun n := ix4 (n0 := 1) (n1 := 1) (n2 := 1) 0 0 0 n
  invFun w := w 3
  left_inv n := rfl
  right_inv w := by
    funext a
    match a with
    | 0 => exact Subsingleton.elim (α := Fin 1) _ _
    | 1 => exact Subsingleton.elim (α := Fin 1) _ _
    | 2 => exact Subsingleton.elim (α := Fin 1) _ _
    | 3 => rfl

theorem suffixes_at (f : FVec Ideal S4x8x8192x8192 .f32) (b : Fin 4) (h : Fin 8) (t s : Fin 8192) :
    suffixes f (ix4 b h t s) = ∑ n : Fin 8192, if hn : s.val + n.val < 8192 then f (ix4 b h t ⟨s.val + n.val, hn⟩) else (0 : EReal) := by
  have z : (broadcastInDim S_ ![] bcast_S_S_ (constant (F := Ideal) S_ .f32 0x00000000#32) : FVec Ideal S_ .f32) (Shape.Idx.first h_S_) = (0 : EReal) := by
    pointwise []
  unfold suffixes
  refine (window_sum _ _ _ _ f _ _ _ _ z).trans ?_
  refine (Equiv.sum_comp positions _).symm.trans ?_
  refine Finset.sum_congr rfl fun n _ => ?_
  by_cases hn : s.val + n.val < 8192
  · rw [dif_pos hn, dif_pos]
    · refine congrArg f (funext fun a => Fin.ext ?_)
      match a with
      | 0 => show b.val * 1 + 0 - 0 = b.val; omega
      | 1 => show h.val * 1 + 0 - 0 = h.val; omega
      | 2 => show t.val * 1 + 0 - 0 = t.val; omega
      | 3 => show s.val * 1 + n.val - 0 = s.val + n.val; omega
    · intro a
      match a with
      | 0 => exact ⟨Nat.zero_le _, by show b.val * 1 + 0 - 0 < 4; omega⟩
      | 1 => exact ⟨Nat.zero_le _, by show h.val * 1 + 0 - 0 < 8; omega⟩
      | 2 => exact ⟨Nat.zero_le _, by show t.val * 1 + 0 - 0 < 8192; omega⟩
      | 3 => exact ⟨Nat.zero_le _, by show s.val * 1 + n.val - 0 < 8192; omega⟩
  · rw [dif_neg hn, dif_neg]
    intro hin
    have := (hin 3).2
    change s.val * 1 + n.val - 0 < 8192 at this
    omega

theorem mix_at (W : FVec Ideal S4x8x8192x8192 .f32) (V : FVec Ideal S4x8x8192x64 .f32) (b : Fin 4) (t : Fin 8192) (h : Fin 8) (d : Fin 64) :
    mix W V (ix3 b t ⟨h.val * 64 + d.val, by omega⟩) = ∑ s : Fin 8192, W (ix4 b h t s) * V (ix4 b h s d) := by
  pointwise [mix]

/-- A key's position, of a natural. -/
def clip (n : ℕ) : Fin 8192 := ⟨n % 8192, Nat.mod_lt _ (by decide)⟩

theorem clip_val (s : Fin 8192) : clip s.val = s := Fin.ext (Nat.mod_eq_of_lt s.isLt)

/-- The scores of the query at position `t` of head `h`. -/
def scoreRow (P : FVec Ideal S4x8192x3072 .bf16) (b : Fin 4) (h : Fin 8) (t : Fin 8192) (s : ℕ) : EReal :=
  ∑ d : Fin 64, (show EReal from P (ix3 b t ⟨1536 + (h.val * 64 + d.val), by omega⟩)) * Ideal.ofBits .f32 0x3E000000#32
    * (show EReal from P (ix3 b (clip s) ⟨2048 + (h.val * 64 + d.val), by omega⟩))

/-- Lane `d` of the values of head `h`. -/
def valueCol (P : FVec Ideal S4x8192x3072 .bf16) (b : Fin 4) (h : Fin 8) (d : Fin 64) (s : ℕ) : EReal :=
  P (ix3 b (clip s) ⟨2560 + (h.val * 64 + d.val), by omega⟩)

theorem scores_row (P : FVec Ideal S4x8192x3072 .bf16) (b : Fin 4) (h : Fin 8) (t s : Fin 8192) :
    scores (qHeads P) (kHeads P) (ix4 b h t s) = scoreRow P b h t s.val := by
  rw [scores_at]
  unfold scoreRow
  rw [clip_val]
  exact Finset.sum_congr rfl fun d _ => by rw [qHeads_at, kHeads_at]

theorem fails_row (P : FVec Ideal S4x8192x3072 .bf16) (b : Fin 4) (h : Fin 8) (t s : Fin 8192) :
    fails (scores (qHeads P) (kHeads P)) (ix4 b h t s) = fail t.val (scoreRow P b h t) s.val := by
  rw [fails_at, scores_row, neg_neg, rsoft_eq]
  rfl

theorem suffixes_row (P : FVec Ideal S4x8192x3072 .bf16) (b : Fin 4) (h : Fin 8) (t s : Fin 8192) :
    suffixes (fails (scores (qHeads P) (kHeads P))) (ix4 b h t s)
      = fail t.val (scoreRow P b h t) s.val + rest t.val (scoreRow P b h t) (s.val + 1) := by
  rw [suffixes_at]
  refine Eq.trans (Finset.sum_congr rfl fun n _ => ?_) (sum_window (fail t.val (scoreRow P b h t)) s.val s.isLt)
  split
  · rename_i hn; exact fails_row P b h t ⟨s.val + n.val, hn⟩
  · rfl

theorem weights_row (P : FVec Ideal S4x8192x3072 .bf16) (b : Fin 4) (h : Fin 8) (t s : Fin 8192) :
    weights (scores (qHeads P) (kHeads P)) (fails (scores (qHeads P) (kHeads P))) (ix4 b h t s)
      = weight t.val (scoreRow P b h t) s.val := by
  rw [weights_at, suffixes_row, fails_row, scores_row]
  unfold weight
  split
  · rename_i hs
    have e : fail t.val (scoreRow P b h t) s.val = -(rsoft (- -(scoreRow P b h t s.val))) := by
      rw [neg_neg, rsoft_eq]; exact if_pos hs
    rw [e]
    exact weight_eq _ _
  · rfl

/-- The reference's attention at an index. -/
theorem attention_at (P : FVec Ideal S4x8192x3072 .bf16) (b : Fin 4) (t : Fin 8192) (h : Fin 8) (d : Fin 64) :
    attention P (ix3 b t ⟨h.val * 64 + d.val, by omega⟩) = mixed t.val (scoreRow P b h t) (valueCol P b h d) 0 := by
  unfold attention
  rw [mix_at]
  refine Eq.trans (Finset.sum_congr rfl fun s _ => ?_)
    ((sum_block (fun s => weight t.val (scoreRow P b h t) s * valueCol P b h d s) 0 8192).trans ?_)
  · rw [weights_row, vHeads_at]
    unfold valueCol
    rw [Nat.zero_add, clip_val]
  · rfl

end Cert.SbReferenceIdeal.Stages

end
-- ==== Proof.SbValue.lean ====
/-
  The stick-breaking attention kernel's result array is the reference's, index by index.
-/
module

public import proofs.«01_k».proof.Proof.SbTile
public import proofs.«01_k».proof.Proof.SbReference
public import proofs.«01_k».proof.Proof.Gen.SbKernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.SbKernelIdeal.Result

open Cert.SbKernelIdeal Cert.SbKernelIdeal.Gen Cert.SbKernelIdeal.Body Cert.SbKernelIdeal.Tile
open Cert.StickBreaking
open Idealize.ShloMosaic Idealize.ShloMosaic.TcCoe Idealize.SL.Sem
open Cert.SbReferenceIdeal.Stages (attention scoreRow valueCol clip)

variable (m : (ℓ : Loc nD τ sig) → Buf (Elt Ideal) ℓ) (c : Dev nD)

theorem blocks_at : ∀ t : Fin cfg0.N, win0_0.index t = ![t.val / 128, t.val % 32, 12 + t.val / 32 % 4]
    ∧ win0_1.index t = ![t.val / 128, 0, 16 + t.val / 32 % 4] ∧ win0_2.index t = ![t.val / 128, 0, 20 + t.val / 32 % 4]
    ∧ win0_3.index t = ![0, 0] ∧ win0_4.index t = ![t.val / 128, t.val % 32, t.val / 32 % 4] ∧ (grid0.coords t 2).val = t.val % 32 :=
  (by decide +kernel : ∀ t : Fin grid0.N, _)

theorem points (t : Fin cfg0.N) : t.val < 512 := lt_of_lt_of_eq t.isLt (show cfg0.N = 512 from N_0)

/-- A point's batch row, pair of heads and query tile. -/
def batchOf (t : Fin cfg0.N) : Fin 4 := ⟨t.val / 128, by have := points t; omega⟩
def pairOf (t : Fin cfg0.N) : Fin 4 := ⟨t.val / 32 % 4, by omega⟩
def tileOf (t : Fin cfg0.N) : Fin 32 := ⟨t.val % 32, by omega⟩
/-- The position of row `r` of a query tile. -/
def rowOf (t : Fin cfg0.N) (r : Fin 256) : Fin 8192 := ⟨256 * (tileOf t).val + r.val, by omega⟩

def argP : FVec Ideal S4x8192x3072 .bf16 := m ((c : Thread nD τ).loc main_arg0)

theorem q_at (t : Fin cfg0.N) (r : Fin 256) (l : Fin 128) :
    (iblk m c 0 t : FVec Ideal S1x256x128 .bf16) (ix3 0 r l)
      = argP m c (ix3 (batchOf t) (rowOf t r) ⟨1536 + (128 * (pairOf t).val + l.val), by omega⟩) := by
  unfold argP batchOf rowOf pairOf tileOf
  blk_ext [iblk, V, blocks_at t]
theorem k_at (t : Fin cfg0.N) (s : Fin 8192) (l : Fin 128) :
    (iblk m c 1 t : FVec Ideal S1x8192x128 .bf16) (ix3 0 s l)
      = argP m c (ix3 (batchOf t) s ⟨2048 + (128 * (pairOf t).val + l.val), by omega⟩) := by
  unfold argP batchOf pairOf
  blk_ext [iblk, V, blocks_at t]
theorem v_at (t : Fin cfg0.N) (s : Fin 8192) (l : Fin 128) :
    (iblk m c 2 t : FVec Ideal S1x8192x128 .bf16) (ix3 0 s l)
      = argP m c (ix3 (batchOf t) s ⟨2560 + (128 * (pairOf t).val + l.val), by omega⟩) := by
  unfold argP batchOf pairOf
  blk_ext [iblk, V, blocks_at t]

/-! ## The suffix matrix -/

theorem above (l r : ℕ) (hl : l < 2 ^ 31) (hr : r < 2 ^ 31) :
    IntOp.cmpi CmpIPredicate.sgt (BitVec.ofNat 32 r) (BitVec.ofNat 32 l) = if l < r then 1#1 else 0#1 := below l r hl hr

/-- The divisor the host computes. -/
theorem divisor : Scalar.select (IntOp.cmpi CmpIPredicate.eq (id (constantI S_ 32 128#32) ix0) 0#32) (1#32) (id (constantI S_ 32 128#32) ix0) = 128#32 := rfl

/-- The remainder the host computes. -/
theorem remainder : ∀ j : Fin 256, Scalar.select
    (IntOp.andi
      (IntOp.cmpi CmpIPredicate.ne (IntOp.cmpi CmpIPredicate.slt (IntOp.remsi ArithUnit.host (BitVec.ofNat 32 j.val) 128#32) 0#32)
        (IntOp.cmpi CmpIPredicate.slt 128#32 0#32))
      (IntOp.cmpi CmpIPredicate.ne (IntOp.remsi ArithUnit.host (BitVec.ofNat 32 j.val) 128#32) 0#32))
    (IntOp.addi (IntOp.remsi ArithUnit.host (BitVec.ofNat 32 j.val) 128#32) 128#32)
    (IntOp.remsi ArithUnit.host (BitVec.ofNat 32 j.val) 128#32) = BitVec.ofNat 32 (j.val % 128) := by decide +kernel

theorem w_place (t : Fin cfg0.N) (j s : Fin 256) :
    (iblk m c 3 t : FVec Ideal S256x256 .bf16) (ix2 j s) = (V m c main_v13 : FVec Ideal S256x256 .bf16) (ix2 j s) := by
  blk_ext [iblk, blocks_at t]

theorem w_host (j s : Fin 256) : (V m c main_v13 : FVec Ideal S256x256 .bf16) (ix2 j s) = (show EReal from suffix j.val s.val) := by
  unfold V
  simp only [hostOps0, hostOps0_1, hostOps0_2, hostOps0_3, hostOps0_4, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp
  pointwise
  rw [divisor, remainder j, above _ _ (by omega) (by omega), below s.val 128 (by omega) (by omega), select_at]
  unfold suffix
  have one : (id (constant (F := Ideal) S_ FTy.f32 1065353216#32) ix0 : EReal) = 1 := by
    show (constant (F := Ideal) S_ FTy.f32 1065353216#32) ix0 = (1 : EReal)
    pointwise
  by_cases h : s.val < 128
  · rw [if_pos h, if_pos h]
    by_cases h' : s.val < j.val % 128
    · rw [if_pos h', if_pos h']
      show -((((1#1).toNat : ℝ) : EReal)) = -1
      simp
    · rw [if_neg h', if_neg h']
      show -((((0#1).toNat : ℝ) : EReal)) = 0
      simp
  · rw [if_neg h, if_neg h, one]

/-! ## The scores -/

theorem pay56_at (x : FVec Ideal S1x256x128 .bf16) (r : Fin 256) (l : Fin 128) :
    k0_pay56 (F := Ideal) x (ix2 r l) = x (ix3 0 r l) * Ideal.ofBits .f32 0x3E000000#32 := by
  pointwise [k0_pay56]

theorem pay57_at (x : FVec Ideal S1x256x128 .bf16) (r : Fin 256) (l : Fin 128) :
    k0_pay57 (F := Ideal) x (ix2 r l) = (show EReal from if l.val < 64 then x (ix3 0 r l) * Ideal.ofBits .f32 0x3E000000#32 else 0) := by
  pointwise [k0_pay57, pay56_at]
  rw [below l.val 64 (by omega) (by omega), select_at]

theorem pay58_at (x : FVec Ideal S1x256x128 .bf16) (r : Fin 256) (l : Fin 128) :
    k0_pay58 (F := Ideal) x (ix2 r l) = (show EReal from if l.val < 64 then 0 else x (ix3 0 r l) * Ideal.ofBits .f32 0x3E000000#32) := by
  pointwise [k0_pay58, pay56_at]
  have e : IntOp.cmpi CmpIPredicate.sge (BitVec.ofNat 32 l.val) 64#32 = if ¬l.val < 64 then 1#1 else 0#1 := by
    have h : (BitVec.ofNat 32 l.val).toInt = (l.val : Int) := by rw [BitVec.toInt_ofNat']; simp only [Int.bmod]; omega
    show BitVec.ofBool (decide ((64 : Int) ≤ (BitVec.ofNat 32 l.val).toInt)) = _
    rw [h]
    by_cases h' : l.val < 64
    · rw [if_neg (not_not.mpr h'), decide_eq_false (by omega)]; rfl
    · rw [if_pos h', decide_eq_true (by omega)]; rfl
  rw [e, select_at, ite_not]

/-- A sum over the lanes of which only the first half counts. -/
theorem lanes_low (f : Fin 128 → EReal) : (∑ l : Fin 128, if l.val < 64 then f l else 0) = ∑ d : Fin 64, f ⟨d.val, by omega⟩ := by
  rw [Fin.sum_univ_add (a := 64) (b := 64) (fun l : Fin (64 + 64) => if l.val < 64 then f l else 0)]
  rw [Finset.sum_congr rfl fun d _ => if_pos (show (Fin.castAdd 64 d).val < 64 from d.isLt)]
  rw [Finset.sum_congr (s₁ := Finset.univ) rfl fun d _ => if_neg (show ¬ (Fin.natAdd 64 d).val < 64 by simp), Finset.sum_const_zero, add_zero]
  rfl

theorem lanes_high (f : Fin 128 → EReal) : (∑ l : Fin 128, if l.val < 64 then 0 else f l) = ∑ d : Fin 64, f ⟨64 + d.val, by omega⟩ := by
  rw [Fin.sum_univ_add (a := 64) (b := 64) (fun l : Fin (64 + 64) => if l.val < 64 then 0 else f l)]
  rw [Finset.sum_congr rfl fun d _ => if_pos (show (Fin.castAdd 64 d).val < 64 from d.isLt), Finset.sum_const_zero, zero_add]
  exact Finset.sum_congr rfl fun d _ => if_neg (show ¬ (Fin.natAdd 64 d).val < 64 by simp)

/-- The first and the second head of a point's pair. -/
def headLow (t : Fin cfg0.N) : Fin 8 := ⟨2 * (pairOf t).val, by omega⟩
def headHigh (t : Fin cfg0.N) : Fin 8 := ⟨2 * (pairOf t).val + 1, by omega⟩

theorem scores_low (t : Fin cfg0.N) (r s : Fin 256) (n : ℕ) :
    k0_pay5 (F := Ideal) (k0_pay57 (F := Ideal) (iblk m c 0 t)) (slab (F := Ideal) (iblk m c 1 t) n) (ix2 r s)
      = scoreRow (argP m c) (batchOf t) (headLow t) (rowOf t r) (256 * n + s.val) := by
  rw [pay5_at]
  simp only [pay57_at, ite_mul, zero_mul]
  rw [lanes_low]
  unfold scoreRow
  refine Finset.sum_congr rfl fun d _ => ?_
  have e : ∀ o : ℕ, o + (128 * (pairOf t).val + d.val) = o + ((headLow t).val * 64 + d.val) := fun o => by
    show o + (128 * (pairOf t).val + d.val) = o + (2 * (pairOf t).val * 64 + d.val); omega
  rw [q_at]
  show _ * _ * (iblk m c 1 t : FVec Ideal S1x8192x128 .bf16) (ix3 0 (clip (256 * n + s.val)) ⟨d.val, _⟩) = _
  rw [k_at]
  simp only [e]

theorem scores_high (t : Fin cfg0.N) (r s : Fin 256) (n : ℕ) :
    k0_pay5 (F := Ideal) (k0_pay58 (F := Ideal) (iblk m c 0 t)) (slab (F := Ideal) (iblk m c 1 t) n) (ix2 r s)
      = scoreRow (argP m c) (batchOf t) (headHigh t) (rowOf t r) (256 * n + s.val) := by
  rw [pay5_at]
  simp only [pay58_at, ite_mul, zero_mul]
  rw [lanes_high]
  unfold scoreRow
  refine Finset.sum_congr rfl fun d _ => ?_
  have e : ∀ o : ℕ, o + (128 * (pairOf t).val + (64 + d.val)) = o + ((headHigh t).val * 64 + d.val) := fun o => by
    show o + (128 * (pairOf t).val + (64 + d.val)) = o + ((2 * (pairOf t).val + 1) * 64 + d.val); omega
  rw [q_at]
  show _ * _ * (iblk m c 1 t : FVec Ideal S1x8192x128 .bf16) (ix3 0 (clip (256 * n + s.val)) ⟨64 + d.val, _⟩) = _
  rw [k_at]
  simp only [e]

theorem values_low (t : Fin cfg0.N) (n : ℕ) (s : Fin 256) (d : Fin 64) :
    slab (F := Ideal) (iblk m c 2 t) n (ix3 0 s ⟨d.val, by omega⟩) = valueCol (argP m c) (batchOf t) (headLow t) d (256 * n + s.val) := by
  have e : ∀ o : ℕ, o + (128 * (pairOf t).val + d.val) = o + ((headLow t).val * 64 + d.val) := fun o => by
    show o + (128 * (pairOf t).val + d.val) = o + (2 * (pairOf t).val * 64 + d.val); omega
  show (iblk m c 2 t : FVec Ideal S1x8192x128 .bf16) (ix3 0 (clip (256 * n + s.val)) ⟨d.val, _⟩) = _
  rw [v_at]
  unfold valueCol
  simp only [e]

theorem values_high (t : Fin cfg0.N) (n : ℕ) (s : Fin 256) (d : Fin 64) :
    slab (F := Ideal) (iblk m c 2 t) n (ix3 0 s ⟨64 + d.val, by omega⟩) = valueCol (argP m c) (batchOf t) (headHigh t) d (256 * n + s.val) := by
  have e : ∀ o : ℕ, o + (128 * (pairOf t).val + (64 + d.val)) = o + ((headHigh t).val * 64 + d.val) := fun o => by
    show o + (128 * (pairOf t).val + (64 + d.val)) = o + ((2 * (pairOf t).val + 1) * 64 + d.val); omega
  show (iblk m c 2 t : FVec Ideal S1x8192x128 .bf16) (ix3 0 (clip (256 * n + s.val)) ⟨64 + d.val, _⟩) = _
  rw [v_at]
  unfold valueCol
  simp only [e]

/-! ## All the tiles of a query tile -/

section tiles

variable (q0 q1 : FVec Ideal S256x128 .bf16) (K V : ℕ → FVec Ideal S1x256x128 .bf16) (W : FVec Ideal S256x256 .bf16)
  (i : ℕ) (r : Fin 256) (z v : ℕ → EReal) (d : Fin 128)

/-- The state after the diagonal tile and `k` full tiles. -/
def after (q0 q1 : FVec Ideal S256x128 .bf16) (K V : ℕ → FVec Ideal S1x256x128 .bf16) (W : FVec Ideal S256x256 .bf16) (i k : ℕ) : Carried Ideal :=
  steps q0 q1 (fun k => K (i - 1 - k)) (fun k => V (i - 1 - k)) W (first q0 q1 (K i) (V i) W nothing) k

theorem zero_bits : (FloatOps.ofBits (F := Ideal) FTy.f32 0#32 : EReal) = 0 := Ideal.ofBits_zero_f32

theorem low_after (hi : i < 32) (hz : ∀ n (s : Fin 256), k0_pay5 (F := Ideal) q0 (K n) (ix2 r s) = z (256 * n + s.val))
    (hV : ∀ n (s : Fin 256), V n (ix3 0 s d) = v (256 * n + s.val)) (hW : ∀ j s : Fin 256, W (ix2 j s) = suffix j.val s.val) :
    ∀ k, k ≤ i → (∀ l : Fin 128, (after q0 q1 K V W i k).c0 (ix3 0 r l) = rest (256 * i + r.val) z (256 * (i - k)))
      ∧ (after q0 q1 K V W i k).a0 (ix3 0 r d) = mixed (256 * i + r.val) z v (256 * (i - k)) := by
  intro k
  induction k with
  | zero =>
    intro _
    have c : ∀ l : Fin 128, (nothing (F := Ideal)).c0 (ix3 0 r l) = rest (256 * i + r.val) z (256 * i + 256) := fun l =>
      zero_bits.trans (rest_past _ z _ (by omega)).symm
    exact ⟨fun l => diagonal_carry q0 (K i) W _ r (256 * i) z (by omega) (hz i) hW c l,
      diagonal_values q0 (K i) (V i) W _ _ r (256 * i) z v (by omega) (hz i) hW c d (hV i) (zero_bits.trans (mixed_past _ z v _ (by omega)).symm)⟩
  | succ k ih =>
    intro hk
    obtain ⟨hc, ha⟩ := ih (by omega)
    have e : 256 * (i - k) = 256 * (i - 1 - k) + 256 := by omega
    have e' : i - (k + 1) = i - 1 - k := by omega
    rw [e] at hc ha
    rw [e']
    exact ⟨fun l => full_carry q0 (K (i - 1 - k)) W _ r _ (256 * (i - 1 - k)) z (by omega) (by omega) (hz _) hW hc l,
      full_values q0 (K (i - 1 - k)) (V (i - 1 - k)) W _ _ r _ (256 * (i - 1 - k)) z v (by omega) (by omega) (hz _) hW hc d (hV _) ha⟩

theorem high_after (hi : i < 32) (hz : ∀ n (s : Fin 256), k0_pay5 (F := Ideal) q1 (K n) (ix2 r s) = z (256 * n + s.val))
    (hV : ∀ n (s : Fin 256), V n (ix3 0 s d) = v (256 * n + s.val)) (hW : ∀ j s : Fin 256, W (ix2 j s) = suffix j.val s.val) :
    ∀ k, k ≤ i → (∀ l : Fin 128, (after q0 q1 K V W i k).c1 (ix3 0 r l) = rest (256 * i + r.val) z (256 * (i - k)))
      ∧ (after q0 q1 K V W i k).a1 (ix3 0 r d) = mixed (256 * i + r.val) z v (256 * (i - k)) := by
  intro k
  induction k with
  | zero =>
    intro _
    have c : ∀ l : Fin 128, (nothing (F := Ideal)).c1 (ix3 0 r l) = rest (256 * i + r.val) z (256 * i + 256) := fun l =>
      zero_bits.trans (rest_past _ z _ (by omega)).symm
    exact ⟨fun l => diagonal_carry q1 (K i) W _ r (256 * i) z (by omega) (hz i) hW c l,
      diagonal_values q1 (K i) (V i) W _ _ r (256 * i) z v (by omega) (hz i) hW c d (hV i) (zero_bits.trans (mixed_past _ z v _ (by omega)).symm)⟩
  | succ k ih =>
    intro hk
    obtain ⟨hc, ha⟩ := ih (by omega)
    have e : 256 * (i - k) = 256 * (i - 1 - k) + 256 := by omega
    have e' : i - (k + 1) = i - 1 - k := by omega
    rw [e] at hc ha
    rw [e']
    exact ⟨fun l => full_carry q1 (K (i - 1 - k)) W _ r _ (256 * (i - 1 - k)) z (by omega) (by omega) (hz _) hW hc l,
      full_values q1 (K (i - 1 - k)) (V (i - 1 - k)) W _ _ r _ (256 * (i - 1 - k)) z v (by omega) (by omega) (hz _) hW hc d (hV _) ha⟩

end tiles

theorem pay1_at (a b : FVec Ideal S1x256x128 .f32) (r : Fin 256) (l : Fin 128) :
    k0_pay1 (F := Ideal) colNo k0_pay99 a b (ix3 0 r l) = (show EReal from if l.val < 64 then a (ix3 0 r l) else b (ix3 0 r l)) := by
  pointwise [k0_pay1, colNo, k0_pay99]
  rw [below l.val 64 (by omega) (by omega), select_at]

/-- What the result array ends holding. -/
theorem result : (dats m 0 c).arrAt 4 cfg0.N = attention (argP m c) := by
  refine (dats m 0 c).arrAt_eq_of_covers 4 _ (by decide +kernel) fun t hf y => ?_
  blk_simp
  rw [after0_4]
  unfold outsAt0
  have ho := out_eq (F := Ideal) c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) (iblk m c 0 t) (iblk m c 1 t) (iblk m c 2 t) (iblk m c 3 t)
  dsimp only at ho
  rw [(blocks_at t).2.2.2.2.2] at ho
  rw [ho]
  obtain ⟨o, r, l, rfl⟩ : ∃ (o : Fin 1) (r : Fin 256) (l : Fin 128), y = ix3 o r l := ⟨y 0, y 1, y 2, eq_ix3 y⟩
  obtain rfl : o = 0 := Subsingleton.elim _ _
  have hW : ∀ j s : Fin 256, (iblk m c 3 t : FVec Ideal S256x256 .bf16) (ix2 j s) = suffix j.val s.val := fun j s =>
    (w_place m c t j s).trans (w_host m c j s)
  refine (pay1_at _ _ r l).trans ?_
  by_cases h : l.val < 64
  · rw [if_pos h]
    have place : ((cfg0.win 4).blk t).view.emb (ix3 0 r l)
        = (ix3 (batchOf t) (rowOf t r) ⟨(headLow t).val * 64 + (⟨l.val, h⟩ : Fin 64).val, by show 2 * (pairOf t).val * 64 + l.val < 512; omega⟩ : S4x8192x512.Idx) := by
      unfold batchOf rowOf headLow pairOf tileOf
      blk_ext [blocks_at t]
    refine Eq.trans ?_ (congrArg (attention (argP m c)) place.symm)
    rw [Cert.SbReferenceIdeal.Stages.attention_at]
    have key := (low_after (k0_pay57 (F := Ideal) (iblk m c 0 t)) (k0_pay58 (F := Ideal) (iblk m c 0 t)) (slab (F := Ideal) (iblk m c 1 t)) (slab (F := Ideal) (iblk m c 2 t))
      (iblk m c 3 t) (t.val % 32) r (scoreRow (argP m c) (batchOf t) (headLow t) (rowOf t r)) (valueCol (argP m c) (batchOf t) (headLow t) ⟨l.val, h⟩) l
      (by omega) (fun n s => scores_low m c t r s n) (fun n s => values_low m c t n s ⟨l.val, h⟩) hW (t.val % 32) (le_refl _)).2
    rw [Nat.sub_self, Nat.mul_zero] at key
    exact key
  · rw [if_neg h]
    have place : ((cfg0.win 4).blk t).view.emb (ix3 0 r l)
        = (ix3 (batchOf t) (rowOf t r) ⟨(headHigh t).val * 64 + (⟨l.val - 64, by omega⟩ : Fin 64).val, by show (2 * (pairOf t).val + 1) * 64 + (l.val - 64) < 512; omega⟩ : S4x8192x512.Idx) := by
      unfold batchOf rowOf headHigh pairOf tileOf
      blk_ext [blocks_at t]
    refine Eq.trans ?_ (congrArg (attention (argP m c)) place.symm)
    rw [Cert.SbReferenceIdeal.Stages.attention_at]
    have el : l = (⟨64 + (l.val - 64), by omega⟩ : Fin 128) := Fin.ext (by show l.val = 64 + (l.val - 64); omega)
    have key := (high_after (k0_pay57 (F := Ideal) (iblk m c 0 t)) (k0_pay58 (F := Ideal) (iblk m c 0 t)) (slab (F := Ideal) (iblk m c 1 t)) (slab (F := Ideal) (iblk m c 2 t))
      (iblk m c 3 t) (t.val % 32) r (scoreRow (argP m c) (batchOf t) (headHigh t) (rowOf t r)) (valueCol (argP m c) (batchOf t) (headHigh t) ⟨l.val - 64, by omega⟩)
      ⟨64 + (l.val - 64), by omega⟩
      (by omega) (fun n s => scores_high m c t r s n) (fun n s => values_high m c t n s ⟨l.val - 64, by omega⟩) hW (t.val % 32) (le_refl _)).2
    rw [Nat.sub_self, Nat.mul_zero] at key
    rw [← el] at key
    exact key

end Cert.SbKernelIdeal.Result

end
-- ==== Proof.DiffFinite.lean ====
/-
  What the precondition of the differential attention says: the value columns of the projection and the parameters
  of lambda are real numbers.
-/
module

public import proofs.«01_k».proof.Pre_finite_values
public import Idealize.ShloMosaic.Lib.Pointwise
public import Idealize.ShloMosaic.Lib.Claim

@[expose] public section

set_option maxRecDepth 16384

noncomputable section

namespace Cert.Pre_finite_values

open Idealize.ShloMosaic

/-- The side conditions of the precondition's operations. -/
theorem facts : Facts := ⟨by decide, by decide, by decide⟩

/-- An extended real whose absolute value lies below infinity is a real number. -/
theorem real_of_below {x : EReal} (h : max x (-x) < ⊤) : x ≠ ⊤ ∧ x ≠ ⊥ := by
  constructor
  · rintro rfl; simp at h
  · rintro rfl; simp at h

theorem infinity_bf16 : Ideal.ofBits .bf16 0x7F80#16 = ⊤ := by simp [Ideal.ofBits, Ideal.ieee]
theorem infinity_f32 : Ideal.ofBits .f32 0x7F800000#32 = ⊤ := by simp [Ideal.ofBits, Ideal.ieee]

theorem below_of_bit {x y : EReal} (h : BitVec.ofBool (decide (x < y)) = 1#1) : x < y := by
  by_contra hn
  rw [decide_eq_false hn] at h
  exact absurd h (by decide)

variable [Facts] (P : FVec Ideal S4x8192x3072 .bf16) (w : FVec Ideal S4x64 .f32) (g : FVec Ideal S128 .f32)

theorem values_real (h : (fn (F := Ideal) P w g).1 = fun _ => 1#1) (b : Fin 4) (s : Fin 8192) (j : Fin 512) :
    (show EReal from P (ix3 b s ⟨1024 + j.val, by omega⟩)) ≠ ⊤ ∧ (show EReal from P (ix3 b s ⟨1024 + j.val, by omega⟩)) ≠ ⊥ := by
  have e := congrFun h (ix3 b s j)
  have e' : BitVec.ofBool (decide (max (show EReal from extractStridedSlice S4x8192x512 ![0, 0, 1024] P Facts.slices_S4x8192x3072_S4x8192x512_0_0_1024 (ix3 b s j))
      (-(show EReal from extractStridedSlice S4x8192x512 ![0, 0, 1024] P Facts.slices_S4x8192x3072_S4x8192x512_0_0_1024 (ix3 b s j))) < Ideal.ofBits .bf16 0x7F80#16)) = 1#1 := e
  rw [infinity_bf16] at e'
  have place : extractStridedSlice S4x8192x512 ![0, 0, 1024] P Facts.slices_S4x8192x3072_S4x8192x512_0_0_1024 (ix3 b s j) = P (ix3 b s ⟨1024 + j.val, by omega⟩) := by
    refine congrArg P (funext fun k => ?_)
    fin_cases k <;> simp [ix3]
  have r := real_of_below (below_of_bit e')
  rw [place] at r
  exact r

theorem params_real (h : (fn (F := Ideal) P w g).2 = fun _ => 1#1) (a : Fin 4) (x : Fin 64) :
    (show EReal from w (ix2 a x)) ≠ ⊤ ∧ (show EReal from w (ix2 a x)) ≠ ⊥ := by
  have e' : BitVec.ofBool (decide (max (show EReal from w (ix2 a x)) (-(show EReal from w (ix2 a x))) < Ideal.ofBits .f32 0x7F800000#32)) = 1#1 := congrFun h (ix2 a x)
  rw [infinity_f32] at e'
  exact real_of_below (below_of_bit e')

end Cert.Pre_finite_values

end
-- ==== Proof.DiffBody.lean ====
/-
  What one grid point of the differential attention kernel leaves in its output block: the running maxima, the running
  sums and the accumulated values of the two maps, after the diagonal key tile and then after the tiles before it.
-/
module

public import proofs.«01_k».proof.Proof.Gen.DiffKernelIdeal.Frame
public import Idealize.ShloMosaic.Lib.Pipeline.ValueKit
public import Idealize.ShloMosaic.Lib.Tactic

@[expose] public section

set_option maxRecDepth 16384

noncomputable section

namespace Cert.DiffKernelIdeal.Body

open Cert.DiffKernelIdeal Cert.DiffKernelIdeal.Gen
open Idealize.ShloMosaic Idealize.ShloMosaic.TcCoe Idealize.SL.Sem

variable {F : FTy → Type} [FloatOps F]

/-- What the three scratch buffers hold of the two maps: running maxima, running sums and accumulated values. -/
structure Carried (F : FTy → Type) [FloatOps F] where
  /-- the running maxima of the first map -/
  m0 : Vec F S1x256x1 .f32
  /-- and of the second -/
  m1 : Vec F S1x256x1 .f32
  /-- the running sums of the first map -/
  l0 : Vec F S1x256x1 .f32
  /-- and of the second -/
  l1 : Vec F S1x256x1 .f32
  /-- the accumulated values of the first map -/
  a0 : Vec F S1x256x128 .f32
  /-- and of the second -/
  a1 : Vec F S1x256x128 .f32

/-- The bias of the keys of tile `n`, for the query tile `q`. -/
def bias (q : BitVec 32) (col : IVec S1x256 32) (slope : FVec F S1x256 .f32) (n : ℕ) : FVec F S1x256 .f32 :=
  mulf slope (sitofp .f32 (addi col (broadcast S1x256 (Scalar.subi (Scalar.muli (BitVec.ofNat 32 n) 256#32) (Scalar.muli q 256#32)))))

/-- A map's running maxima after a full key tile, -/
def nextM (q : FVec F S256x128 .bf16) (K : Vec F S1x256x128 .bf16) (b : FVec F S1x256 .f32) (M : Vec F S1x256x1 .f32) :
    Vec F S1x256x1 .f32 := k0_pay64 (k0_pay15 q (k0_pay2 K) b M)

/-- its running sums -/
def nextL (q : FVec F S256x128 .bf16) (K : Vec F S1x256x128 .bf16) (b : FVec F S1x256 .f32) (M L : Vec F S1x256x1 .f32) :
    Vec F S1x256x1 .f32 := k0_pay18 q (k0_pay2 K) b M L

/-- and its accumulated values. -/
def nextA (q : FVec F S256x128 .bf16) (K V : Vec F S1x256x128 .bf16) (b : FVec F S1x256 .f32) (M : Vec F S1x256x1 .f32)
    (A : Vec F S1x256x128 .f32) : Vec F S1x256x128 .f32 :=
  k0_pay63 (k0_pay3 V) (k0_pay16 q (k0_pay2 K) b M) (k0_pay17 q (k0_pay2 K) b M) A

/-- Which keys of the diagonal tile a query sees. -/
def seen : IVec S256x256 1 :=
  k0_pay43 (iota Kind.tc S256x256 32 [0] iota_S256x256_d0_w32) (iota Kind.tc S256x256 32 [1] iota_S256x256_d1_w32)

/-- The number of a key in its tile. -/
def colNo : IVec S1x256 32 := iota Kind.tc S1x256 32 [1] iota_S1x256_d1_w32

/-- A map's running maxima after the diagonal key tile, -/
def firstM (q : FVec F S256x128 .bf16) (K : Vec F S1x256x128 .bf16) (b : FVec F S1x256 .f32) (M : Vec F S1x256x1 .f32) :
    Vec F S1x256x1 .f32 := k0_pay62 (k0_pay57 q seen (k0_pay44 K) b M)

/-- its running sums -/
def firstL (q : FVec F S256x128 .bf16) (K : Vec F S1x256x128 .bf16) (b : FVec F S1x256 .f32) (M L : Vec F S1x256x1 .f32) :
    Vec F S1x256x1 .f32 := k0_pay60 (k0_pay58 q seen (k0_pay44 K) b M) (k0_pay59 q seen (k0_pay44 K) b M) L

/-- and its accumulated values. -/
def firstA (q : FVec F S256x128 .bf16) (K V : Vec F S1x256x128 .bf16) (b : FVec F S1x256 .f32) (M : Vec F S1x256x1 .f32)
    (A : Vec F S1x256x128 .f32) : Vec F S1x256x128 .f32 :=
  k0_pay61 (k0_pay45 V) (k0_pay58 q seen (k0_pay44 K) b M) (k0_pay59 q seen (k0_pay44 K) b M) A

/-- One full key tile. -/
def step (q0 q1 : FVec F S256x128 .bf16) (K V : Vec F S1x256x128 .bf16) (b : FVec F S1x256 .f32) (s : Carried F) : Carried F :=
  ⟨nextM q0 K b s.m0, nextM q1 K b s.m1, nextL q0 K b s.m0 s.l0, nextL q1 K b s.m1 s.l1,
    nextA q0 K V b s.m0 s.a0, nextA q1 K V b s.m1 s.a1⟩

/-- The diagonal key tile. -/
def first (q0 q1 : FVec F S256x128 .bf16) (K V : Vec F S1x256x128 .bf16) (b : FVec F S1x256 .f32) (s : Carried F) : Carried F :=
  ⟨firstM q0 K b s.m0, firstM q1 K b s.m1, firstL q0 K b s.m0 s.l0, firstL q1 K b s.m1 s.l1,
    firstA q0 K V b s.m0 s.a0, firstA q1 K V b s.m1 s.a1⟩

/-- The first `k` key tiles one after the other. -/
def steps (q0 q1 : FVec F S256x128 .bf16) (K V : ℕ → Vec F S1x256x128 .bf16) (b : ℕ → FVec F S1x256 .f32) (s : Carried F) : ℕ → Carried F
  | 0 => s
  | k + 1 => step q0 q1 (K k) (V k) (b k) (steps q0 q1 K V b s k)

/-- Nothing seen, nothing accumulated. -/
def nothing : Carried F := ⟨fun _ => FloatOps.ofBits FTy.f32 0xFF800000#32, fun _ => FloatOps.ofBits FTy.f32 0xFF800000#32,
  fun _ => FloatOps.ofBits FTy.f32 0#32, fun _ => FloatOps.ofBits FTy.f32 0#32,
  fun _ => FloatOps.ofBits FTy.f32 0#32, fun _ => FloatOps.ofBits FTy.f32 0#32⟩

theorem carried_eq {m0 m1 l0 l1 m0' m1' l0' l1' : Vec F S1x256x1 .f32} {a0 a1 a0' a1' : Vec F S1x256x128 .f32}
    (h0 : m0 = m0') (h1 : m1 = m1') (h2 : l0 = l0') (h3 : l1 = l1') (h4 : a0 = a0') (h5 : a1 = a1') :
    (⟨m0, m1, l0, l1, a0, a1⟩ : Carried F) = ⟨m0', m1', l0', l1', a0', a1'⟩ := by subst h0 h1 h2 h3 h4 h5; rfl

/-! ## The halves of a scratch buffer -/

/-- The first map's half of a scratch buffer of rows, -/
abbrev thin0 : Rect S2x256x1 := Rect.unit (s := S2x256x1) ![0, 0, 0] S1x256x1.size inb_S2x256x1_S1x256x1_0_0_0
/-- the second map's, -/
abbrev thin1 : Rect S2x256x1 := Rect.unit (s := S2x256x1) ![1, 0, 0] S1x256x1.size inb_S2x256x1_S1x256x1_1_0_0
/-- and the halves of the buffer of accumulated values. -/
abbrev wide0 : Rect S2x256x128 := Rect.unit (s := S2x256x128) ![0, 0, 0] S1x256x128.size inb_S2x256x128_S1x256x128_0_0_0
abbrev wide1 : Rect S2x256x128 := Rect.unit (s := S2x256x128) ![1, 0, 0] S1x256x128.size inb_S2x256x128_S1x256x128_1_0_0

/-- What a list of stores leaves in a half. -/
def left {S : Shape} (r : Rect S) (L : List (View.Piece (Elt F) S .f32)) : r.toLoadRect.shape.Idx → Elt F .f32 :=
  fun j => View.canon L (r.toLoadRect.idx j)

theorem left_same {S : Shape} (r : Rect S) (w : r.shape.Idx → Elt F .f32) (L : List (View.Piece (Elt F) S .f32)) :
    left r (⟨r, w⟩ :: L) = w := funext fun j => View.canon_cons_emb r w L j

theorem left_thin0 (w : thin1.shape.Idx → Elt F .f32) (L : List (View.Piece (Elt F) S2x256x1 .f32)) :
    left thin0 (⟨thin1, w⟩ :: L) = left thin0 L :=
  funext fun j => View.canon_cons_of_not_mem ⟨thin1, w⟩ L (LoadRect.idx_not_mem_of_disj (show LoadRect.disj thin1 thin0.toLoadRect = true by decide) j)

theorem left_thin1 (w : thin0.shape.Idx → Elt F .f32) (L : List (View.Piece (Elt F) S2x256x1 .f32)) :
    left thin1 (⟨thin0, w⟩ :: L) = left thin1 L :=
  funext fun j => View.canon_cons_of_not_mem ⟨thin0, w⟩ L (LoadRect.idx_not_mem_of_disj (show LoadRect.disj thin0 thin1.toLoadRect = true by decide) j)

theorem left_wide0 (w : wide1.shape.Idx → Elt F .f32) (L : List (View.Piece (Elt F) S2x256x128 .f32)) :
    left wide0 (⟨wide1, w⟩ :: L) = left wide0 L :=
  funext fun j => View.canon_cons_of_not_mem ⟨wide1, w⟩ L (LoadRect.idx_not_mem_of_disj (show LoadRect.disj wide1 wide0.toLoadRect = true by decide) j)

theorem left_wide1 (w : wide0.shape.Idx → Elt F .f32) (L : List (View.Piece (Elt F) S2x256x128 .f32)) :
    left wide1 (⟨wide0, w⟩ :: L) = left wide1 L :=
  funext fun j => View.canon_cons_of_not_mem ⟨wide0, w⟩ L (LoadRect.idx_not_mem_of_disj (show LoadRect.disj wide0 wide1.toLoadRect = true by decide) j)

theorem off000 : ∀ a, (![0, 0, 0] : Fin 3 → Nat) a = 0 := fun a => by fin_cases a <;> rfl

theorem thin_fill (r : Rect S2x256x1) (Z : S2x256x1.Idx → Elt F .f32) (L : List (View.Piece (Elt F) S2x256x1 .f32)) :
    left r (⟨Rect.unit (s := S2x256x1) ![0, 0, 0] S2x256x1.size inb_S2x256x1_S2x256x1_0_0_0, Z⟩ :: L) = fun j => Z (r.toLoadRect.idx j) := by
  unfold left
  rw [View.canon_cons_unit_lit inb_S2x256x1_S2x256x1_0_0_0 Z L off000]

theorem wide_fill (r : Rect S2x256x128) (Z : S2x256x128.Idx → Elt F .f32) (L : List (View.Piece (Elt F) S2x256x128 .f32)) :
    left r (⟨Rect.unit (s := S2x256x128) ![0, 0, 0] S2x256x128.size inb_S2x256x128_S2x256x128_0_0_0, Z⟩ :: L) = fun j => Z (r.toLoadRect.idx j) := by
  unfold left
  rw [View.canon_cons_unit_lit inb_S2x256x128_S2x256x128_0_0_0 Z L off000]

theorem readCov_left {sig : RefSig} {κ : Kind} {sp : Space} {S : Shape} (v : View sig κ sp S .f32) (r : Rect S)
    (L : List (View.Piece (Elt F) S .f32)) : v.readCov L r.toLoadRect = left r L := View.readCov_eq_canon' v L _

theorem readAt_left {sig : RefSig} {κ : Kind} {sp : Space} {S : Shape} (v : View sig κ sp S .f32) (r : Rect S)
    (L : List (View.Piece (Elt F) S .f32)) : v.readAt (Elt F) r.toLoadRect (v.writes (Elt F) v.junk L) = left r L :=
  View.readAt_writes_junk_eq_canon v L _

/-! ## One trip -/

/-- The stores of one trip. -/
theorem trip_eq (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (arg2 : BitVec 32) (v10 : FVec F S256x128 .bf16) (v15 : FVec F S256x128 .bf16) (v16 : IVec S1x256 32) (v24 : FVec F S1x256 .f32) (v51 : FVec F S256x128 .bf16) (v104 : FVec F S256x1 .f32) (v107 : FVec F S256x256 .f32) (v109 : FVec F S256x1 .f32) (X_arg4 : BufTy.Contents (Elt F) arg4.view.ty) (X_arg5 : BufTy.Contents (Elt F) arg5.view.ty) (k : Fin (k0_t1_loop i).trips) (f_arg9 : BufTy.Contents (Elt F) arg9.view.ty) (f_arg10 : BufTy.Contents (Elt F) arg10.view.ty) (f_arg11 : BufTy.Contents (Elt F) arg11.view.ty) :
    tripL_k0_t1 𝒱 c bd i arg3 harg3 arg4 harg4 arg5 harg5 arg6 harg6 arg7 harg7 arg8 harg8 arg9 harg9 arg10 harg10 arg11 harg11 arg2 v10 v15 v16 v24 v51 v104 v107 v109 X_arg4 X_arg5 k f_arg9 f_arg10 f_arg11
      = ([⟨thin1, nextM v15 (View.readAt (Elt F) arg4.view (Rect.unit (s := S1x8192x128) (k0_off2 i k) S1x256x128.size (k0_off2_inb i k)).toLoadRect X_arg4) (k0_pay4 i arg2 v16 v24 0#32 1#32 k) (View.readAt (Elt F) arg9.view thin1.toLoadRect f_arg9)⟩, ⟨thin0, nextM v10 (View.readAt (Elt F) arg4.view (Rect.unit (s := S1x8192x128) (k0_off2 i k) S1x256x128.size (k0_off2_inb i k)).toLoadRect X_arg4) (k0_pay4 i arg2 v16 v24 0#32 1#32 k) (View.readAt (Elt F) arg9.view thin0.toLoadRect f_arg9)⟩],
         [⟨thin1, nextL v15 (View.readAt (Elt F) arg4.view (Rect.unit (s := S1x8192x128) (k0_off2 i k) S1x256x128.size (k0_off2_inb i k)).toLoadRect X_arg4) (k0_pay4 i arg2 v16 v24 0#32 1#32 k) (View.readAt (Elt F) arg9.view thin1.toLoadRect f_arg9) (View.readAt (Elt F) arg10.view thin1.toLoadRect f_arg10)⟩, ⟨thin0, nextL v10 (View.readAt (Elt F) arg4.view (Rect.unit (s := S1x8192x128) (k0_off2 i k) S1x256x128.size (k0_off2_inb i k)).toLoadRect X_arg4) (k0_pay4 i arg2 v16 v24 0#32 1#32 k) (View.readAt (Elt F) arg9.view thin0.toLoadRect f_arg9) (View.readAt (Elt F) arg10.view thin0.toLoadRect f_arg10)⟩],
         [⟨wide1, nextA v15 (View.readAt (Elt F) arg4.view (Rect.unit (s := S1x8192x128) (k0_off2 i k) S1x256x128.size (k0_off2_inb i k)).toLoadRect X_arg4) (View.readAt (Elt F) arg5.view (Rect.unit (s := S1x8192x128) (k0_off2 i k) S1x256x128.size (k0_off2_inb i k)).toLoadRect X_arg5) (k0_pay4 i arg2 v16 v24 0#32 1#32 k) (View.readAt (Elt F) arg9.view thin1.toLoadRect f_arg9) (View.readAt (Elt F) arg11.view wide1.toLoadRect f_arg11)⟩, ⟨wide0, nextA v10 (View.readAt (Elt F) arg4.view (Rect.unit (s := S1x8192x128) (k0_off2 i k) S1x256x128.size (k0_off2_inb i k)).toLoadRect X_arg4) (View.readAt (Elt F) arg5.view (Rect.unit (s := S1x8192x128) (k0_off2 i k) S1x256x128.size (k0_off2_inb i k)).toLoadRect X_arg5) (k0_pay4 i arg2 v16 v24 0#32 1#32 k) (View.readAt (Elt F) arg9.view thin0.toLoadRect f_arg9) (View.readAt (Elt F) arg11.view wide0.toLoadRect f_arg11)⟩]) := by
  dsimp only [tripL_k0_t1]
  unfold trip_k0_t1
  dsimp only
  sl_unfold_words
  rfl

/-- The bias the loop computes at trip `k` is tile `k`'s. -/
theorem bias_eq (i : grid0.Coords) (q : BitVec 32) (col : IVec S1x256 32) (slope : FVec F S1x256 .f32) (k : Fin (k0_t1_loop i).trips) :
    k0_pay4 i q col slope 0#32 1#32 k = bias q col slope k.val := by
  have h : (Scf.iv 0#32 1#32 k : BitVec 32) = BitVec.ofNat 32 k.val := by simp [Scf.iv]
  unfold k0_pay4 bias
  dsimp only
  rw [h]

/-! ## The loads -/

/-- Key tile `n` of a staged array of 8192 rows. -/
def slab (x : Vec F S1x8192x128 .bf16) (n : ℕ) : Vec F S1x256x128 .bf16 :=
  fun y => x (ix3 0 (⟨(256 * n + (y 1).val) % 8192, Nat.mod_lt _ (by decide)⟩ : Fin 8192) (y 2))

theorem trips_eq : ∀ i : grid0.Coords, (k0_t1_loop i).trips = (i 2).val := by decide +kernel

theorem ld_slab (x : Vec F S1x8192x128 .bf16) (n : ℕ) (hn : n < 32) (off : Fin 3 → ℕ) (ho : off = ![0, 256 * n, 0])
    (inb : ∀ a, off a + S1x256x128.size a ≤ S1x8192x128.size a) :
    View.ld x (Rect.unit (s := S1x8192x128) off (no_index S1x256x128.size) inb) = slab x n := by
  subst ho
  funext y
  have h0 : (y 0).val < 1 := (y 0).isLt
  have h1 : (y 1).val < 256 := (y 1).isLt
  unfold slab
  refine congrArg x (funext fun a => Fin.ext ?_)
  fin_cases a
  · show 0 + 1 * (y 0).val = 0; omega
  · show 256 * n + 1 * (y 1).val = (256 * n + (y 1).val) % 8192; omega
  · show 0 + 1 * (y 2).val = (y 2).val; omega

/-! ## The loop -/

/-- After `k` trips the scratch buffers hold what `k` full key tiles leave. -/
theorem loop_eq (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (arg2 : BitVec 32) (v10 : FVec F S256x128 .bf16) (v15 : FVec F S256x128 .bf16) (v16 : IVec S1x256 32) (v24 : FVec F S1x256 .f32) (v51 : FVec F S256x128 .bf16) (v104 : FVec F S256x1 .f32) (v107 : FVec F S256x256 .f32) (v109 : FVec F S256x1 .f32)
    (x1 : Vec F S1x8192x128 .bf16) (x2 : Vec F S1x8192x128 .bf16)
    (L9 L10 : List (View.Piece (Elt F) S2x256x1 .f32)) (L11 : List (View.Piece (Elt F) S2x256x128 .f32)) (k : ℕ) (hk : k ≤ (k0_t1_loop i).trips) :
    let s : Carried F := steps v10 v15 (slab x1) (slab x2) (bias arg2 v16 v24) ⟨left thin0 L9, left thin1 L9, left thin0 L10, left thin1 L10, left wide0 L11, left wide1 L11⟩ k
    let p := pb_k0_t1 𝒱 c bd i arg3 harg3 arg4 harg4 arg5 harg5 arg6 harg6 arg7 harg7 arg8 harg8 arg9 harg9 arg10 harg10 arg11 harg11 arg2 v10 v15 v16 v24 v51 v104 v107 v109 (harg4.unread x1) (harg5.unread x2) (arg9.view.writes (Elt F) arg9.view.junk L9) (arg10.view.writes (Elt F) arg10.view.junk L10) (arg11.view.writes (Elt F) arg11.view.junk L11) k
    (left thin0 (p.1 ++ L9) = s.m0 ∧ left thin1 (p.1 ++ L9) = s.m1) ∧ (left thin0 (p.2.1 ++ L10) = s.l0 ∧ left thin1 (p.2.1 ++ L10) = s.l1) ∧
      left wide0 (p.2.2 ++ L11) = s.a0 ∧ left wide1 (p.2.2 ++ L11) = s.a1 := by
  induction k with
  | zero => exact ⟨⟨rfl, rfl⟩, ⟨rfl, rfl⟩, rfl, rfl⟩
  | succ k ih =>
    have hk' : k < (k0_t1_loop i).trips := hk
    obtain ⟨⟨e0, e1⟩, ⟨e2, e3⟩, e4, e5⟩ := ih (Nat.le_of_lt hk')
    have hn : k < 32 := by have := trips_eq i; have : (i 2).val < 32 := (i 2).isLt; omega
    have hs := pb_k0_t1_succ 𝒱 c bd i arg3 harg3 arg4 harg4 arg5 harg5 arg6 harg6 arg7 harg7 arg8 harg8 arg9 harg9 arg10 harg10 arg11 harg11 arg2 v10 v15 v16 v24 v51 v104 v107 v109 (harg4.unread x1) (harg5.unread x2) (arg9.view.writes (Elt F) arg9.view.junk L9) (arg10.view.writes (Elt F) arg10.view.junk L10) (arg11.view.writes (Elt F) arg11.view.junk L11) ⟨k, hk'⟩
    rw [trip_eq] at hs
    dsimp only at hs e0 e1 e2 e3 e4 e5 ⊢
    rw [hs]
    simp only [← View.writes_append, readAt_left, List.cons_append, List.nil_append]
    simp only [View.readAt_eq_ld, harg4.read_unread, harg5.read_unread, bias_eq,
      ld_slab x1 _ hn _ (k0_off2_eq i ⟨k, hk'⟩), ld_slab x2 _ hn _ (k0_off2_eq i ⟨k, hk'⟩),
      left_same, left_thin0, left_thin1, left_wide0, left_wide1, e0, e1, e2, e3, e4, e5]
    exact ⟨⟨rfl, rfl⟩, ⟨rfl, rfl⟩, rfl, rfl⟩

/-- The running sums of the first map after the loop, -/
theorem loop_l0 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (arg2 : BitVec 32) (v10 : FVec F S256x128 .bf16) (v15 : FVec F S256x128 .bf16) (v16 : IVec S1x256 32) (v24 : FVec F S1x256 .f32) (v51 : FVec F S256x128 .bf16) (v104 : FVec F S256x1 .f32) (v107 : FVec F S256x256 .f32) (v109 : FVec F S256x1 .f32)
    (x1 : Vec F S1x8192x128 .bf16) (x2 : Vec F S1x8192x128 .bf16)
    (L9 L10 : List (View.Piece (Elt F) S2x256x1 .f32)) (L11 : List (View.Piece (Elt F) S2x256x128 .f32)) (k : ℕ) (hk : k = (k0_t1_loop i).trips) :
    left thin0 ((pb_k0_t1 𝒱 c bd i arg3 harg3 arg4 harg4 arg5 harg5 arg6 harg6 arg7 harg7 arg8 harg8 arg9 harg9 arg10 harg10 arg11 harg11 arg2 v10 v15 v16 v24 v51 v104 v107 v109 (harg4.unread x1) (harg5.unread x2) (arg9.view.writes (Elt F) arg9.view.junk L9) (arg10.view.writes (Elt F) arg10.view.junk L10) (arg11.view.writes (Elt F) arg11.view.junk L11) k).2.1 ++ L10)
      = (steps v10 v15 (slab x1) (slab x2) (bias arg2 v16 v24) ⟨left thin0 L9, left thin1 L9, left thin0 L10, left thin1 L10, left wide0 L11, left wide1 L11⟩ (i 2).val).l0 := by
  have := (loop_eq 𝒱 c bd i arg3 harg3 arg4 harg4 arg5 harg5 arg6 harg6 arg7 harg7 arg8 harg8 arg9 harg9 arg10 harg10 arg11 harg11 arg2 v10 v15 v16 v24 v51 v104 v107 v109 x1 x2 L9 L10 L11 k hk.le).2.1.1
  rw [this, hk, trips_eq]

/-- of the second, -/
theorem loop_l1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (arg2 : BitVec 32) (v10 : FVec F S256x128 .bf16) (v15 : FVec F S256x128 .bf16) (v16 : IVec S1x256 32) (v24 : FVec F S1x256 .f32) (v51 : FVec F S256x128 .bf16) (v104 : FVec F S256x1 .f32) (v107 : FVec F S256x256 .f32) (v109 : FVec F S256x1 .f32)
    (x1 : Vec F S1x8192x128 .bf16) (x2 : Vec F S1x8192x128 .bf16)
    (L9 L10 : List (View.Piece (Elt F) S2x256x1 .f32)) (L11 : List (View.Piece (Elt F) S2x256x128 .f32)) (k : ℕ) (hk : k = (k0_t1_loop i).trips) :
    left thin1 ((pb_k0_t1 𝒱 c bd i arg3 harg3 arg4 harg4 arg5 harg5 arg6 harg6 arg7 harg7 arg8 harg8 arg9 harg9 arg10 harg10 arg11 harg11 arg2 v10 v15 v16 v24 v51 v104 v107 v109 (harg4.unread x1) (harg5.unread x2) (arg9.view.writes (Elt F) arg9.view.junk L9) (arg10.view.writes (Elt F) arg10.view.junk L10) (arg11.view.writes (Elt F) arg11.view.junk L11) k).2.1 ++ L10)
      = (steps v10 v15 (slab x1) (slab x2) (bias arg2 v16 v24) ⟨left thin0 L9, left thin1 L9, left thin0 L10, left thin1 L10, left wide0 L11, left wide1 L11⟩ (i 2).val).l1 := by
  have := (loop_eq 𝒱 c bd i arg3 harg3 arg4 harg4 arg5 harg5 arg6 harg6 arg7 harg7 arg8 harg8 arg9 harg9 arg10 harg10 arg11 harg11 arg2 v10 v15 v16 v24 v51 v104 v107 v109 x1 x2 L9 L10 L11 k hk.le).2.1.2
  rw [this, hk, trips_eq]

/-- the accumulated values of the first map after the loop -/
theorem loop_a0 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (arg2 : BitVec 32) (v10 : FVec F S256x128 .bf16) (v15 : FVec F S256x128 .bf16) (v16 : IVec S1x256 32) (v24 : FVec F S1x256 .f32) (v51 : FVec F S256x128 .bf16) (v104 : FVec F S256x1 .f32) (v107 : FVec F S256x256 .f32) (v109 : FVec F S256x1 .f32)
    (x1 : Vec F S1x8192x128 .bf16) (x2 : Vec F S1x8192x128 .bf16)
    (L9 L10 : List (View.Piece (Elt F) S2x256x1 .f32)) (L11 : List (View.Piece (Elt F) S2x256x128 .f32)) (k : ℕ) (hk : k = (k0_t1_loop i).trips) :
    left wide0 ((pb_k0_t1 𝒱 c bd i arg3 harg3 arg4 harg4 arg5 harg5 arg6 harg6 arg7 harg7 arg8 harg8 arg9 harg9 arg10 harg10 arg11 harg11 arg2 v10 v15 v16 v24 v51 v104 v107 v109 (harg4.unread x1) (harg5.unread x2) (arg9.view.writes (Elt F) arg9.view.junk L9) (arg10.view.writes (Elt F) arg10.view.junk L10) (arg11.view.writes (Elt F) arg11.view.junk L11) k).2.2 ++ L11)
      = (steps v10 v15 (slab x1) (slab x2) (bias arg2 v16 v24) ⟨left thin0 L9, left thin1 L9, left thin0 L10, left thin1 L10, left wide0 L11, left wide1 L11⟩ (i 2).val).a0 := by
  have := (loop_eq 𝒱 c bd i arg3 harg3 arg4 harg4 arg5 harg5 arg6 harg6 arg7 harg7 arg8 harg8 arg9 harg9 arg10 harg10 arg11 harg11 arg2 v10 v15 v16 v24 v51 v104 v107 v109 x1 x2 L9 L10 L11 k hk.le).2.2.1
  rw [this, hk, trips_eq]

/-- and of the second. -/
theorem loop_a1 (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (arg2 : BitVec 32) (v10 : FVec F S256x128 .bf16) (v15 : FVec F S256x128 .bf16) (v16 : IVec S1x256 32) (v24 : FVec F S1x256 .f32) (v51 : FVec F S256x128 .bf16) (v104 : FVec F S256x1 .f32) (v107 : FVec F S256x256 .f32) (v109 : FVec F S256x1 .f32)
    (x1 : Vec F S1x8192x128 .bf16) (x2 : Vec F S1x8192x128 .bf16)
    (L9 L10 : List (View.Piece (Elt F) S2x256x1 .f32)) (L11 : List (View.Piece (Elt F) S2x256x128 .f32)) (k : ℕ) (hk : k = (k0_t1_loop i).trips) :
    left wide1 ((pb_k0_t1 𝒱 c bd i arg3 harg3 arg4 harg4 arg5 harg5 arg6 harg6 arg7 harg7 arg8 harg8 arg9 harg9 arg10 harg10 arg11 harg11 arg2 v10 v15 v16 v24 v51 v104 v107 v109 (harg4.unread x1) (harg5.unread x2) (arg9.view.writes (Elt F) arg9.view.junk L9) (arg10.view.writes (Elt F) arg10.view.junk L10) (arg11.view.writes (Elt F) arg11.view.junk L11) k).2.2 ++ L11)
      = (steps v10 v15 (slab x1) (slab x2) (bias arg2 v16 v24) ⟨left thin0 L9, left thin1 L9, left thin0 L10, left thin1 L10, left wide0 L11, left wide1 L11⟩ (i 2).val).a1 := by
  have := (loop_eq 𝒱 c bd i arg3 harg3 arg4 harg4 arg5 harg5 arg6 harg6 arg7 harg7 arg8 harg8 arg9 harg9 arg10 harg10 arg11 harg11 arg2 v10 v15 v16 v24 v51 v104 v107 v109 x1 x2 L9 L10 L11 k hk.le).2.2.2
  rw [this, hk, trips_eq]

/-- The second loop makes no trip. -/
theorem none_left (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (arg2 : BitVec 32) (v10 : FVec F S256x128 .bf16) (v15 : FVec F S256x128 .bf16) (v16 : IVec S1x256 32) (v24 : FVec F S1x256 .f32) (v51 : FVec F S256x128 .bf16) (v104 : FVec F S256x1 .f32) (v107 : FVec F S256x256 .f32) (v109 : FVec F S256x1 .f32)  (u : BitVec 32)
    (X4 : BufTy.Contents (Elt F) arg4.view.ty) (X5 : BufTy.Contents (Elt F) arg5.view.ty)
    (G9 : BufTy.Contents (Elt F) arg9.view.ty) (G10 : BufTy.Contents (Elt F) arg10.view.ty) (G11 : BufTy.Contents (Elt F) arg11.view.ty) (k : ℕ) (hk : k = 0) :
    pb_k0_t2 𝒱 c bd i arg3 harg3 arg4 harg4 arg5 harg5 arg6 harg6 arg7 harg7 arg8 harg8 arg9 harg9 arg10 harg10 arg11 harg11 arg2 v10 v15 v16 v24 v51 v104 v107 v109 u X4 X5 G9 G10 G11 k = ([], [], []) := by
  subst hk
  rfl

/-- The bias of the diagonal tile is the query tile's own. -/
theorem bias_first (q : ℕ) (col : IVec S1x256 32) (slope : FVec F S1x256 .f32) :
    k0_pay46 (BitVec.ofNat 32 q) col slope = bias (BitVec.ofNat 32 q) col slope q := by
  have h : Scalar.addi (Scalar.muli (BitVec.ofNat 32 q) 1#32) 0#32 = BitVec.ofNat 32 q := by
    show BitVec.ofNat 32 q * 1#32 + 0#32 = BitVec.ofNat 32 q
    rw [BitVec.mul_one, BitVec.add_zero]
  unfold k0_pay46 bias
  dsimp only
  rw [h]

/-! ## The first map's diagonal tile is computed as the second's -/

section
variable (a : BitVec 32) (q : FVec F S256x128 .bf16) (col : IVec S1x256 32) (slope : FVec F S1x256 .f32) (r k : IVec S256x256 32)
  (K : Vec F S1x256x128 .bf16) (M : Vec F S1x256x1 .f32)

theorem pay47_eq : k0_pay47 a q col slope r k K = k0_pay55 q (k0_pay43 r k) (k0_pay44 K) (k0_pay46 a col slope) := rfl
theorem pay49_eq : k0_pay49 a q col slope r k K M = k0_pay57 q (k0_pay43 r k) (k0_pay44 K) (k0_pay46 a col slope) M := by
  unfold k0_pay49 k0_pay57; rw [pay47_eq]; rfl
theorem pay50_eq : k0_pay50 a q col slope r k K M = k0_pay58 q (k0_pay43 r k) (k0_pay44 K) (k0_pay46 a col slope) M := by
  unfold k0_pay50 k0_pay58; rw [pay47_eq, pay49_eq]
theorem pay51_eq : k0_pay51 a q col slope r k K M = k0_pay59 q (k0_pay43 r k) (k0_pay44 K) (k0_pay46 a col slope) M := by
  unfold k0_pay51 k0_pay59; rw [pay49_eq]; rfl
end

/-! ## The body -/

set_option maxHeartbeats 4000000 in
/-- What a grid point leaves in its output block. -/
theorem out_eq (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S4x64 .f32) (harg6 : arg6.IsWhole) (arg7 : Memref sig .tc .vmem S1x128 .f32) (harg7 : arg7.IsWhole) (arg8 : Memref sig .tc .vmem S1x256x128 .bf16) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole)
    (x0 : Vec F S1x256x128 .bf16) (x1 : Vec F S1x8192x128 .bf16) (x2 : Vec F S1x8192x128 .bf16) (x3 : Vec F S4x64 .f32) (x4 : Vec F S1x128 .f32) :
    let s : Carried F := steps (k0_pay37 x0) (k0_pay38 x0) (slab x1) (slab x2) (bias (BitVec.ofNat 32 (i 2).val) colNo (k0_pay39 i))
      (first (k0_pay37 x0) (k0_pay38 x0) (slab x1 (i 2).val) (slab x2 (i 2).val) (bias (BitVec.ofNat 32 (i 2).val) colNo (k0_pay39 i) (i 2).val) nothing) (i 2).val
    out0_A_5 c i arg3 harg3 arg4 harg4 arg5 harg5 arg6 harg6 arg7 harg7 arg8 harg8 arg9 harg9 arg10 harg10 arg11 harg11 x0 x1 x2 x3 x4 = k0_pay1 (k0_pay68 x3 (k0_pay67 x3) s.a0 s.l0 s.a1 s.l1) (k0_pay69 x4) (k0_pay70 x3 (k0_pay67 x3) s.a0 s.l0 s.a1 s.l1) := by
  intro s
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  sl_unfold_words
  rw [View.canon_unit_zero (S := S1x256x128) (funext off000)]
  simp only [readCov_left]
  have hn : (i 2).val < 32 := (i 2).isLt
  have ho : (![0, BitVec.toNat (Scalar.indexCast (Scalar.muli (Scalar.addi (Scalar.muli (BitVec.ofNat 32 (i 2).val) 1#32) 0#32) 256#32)), 0] : Fin 3 → ℕ)
      = ![0, 256 * (i 2).val, 0] := k0_off1_eq i
  simp only [View.readAt_eq_ld, harg3.read_unread, harg4.read_unread, harg5.read_unread, harg6.read_unread, harg7.read_unread,
    View.ld_unit_zero (S := S4x64) (show (![0, 0] : Fin 2 → Nat) = fun _ => 0 from funext fun a => by fin_cases a <;> rfl),
    View.ld_unit_zero (S := S1x128) (show (![0, 0] : Fin 2 → Nat) = fun _ => 0 from funext fun a => by fin_cases a <;> rfl),
    View.ld_unit_zero (S := S1x256x128) (funext off000)]
  generalize hK : View.ld x1 _ = K
  generalize hV : View.ld x2 _ = V
  have hK' : K = slab x1 (i 2).val := hK.symm.trans (ld_slab x1 _ hn _ ho _)
  have hV' : V = slab x2 (i 2).val := hV.symm.trans (ld_slab x2 _ hn _ ho _)
  clear hK hV
  subst hK' hV'
  rw [none_left (hk := Nat.le_zero.mp (k0_t2_abs i).2.1)]
  simp only [List.nil_append, pay49_eq, pay50_eq, pay51_eq, bias_first]
  rw [loop_a0 (hk := rfl), loop_a1 (hk := rfl), loop_l0 (hk := rfl), loop_l1 (hk := rfl)]
  have key : ∀ s' : Carried F, s' = first (k0_pay37 x0) (k0_pay38 x0) (slab x1 (i 2).val) (slab x2 (i 2).val) (bias (BitVec.ofNat 32 (i 2).val) colNo (k0_pay39 i) (i 2).val) nothing →
      k0_pay1 (k0_pay68 x3 (k0_pay67 x3) (steps (k0_pay37 x0) (k0_pay38 x0) (slab x1) (slab x2) (bias (BitVec.ofNat 32 (i 2).val) colNo (k0_pay39 i)) s' (i 2).val).a0 (steps (k0_pay37 x0) (k0_pay38 x0) (slab x1) (slab x2) (bias (BitVec.ofNat 32 (i 2).val) colNo (k0_pay39 i)) s' (i 2).val).l0 (steps (k0_pay37 x0) (k0_pay38 x0) (slab x1) (slab x2) (bias (BitVec.ofNat 32 (i 2).val) colNo (k0_pay39 i)) s' (i 2).val).a1 (steps (k0_pay37 x0) (k0_pay38 x0) (slab x1) (slab x2) (bias (BitVec.ofNat 32 (i 2).val) colNo (k0_pay39 i)) s' (i 2).val).l1) (k0_pay69 x4) (k0_pay70 x3 (k0_pay67 x3) (steps (k0_pay37 x0) (k0_pay38 x0) (slab x1) (slab x2) (bias (BitVec.ofNat 32 (i 2).val) colNo (k0_pay39 i)) s' (i 2).val).a0 (steps (k0_pay37 x0) (k0_pay38 x0) (slab x1) (slab x2) (bias (BitVec.ofNat 32 (i 2).val) colNo (k0_pay39 i)) s' (i 2).val).l0 (steps (k0_pay37 x0) (k0_pay38 x0) (slab x1) (slab x2) (bias (BitVec.ofNat 32 (i 2).val) colNo (k0_pay39 i)) s' (i 2).val).a1 (steps (k0_pay37 x0) (k0_pay38 x0) (slab x1) (slab x2) (bias (BitVec.ofNat 32 (i 2).val) colNo (k0_pay39 i)) s' (i 2).val).l1)
        = k0_pay1 (k0_pay68 x3 (k0_pay67 x3) s.a0 s.l0 s.a1 s.l1) (k0_pay69 x4) (k0_pay70 x3 (k0_pay67 x3) s.a0 s.l0 s.a1 s.l1) := by rintro _ rfl; rfl
  refine key _ ?_
  clear key
  generalize z0 : left _ [(⟨Rect.unit (s := S2x256x1) ![0, 0, 0] ![2, 256, 1] inb_S2x256x1_S2x256x1_0_0_0, k0_pay40⟩ : View.Piece (Elt F) S2x256x1 .f32)] = Z0
  generalize z1 : left _ [_, (⟨Rect.unit (s := S2x256x1) ![0, 0, 0] ![2, 256, 1] inb_S2x256x1_S2x256x1_0_0_0, k0_pay40⟩ : View.Piece (Elt F) S2x256x1 .f32)] = Z1
  generalize z2 : left _ [(⟨Rect.unit (s := S2x256x1) ![0, 0, 0] ![2, 256, 1] inb_S2x256x1_S2x256x1_0_0_0, k0_pay41⟩ : View.Piece (Elt F) S2x256x1 .f32)] = Z2
  generalize z3 : left _ [_, (⟨Rect.unit (s := S2x256x1) ![0, 0, 0] ![2, 256, 1] inb_S2x256x1_S2x256x1_0_0_0, k0_pay41⟩ : View.Piece (Elt F) S2x256x1 .f32)] = Z3
  generalize z4 : left _ [(⟨Rect.unit (s := S2x256x128) ![0, 0, 0] ![2, 256, 128] inb_S2x256x128_S2x256x128_0_0_0, k0_pay42 _⟩ : View.Piece (Elt F) S2x256x128 .f32)] = Z4
  generalize z5 : left _ [_, (⟨Rect.unit (s := S2x256x128) ![0, 0, 0] ![2, 256, 128] inb_S2x256x128_S2x256x128_0_0_0, k0_pay42 _⟩ : View.Piece (Elt F) S2x256x128 .f32)] = Z5
  have e0 : Z0 = fun _ => FloatOps.ofBits FTy.f32 0xFF800000#32 := z0.symm.trans (thin_fill _ _ _)
  have e1 : Z1 = fun _ => FloatOps.ofBits FTy.f32 0xFF800000#32 := z1.symm.trans ((left_thin1 _ _).trans (thin_fill _ _ _))
  have e2 : Z2 = fun _ => FloatOps.ofBits FTy.f32 0#32 := z2.symm.trans (thin_fill _ _ _)
  have e3 : Z3 = fun _ => FloatOps.ofBits FTy.f32 0#32 := z3.symm.trans ((left_thin1 _ _).trans (thin_fill _ _ _))
  have e4 : Z4 = fun _ => FloatOps.ofBits FTy.f32 0#32 := z4.symm.trans (wide_fill _ _ _)
  have e5 : Z5 = fun _ => FloatOps.ofBits FTy.f32 0#32 := z5.symm.trans ((left_wide1 _ _).trans (wide_fill _ _ _))
  clear z0 z1 z2 z3 z4 z5
  subst e0 e1 e2 e3 e4 e5
  exact carried_eq ((left_thin0 _ _).trans (left_same thin0 _ _)) (left_same thin1 _ _)
    ((left_thin0 _ _).trans (left_same thin0 _ _)) (left_same thin1 _ _)
    ((left_wide0 _ _).trans (left_same wide0 _ _)) (left_same wide1 _ _)

end Cert.DiffKernelIdeal.Body

end
-- ==== Proof.DiffMath.lean ====
/-
  The mathematics of one row of the differential attention: a softmax's weights over a set of keys, how a further tile of
  keys extends the running maximum, sum and mix, the difference of the two maps, and the normalized row; the scores may be
  infinite, the values are real.
-/
module

public import Idealize.ShloMosaic.Lib.Pointwise

@[expose] public section

set_option maxRecDepth 16384

noncomputable section

namespace Cert.Differential

open Idealize.ShloMosaic

/-- The weight of a score under the maximum `M`. -/
def wt (M z : EReal) : ℝ := (Ideal.exp (z - M)).toReal

/-- The largest score of a set of keys, -/
def topOf (z : ℕ → EReal) (T : Finset ℕ) : EReal := T.sup z

/-- the sum of its weights -/
def sumOf (z : ℕ → EReal) (T : Finset ℕ) : ℝ := ∑ s ∈ T, wt (topOf z T) (z s)

/-- and its mixed values. -/
def mixOf (z : ℕ → EReal) (v : ℕ → ℝ) (T : Finset ℕ) : ℝ := ∑ s ∈ T, wt (topOf z T) (z s) * v s

/-! ## Weights -/

theorem exp_coe (x : ℝ) : Ideal.exp (x : EReal) = (Real.exp x : ℝ) := rfl

theorem exp_bot : Ideal.exp ⊥ = 0 := rfl

theorem sub_ne_top {z M : EReal} (h : z ≤ M) : z - M ≠ ⊤ := by
  induction M with
  | bot => rw [le_bot_iff.mp h]; simp
  | top => induction z with
    | bot => simp
    | coe z => simp
    | top => simp
  | coe M => induction z with
    | bot => simp
    | coe z => rw [← EReal.coe_sub]; exact EReal.coe_ne_top _
    | top => simp at h

theorem exp_sub {z M : EReal} (h : z ≤ M) : Ideal.exp (z - M) = (wt M z : EReal) := by
  unfold wt
  have := sub_ne_top h
  revert this
  generalize z - M = x
  intro hx
  induction x with
  | bot => rw [exp_bot]; simp
  | coe x => rw [exp_coe]; simp
  | top => exact absurd rfl hx

theorem wt_nonneg (M z : EReal) : 0 ≤ wt M z := by
  unfold wt
  generalize z - M = x
  induction x with
  | bot => rw [exp_bot]; simp
  | coe x => rw [exp_coe, EReal.toReal_coe]; exact (Real.exp_pos x).le
  | top => show (0 : ℝ) ≤ (⊤ : EReal).toReal; simp

theorem wt_bot (M : EReal) : wt M ⊥ = 0 := by
  unfold wt; rw [EReal.bot_sub, exp_bot]; rfl

theorem wt_top (z : EReal) : wt ⊤ z = 0 := by
  unfold wt
  have : z - ⊤ = ⊥ := by induction z with | bot => simp | coe z => simp | top => simp
  rw [this, exp_bot]; rfl

theorem wt_coe (M z : ℝ) : wt (M : EReal) (z : EReal) = Real.exp (z - M) := by
  unfold wt; rw [← EReal.coe_sub, exp_coe, EReal.toReal_coe]

theorem wt_rescale {z M M' : EReal} (h : z ≤ M) (h' : M ≤ M') : wt M' M * wt M z = wt M' z := by
  induction M with
  | bot => rw [le_bot_iff.mp h, wt_bot, wt_bot, zero_mul]
  | top => rw [top_le_iff.mp h', wt_top, wt_top, zero_mul]
  | coe M => induction z with
    | bot => rw [wt_bot, wt_bot, mul_zero]
    | top => simp at h
    | coe z => induction M' with
      | bot => simp at h'
      | top => rw [wt_top, wt_top, zero_mul]
      | coe M' => rw [wt_coe, wt_coe, wt_coe, ← Real.exp_add]; congr 1; ring

theorem add_coe_sub (z M : EReal) (c : ℝ) : (z + c) - (M + c) = z - M := by
  induction z with
  | bot => simp
  | top => induction M with
    | bot => simp
    | top => simp
    | coe M => rw [← EReal.coe_add, EReal.top_add_coe, EReal.top_sub_coe, EReal.top_sub_coe]
  | coe z => induction M with
    | bot => rw [← EReal.coe_add]; simp
    | top => rw [← EReal.coe_add]; simp
    | coe M => rw [← EReal.coe_add, ← EReal.coe_add, ← EReal.coe_sub, ← EReal.coe_sub]; congr 1; ring

theorem wt_shift (M z : EReal) (c : ℝ) : wt (M + c) (z + c) = wt M z := by
  unfold wt; rw [add_coe_sub]

theorem le_topOf (z : ℕ → EReal) {T : Finset ℕ} {s : ℕ} (h : s ∈ T) : z s ≤ topOf z T := Finset.le_sup h

/-! ## Sums of reals -/

theorem coe_sum {ι : Type} (T : Finset ι) (f : ι → ℝ) : ((∑ s ∈ T, f s : ℝ) : EReal) = ∑ s ∈ T, (f s : EReal) := by
  classical
  induction T using Finset.induction_on with
  | empty => simp
  | insert a T ha ih => rw [Finset.sum_insert ha, Finset.sum_insert ha, EReal.coe_add, ih]

/-! ## A further tile -/

theorem topOf_union (z : ℕ → EReal) (T B : Finset ℕ) : topOf z (T ∪ B) = max (topOf z T) (topOf z B) := Finset.sup_union

theorem topOf_empty (z : ℕ → EReal) : topOf z ∅ = ⊥ := Finset.sup_empty

theorem sumOf_empty (z : ℕ → EReal) : sumOf z ∅ = 0 := Finset.sum_empty

theorem mixOf_empty (z : ℕ → EReal) (v : ℕ → ℝ) : mixOf z v ∅ = 0 := Finset.sum_empty

theorem sum_step (z : ℕ → EReal) {T B : Finset ℕ} (h : Disjoint T B) :
    Ideal.exp (topOf z T - topOf z (T ∪ B)) * (sumOf z T : EReal) + ∑ s ∈ B, Ideal.exp (z s - topOf z (T ∪ B))
      = (sumOf z (T ∪ B) : EReal) := by
  have hT : topOf z T ≤ topOf z (T ∪ B) := by rw [topOf_union]; exact le_max_left _ _
  rw [exp_sub hT, Finset.sum_congr rfl (fun s hs => exp_sub (le_topOf z (Finset.mem_union_right T hs))), ← coe_sum, ← EReal.coe_mul,
    ← EReal.coe_add]
  congr 1
  unfold sumOf
  rw [Finset.sum_union h, Finset.mul_sum]
  congr 1
  exact Finset.sum_congr rfl fun s hs => wt_rescale (le_topOf z hs) hT

theorem mix_step (z : ℕ → EReal) (v : ℕ → ℝ) {T B : Finset ℕ} (h : Disjoint T B) :
    Ideal.exp (topOf z T - topOf z (T ∪ B)) * (mixOf z v T : EReal) + ∑ s ∈ B, Ideal.exp (z s - topOf z (T ∪ B)) * (v s : EReal)
      = (mixOf z v (T ∪ B) : EReal) := by
  have hT : topOf z T ≤ topOf z (T ∪ B) := by rw [topOf_union]; exact le_max_left _ _
  rw [exp_sub hT, Finset.sum_congr rfl (fun s hs => by
    rw [exp_sub (le_topOf z (Finset.mem_union_right T hs)), ← EReal.coe_mul]), ← coe_sum, ← EReal.coe_mul, ← EReal.coe_add]
  congr 1
  unfold mixOf
  rw [Finset.sum_union h, Finset.mul_sum]
  congr 1
  refine Finset.sum_congr rfl fun s hs => ?_
  rw [← mul_assoc, wt_rescale (le_topOf z hs) hT]

/-! ## Tiles -/

/-- The keys of a tile of `n` keys from `a` on. -/
def tile (a n : ℕ) : Finset ℕ := Finset.Ico a (a + n)

theorem sum_tile (f : ℕ → EReal) (a n : ℕ) : ∑ x : Fin n, f (a + x.val) = ∑ s ∈ tile a n, f s := by
  unfold tile
  rw [Finset.sum_Ico_eq_sum_range, Nat.add_sub_cancel_left, Finset.sum_range]

theorem fold_tile (z : ℕ → EReal) (a n : ℕ) :
    Finset.univ.fold max (⊥ : EReal) (fun x : Fin n => z (a + x.val)) = topOf z (tile a n) := by
  show Finset.univ.sup (fun x : Fin n => z (a + x.val)) = (tile a n).sup z
  unfold tile
  refine le_antisymm (Finset.sup_le fun x _ => Finset.le_sup (f := z) (Finset.mem_Ico.mpr ⟨by omega, by omega⟩)) (Finset.sup_le fun s hs => ?_)
  have h := Finset.mem_Ico.mp hs
  have e := Finset.le_sup (f := fun x : Fin n => z (a + x.val)) (Finset.mem_univ (⟨s - a, by omega⟩ : Fin n))
  simpa [Nat.add_sub_cancel' h.1] using e

theorem tile_zero (n : ℕ) : tile 0 n = Finset.range n := by
  unfold tile; rw [Nat.zero_add]; exact (Finset.range_eq_Ico n).symm

/-! ## Scores shifted by a real, and keys that are not seen -/

theorem topOf_shift (z : ℕ → EReal) (c : ℝ) (T : Finset ℕ) : topOf (fun s => z s + c) T = topOf z T + c := by
  unfold topOf
  classical
  induction T using Finset.induction_on with
  | empty => simp
  | insert a T ha ih =>
    rw [Finset.sup_insert, Finset.sup_insert, ih]
    exact (Monotone.map_max (f := fun x : EReal => x + (c : EReal)) (fun x y h => add_le_add h le_rfl) (a := z a) (b := T.sup z)).symm

theorem sumOf_shift (z : ℕ → EReal) (c : ℝ) (T : Finset ℕ) : sumOf (fun s => z s + c) T = sumOf z T := by
  unfold sumOf
  rw [topOf_shift]
  exact Finset.sum_congr rfl fun s _ => wt_shift _ _ _

theorem mixOf_shift (z : ℕ → EReal) (c : ℝ) (v : ℕ → ℝ) (T : Finset ℕ) : mixOf (fun s => z s + c) v T = mixOf z v T := by
  unfold mixOf
  rw [topOf_shift]
  exact Finset.sum_congr rfl fun s _ => by rw [wt_shift]

theorem topOf_more (z : ℕ → EReal) {T U : Finset ℕ} (h : T ⊆ U) (hz : ∀ s ∈ U, s ∉ T → z s = ⊥) : topOf z U = topOf z T := by
  refine le_antisymm (Finset.sup_le fun s hs => ?_) (Finset.sup_mono h)
  by_cases ht : s ∈ T
  · exact Finset.le_sup ht
  · rw [hz s hs ht]; exact bot_le

theorem sumOf_more (z : ℕ → EReal) {T U : Finset ℕ} (h : T ⊆ U) (hz : ∀ s ∈ U, s ∉ T → z s = ⊥) : sumOf z U = sumOf z T := by
  unfold sumOf
  rw [topOf_more z h hz]
  exact (Finset.sum_subset h fun s hs ht => by rw [hz s hs ht, wt_bot]).symm

theorem mixOf_more (z : ℕ → EReal) (v : ℕ → ℝ) {T U : Finset ℕ} (h : T ⊆ U) (hz : ∀ s ∈ U, s ∉ T → z s = ⊥) :
    mixOf z v U = mixOf z v T := by
  unfold mixOf
  rw [topOf_more z h hz]
  exact (Finset.sum_subset h fun s hs ht => by rw [hz s hs ht, wt_bot, zero_mul]).symm

/-! ## Dead rows: a row with an infinite entry, or all zero; its normalization is zero -/

/-- A row the normalization sends to zero. -/
def Dead (x : Fin 128 → EReal) : Prop := (∃ d, x d = ⊤ ∨ x d = ⊥) ∨ ∀ d, x d = 0

/-- The normalized row. -/
def rowOut (x g : Fin 128 → EReal) (d : Fin 128) : EReal :=
  x d * Ideal.rsqrt (Ideal.div (∑ e, x e * x e) (Ideal.ofBits .f32 0x43000000#32) + Ideal.ofBits .f32 0x358637BD#32) * g d
    * Ideal.ofBits .f32 0x3F4CCCCD#32

theorem ofBits_128 : Ideal.ofBits .f32 0x43000000#32 = ((128 : ℝ) : EReal) := by
  simp [Ideal.ofBits, Ideal.ieee, -EReal.coe_mul]; norm_num

theorem eps_ne_bot : Ideal.ofBits .f32 0x358637BD#32 ≠ ⊥ := by
  simp [Ideal.ofBits, Ideal.ieee, -EReal.coe_mul]

theorem sq_nonneg (x : EReal) : 0 ≤ x * x := by
  induction x with
  | bot => simp
  | top => simp
  | coe x => rw [← EReal.coe_mul]; exact EReal.coe_nonneg.mpr (mul_self_nonneg x)

theorem dead_out {x : Fin 128 → EReal} (h : Dead x) (g : Fin 128 → EReal) (d : Fin 128) : rowOut x g d = 0 := by
  unfold rowOut
  rcases h with ⟨e, he⟩ | h
  · have ht : x e * x e = ⊤ := by rcases he with he | he <;> rw [he] <;> simp
    have hs : ∑ e, x e * x e = ⊤ :=
      top_le_iff.mp (ht ▸ Finset.single_le_sum (f := fun e => x e * x e) (fun i _ => sq_nonneg (x i)) (Finset.mem_univ e))
    have hd : Ideal.div ⊤ (Ideal.ofBits .f32 0x43000000#32) = ⊤ := by
      rw [ofBits_128]
      unfold Ideal.div
      rw [if_neg (by norm_num), ← EReal.coe_inv]
      exact EReal.top_mul_coe_of_pos (by norm_num)
    rw [hs, hd, EReal.top_add_of_ne_bot eps_ne_bot, show Ideal.rsqrt ⊤ = 0 from rfl]
    simp
  · rw [h d]; simp

/-! ## The difference of the two maps -/

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_sub_top (r : ℝ) : (r : EReal) - ⊤ = ⊥ := by simp

theorem div_zero_zero : Ideal.div 0 0 = ⊥ := by
  unfold Ideal.div
  rw [if_pos rfl, if_neg (lt_irrefl _)]

/-- Infinite or zero. -/
def Three (x : EReal) : Prop := x = ⊤ ∨ x = ⊥ ∨ x = 0

theorem Three.add {x y : EReal} (hx : Three x) (hy : Three y) : Three (x + y) := by
  unfold Three at *
  rcases hx with rfl | rfl | rfl <;> rcases hy with rfl | rfl | rfl <;> simp

theorem Three.sum (T : Finset ℕ) {f : ℕ → EReal} (h : ∀ s, Three (f s)) : Three (∑ s ∈ T, f s) := by
  classical
  induction T using Finset.induction_on with
  | empty => exact Or.inr (Or.inr Finset.sum_empty)
  | insert a T ha ih => rw [Finset.sum_insert ha]; exact (h a).add ih

theorem Three.mul_coe {x : EReal} (hx : x = ⊤ ∨ x = ⊥) (r : ℝ) : Three (x * r) := by
  unfold Three
  rcases lt_trichotomy r 0 with h | h | h
  · rcases hx with rfl | rfl
    · rw [EReal.top_mul_coe_of_neg h]; simp
    · rw [EReal.bot_mul_coe_of_neg h]; simp
  · rw [h]; simp
  · rcases hx with rfl | rfl
    · rw [EReal.top_mul_coe_of_pos h]; simp
    · rw [EReal.bot_mul_coe_of_pos h]; simp

theorem dead_of_three {x : Fin 128 → EReal} (h : ∀ d, Three (x d)) : Dead x := by
  by_cases he : ∃ d, x d = ⊤ ∨ x d = ⊥
  · exact Or.inl he
  · refine Or.inr fun d => ?_
    rcases h d with hd | hd | hd
    · exact absurd ⟨d, Or.inl hd⟩ he
    · exact absurd ⟨d, Or.inr hd⟩ he
    · exact hd

/-- A row as the kernel mixes it, each map for itself, -/
def mixedApart (w0 w1 : ℕ → ℝ) (lam : ℝ) (v : Fin 128 → ℕ → ℝ) (T : Finset ℕ) (d : Fin 128) : EReal :=
  Ideal.div ((∑ s ∈ T, w0 s * v d s : ℝ) : EReal) ((∑ s ∈ T, w0 s : ℝ) : EReal)
    - (lam : EReal) * Ideal.div ((∑ s ∈ T, w1 s * v d s : ℝ) : EReal) ((∑ s ∈ T, w1 s : ℝ) : EReal)

/-- and as the reference does, the difference of the weights. -/
def mixedAtOnce (w0 w1 : ℕ → ℝ) (lam : ℝ) (v : Fin 128 → ℕ → ℝ) (T : Finset ℕ) (d : Fin 128) : EReal :=
  ∑ s ∈ T, (Ideal.div (w0 s : EReal) ((∑ s ∈ T, w0 s : ℝ) : EReal)
    - (lam : EReal) * Ideal.div (w1 s : EReal) ((∑ s ∈ T, w1 s : ℝ) : EReal)) * (v d s : EReal)

theorem all_zero {w : ℕ → ℝ} (hw : ∀ s, 0 ≤ w s) {T : Finset ℕ} (h : ∑ s ∈ T, w s = 0) : ∀ s ∈ T, w s = 0 :=
  (Finset.sum_eq_zero_iff_of_nonneg fun s _ => hw s).mp h

theorem dead_atOnce {w0 w1 : ℕ → ℝ} {lam : ℝ} (v : Fin 128 → ℕ → ℝ) {T : Finset ℕ} {C : EReal} (hC : C = ⊤ ∨ C = ⊥)
    (h : ∀ s ∈ T, Ideal.div (w0 s : EReal) ((∑ s ∈ T, w0 s : ℝ) : EReal)
      - (lam : EReal) * Ideal.div (w1 s : EReal) ((∑ s ∈ T, w1 s : ℝ) : EReal) = C) : Dead (mixedAtOnce w0 w1 lam v T) :=
  dead_of_three fun d => by
    unfold mixedAtOnce
    rw [Finset.sum_congr rfl fun s hs => by rw [h s hs]]
    exact Three.sum T fun s => Three.mul_coe hC (v d s)

theorem rows {w0 w1 : ℕ → ℝ} (h0 : ∀ s, 0 ≤ w0 s) (h1 : ∀ s, 0 ≤ w1 s) (lam : ℝ) (v : Fin 128 → ℕ → ℝ) (T : Finset ℕ) :
    mixedApart w0 w1 lam v T = mixedAtOnce w0 w1 lam v T ∨ (Dead (mixedApart w0 w1 lam v T) ∧ Dead (mixedAtOnce w0 w1 lam v T)) := by
  have apart0 : ∀ {w : ℕ → ℝ} (_ : ∀ s, 0 ≤ w s) (_ : ∑ s ∈ T, w s = 0) (d : Fin 128),
      Ideal.div ((∑ s ∈ T, w s * v d s : ℝ) : EReal) ((∑ s ∈ T, w s : ℝ) : EReal) = ⊥ := fun {w} hw hs d => by
    rw [hs, Finset.sum_eq_zero fun s hs' => by rw [all_zero hw hs s hs', zero_mul]]
    exact div_zero_zero
  have once0 : ∀ {w : ℕ → ℝ} (_ : ∀ s, 0 ≤ w s) (_ : ∑ s ∈ T, w s = 0), ∀ s ∈ T,
      Ideal.div (w s : EReal) ((∑ s ∈ T, w s : ℝ) : EReal) = ⊥ := fun {w} hw hs s hs' => by
    rw [hs, all_zero hw hs s hs']
    exact div_zero_zero
  by_cases hL0 : ∑ s ∈ T, w0 s = 0
  · refine Or.inr ⟨Or.inl ⟨0, Or.inr ?_⟩, dead_atOnce v (C := ⊥) (Or.inr rfl) fun s hs => ?_⟩
    · unfold mixedApart
      rw [apart0 h0 hL0, EReal.bot_sub]
    · rw [once0 h0 hL0 s hs, EReal.bot_sub]
  by_cases hL1 : ∑ s ∈ T, w1 s = 0
  · rcases lt_trichotomy lam 0 with hl | hl | hl
    · refine Or.inr ⟨Or.inl ⟨0, Or.inr ?_⟩, dead_atOnce v (C := ⊥) (Or.inr rfl) fun s hs => ?_⟩
      · unfold mixedApart
        rw [apart0 h1 hL1, div_coe _ hL0, EReal.coe_mul_bot_of_neg hl, coe_sub_top]
      · rw [once0 h1 hL1 s hs, div_coe _ hL0, EReal.coe_mul_bot_of_neg hl, coe_sub_top]
    · left
      funext d
      unfold mixedApart mixedAtOnce
      have e : ∀ s ∈ T, (Ideal.div (w0 s : EReal) ((∑ s ∈ T, w0 s : ℝ) : EReal)
          - (lam : EReal) * Ideal.div (w1 s : EReal) ((∑ s ∈ T, w1 s : ℝ) : EReal)) * (v d s : EReal)
          = ((w0 s / (∑ s ∈ T, w0 s) * v d s : ℝ) : EReal) := fun s _ => by
        rw [div_coe _ hL0, hl, EReal.coe_zero, zero_mul, sub_zero, ← EReal.coe_mul]
      rw [Finset.sum_congr rfl e, ← coe_sum, div_coe _ hL0, hl, EReal.coe_zero, zero_mul, sub_zero]
      congr 1
      rw [Finset.sum_div]
      exact Finset.sum_congr rfl fun s _ => by ring
    · refine Or.inr ⟨Or.inl ⟨0, Or.inl ?_⟩, dead_atOnce v (C := ⊤) (Or.inl rfl) fun s hs => ?_⟩
      · unfold mixedApart
        rw [apart0 h1 hL1, div_coe _ hL0, EReal.coe_mul_bot_of_pos hl, EReal.coe_sub_bot]
      · rw [once0 h1 hL1 s hs, div_coe _ hL0, EReal.coe_mul_bot_of_pos hl, EReal.coe_sub_bot]
  · left
    funext d
    unfold mixedApart mixedAtOnce
    have e : ∀ s ∈ T, (Ideal.div (w0 s : EReal) ((∑ s ∈ T, w0 s : ℝ) : EReal)
        - (lam : EReal) * Ideal.div (w1 s : EReal) ((∑ s ∈ T, w1 s : ℝ) : EReal)) * (v d s : EReal)
        = (((w0 s / (∑ s ∈ T, w0 s) - lam * (w1 s / (∑ s ∈ T, w1 s))) * v d s : ℝ) : EReal) := fun s _ => by
      rw [div_coe _ hL0, div_coe _ hL1, ← EReal.coe_mul, ← EReal.coe_sub, ← EReal.coe_mul]
    rw [Finset.sum_congr rfl e, ← coe_sum, div_coe _ hL0, div_coe _ hL1, ← EReal.coe_mul, ← EReal.coe_sub]
    congr 1
    rw [Finset.sum_div, Finset.sum_div, Finset.mul_sum, ← Finset.sum_sub_distrib]
    exact Finset.sum_congr rfl fun s _ => by ring

theorem rows_out {w0 w1 : ℕ → ℝ} (h0 : ∀ s, 0 ≤ w0 s) (h1 : ∀ s, 0 ≤ w1 s) (lam : ℝ) (v : Fin 128 → ℕ → ℝ) (T : Finset ℕ)
    (g : Fin 128 → EReal) (d : Fin 128) :
    rowOut (mixedApart w0 w1 lam v T) g d = rowOut (mixedAtOnce w0 w1 lam v T) g d := by
  rcases rows h0 h1 lam v T with h | ⟨h, h'⟩
  · rw [h]
  · rw [dead_out h, dead_out h']

/-! ## Slopes -/

/-- The slope of head `h`. -/
def slopeOf (h : ℕ) : ℝ := Real.rpow 2 (-2 * ((h : ℝ) + 1))

theorem ofBits_neg2 : Ideal.ofBits .f32 0xC0000000#32 = ((-2 : ℝ) : EReal) := by
  simp [Ideal.ofBits, Ideal.ieee, -EReal.coe_mul, -EReal.coe_neg]; norm_num

theorem ofBits_neg8 : Ideal.ofBits .f32 0xC1000000#32 = ((-8 : ℝ) : EReal) := by
  simp [Ideal.ofBits, Ideal.ieee, -EReal.coe_mul, -EReal.coe_neg]; norm_num

theorem ofBits_4 : Ideal.ofBits .f32 0x40800000#32 = ((4 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_bot : Ideal.ofBits .f32 0xFF800000#32 = ⊥ := by
  simp [Ideal.ofBits, Ideal.ieee]

theorem slope_exp2 (h : ℕ) : Ideal.exp2 (((-2 : ℝ) : EReal) * (((h : ℝ) + 1 : ℝ) : EReal)) = (slopeOf h : EReal) := by
  rw [← EReal.coe_mul]; rfl

theorem slope_pow (h : ℕ) : Ideal.pow ((2 : ℝ) : EReal) (Ideal.div (((-8 : ℝ) : EReal) * (((h : ℝ) + 1 : ℝ) : EReal)) ((4 : ℝ) : EReal))
    = (slopeOf h : EReal) := by
  rw [← EReal.coe_mul, div_coe _ (by norm_num)]
  show ((Real.rpow 2 _ : ℝ) : EReal) = _
  unfold slopeOf
  congr 2
  ring

end Cert.Differential

end
-- ==== Proof.DiffTile.lean ====
/-
  The key tiles of the differential attention kernel, one row and one map at a time: what the running maximum, the running
  sum and the accumulated values become, and the row the kernel leaves.
-/
module

public import proofs.«01_k».proof.Proof.DiffBody
public import proofs.«01_k».proof.Proof.DiffMath
public import Idealize.ShloMosaic.Lib.Pointwise

@[expose] public section

set_option maxRecDepth 16384

noncomputable section

namespace Cert.DiffKernelIdeal.Tile

open Cert.DiffKernelIdeal Cert.DiffKernelIdeal.Gen Cert.DiffKernelIdeal.Body
open Cert.Differential
open Idealize.ShloMosaic Idealize.ShloMosaic.TcCoe Idealize.SL.Sem

/-! ## The operations at an index -/

/-- A choice by a bit that says whether `p`. -/
theorem select_at {α : Type} {p : Prop} [Decidable p] (a b : α) : Scalar.select (if p then 1#1 else 0#1) a b = if p then a else b := by
  by_cases h : p
  · rw [if_pos h, if_pos h]; rfl
  · rw [if_neg h, if_neg h]; rfl

theorem toInt_small (x : ℕ) (hx : x < 2 ^ 31) : (BitVec.ofNat 32 x).toInt = (x : Int) := by
  rw [BitVec.toInt_ofNat']; simp only [Int.bmod]; omega

theorem pay37_at (x : FVec Ideal S1x256x128 .bf16) (r : Fin 256) (l : Fin 128) :
    k0_pay37 (F := Ideal) x (ix2 r l) = (show EReal from if l.val < 64 then x (ix3 0 r l) * Ideal.ofBits .f32 0x3E000000#32 else 0) := by
  pointwise [k0_pay37, k0_pay36]
  have e : IntOp.cmpi CmpIPredicate.slt (BitVec.ofNat 32 l.val) 64#32 = if l.val < 64 then 1#1 else 0#1 := by
    show BitVec.ofBool (decide ((BitVec.ofNat 32 l.val).toInt < (64 : Int))) = _
    rw [toInt_small l.val (by omega)]
    by_cases h : l.val < 64
    · rw [if_pos h, decide_eq_true (by omega)]; rfl
    · rw [if_neg h, decide_eq_false (by omega)]; rfl
  rw [e, select_at]

theorem pay38_at (x : FVec Ideal S1x256x128 .bf16) (r : Fin 256) (l : Fin 128) :
    k0_pay38 (F := Ideal) x (ix2 r l) = (show EReal from if l.val < 64 then 0 else x (ix3 0 r l) * Ideal.ofBits .f32 0x3E000000#32) := by
  pointwise [k0_pay38, k0_pay36]
  have e : IntOp.cmpi CmpIPredicate.sge (BitVec.ofNat 32 l.val) 64#32 = if ¬l.val < 64 then 1#1 else 0#1 := by
    show BitVec.ofBool (decide ((64 : Int) ≤ (BitVec.ofNat 32 l.val).toInt)) = _
    rw [toInt_small l.val (by omega)]
    by_cases h : l.val < 64
    · rw [if_neg (not_not.mpr h), decide_eq_false (by omega)]; rfl
    · rw [if_pos h, decide_eq_true (by omega)]; rfl
  rw [e, select_at, ite_not]

theorem pay39_at (i : grid0.Coords) (h : Fin 4) (hi : (i 1).val = h.val) (l : Fin 256) :
    k0_pay39 (F := Ideal) i (ix2 0 l) = (slopeOf h.val : EReal) := by
  pointwise [k0_pay39]
  rw [hi]
  have e : (FloatOps.sitofp (F := Ideal) FTy.f32 (IntOp.addi (0#32) (Scalar.addi (BitVec.ofNat 32 h.val) 1#32)) : EReal)
      = (((h.val : ℝ) + 1 : ℝ) : EReal) := by
    have hi : (IntOp.addi (0#32) (Scalar.addi (BitVec.ofNat 32 h.val) 1#32)).toInt = (h.val : Int) + 1 := by clear hi; revert h; decide
    show (((IntOp.addi (0#32) (Scalar.addi (BitVec.ofNat 32 h.val) 1#32)).toInt : ℝ) : EReal) = _
    rw [hi]; push_cast; rfl
  rw [e, ofBits_neg2]
  exact slope_exp2 h.val

theorem bias_at (i n : ℕ) (hi : i < 32) (hn : n < 32) (sl : FVec Ideal S1x256 .f32) (σ : ℝ) (l : Fin 256) (hs : sl (ix2 0 l) = (σ : EReal)) :
    bias (F := Ideal) (BitVec.ofNat 32 i) colNo sl n (ix2 0 l) = ((σ * (((256 * n + l.val : ℕ) : ℝ) - ((256 * i : ℕ) : ℝ)) : ℝ) : EReal) := by
  pointwise [bias, colNo]
  rw [hs]
  have e : (IntOp.addi (BitVec.ofNat 32 l.val) (Scalar.subi (Scalar.muli (BitVec.ofNat 32 n) 256#32) (Scalar.muli (BitVec.ofNat 32 i) 256#32))).toInt
      = (256 * n + l.val : ℕ) - (256 * i : ℕ) := by
    have hl := l.isLt
    show (BitVec.ofNat 32 l.val + (BitVec.ofNat 32 n * 256#32 - BitVec.ofNat 32 i * 256#32)).toInt = _
    rw [BitVec.toInt_add, BitVec.toInt_sub, BitVec.toInt_mul, BitVec.toInt_mul, toInt_small n (by omega), toInt_small i (by omega), toInt_small l.val (by omega),
      show (256#32).toInt = 256 from rfl]
    simp only [Int.bmod]
    omega
  have e' : (FloatOps.sitofp (F := Ideal) FTy.f32
      (IntOp.addi (BitVec.ofNat 32 l.val) (Scalar.subi (Scalar.muli (BitVec.ofNat 32 n) 256#32) (Scalar.muli (BitVec.ofNat 32 i) 256#32))) : EReal)
      = ((((256 * n + l.val : ℕ) : ℝ) - ((256 * i : ℕ) : ℝ) : ℝ) : EReal) := by
    show (((IntOp.addi (BitVec.ofNat 32 l.val) (Scalar.subi (Scalar.muli (BitVec.ofNat 32 n) 256#32) (Scalar.muli (BitVec.ofNat 32 i) 256#32))).toInt : ℝ) : EReal) = _
    rw [e]; push_cast; rfl
  rw [e', ← EReal.coe_mul]

theorem seen_at (r l : Fin 256) : seen (ix2 r l) = if l.val ≤ r.val then 1#1 else 0#1 := by
  pointwise [seen, k0_pay43]
  have e : IntOp.addi (BitVec.ofNat 32 l.val) 0#32 = BitVec.ofNat 32 l.val := BitVec.add_zero _
  rw [e]
  show BitVec.ofBool (decide ((BitVec.ofNat 32 l.val).toInt ≤ (BitVec.ofNat 32 r.val).toInt)) = _
  rw [toInt_small l.val (by omega), toInt_small r.val (by omega)]
  by_cases h : l.val ≤ r.val
  · rw [if_pos h, decide_eq_true (by omega)]; rfl
  · rw [if_neg h, decide_eq_false (by omega)]; rfl

theorem pay13_at (q : FVec Ideal S256x128 .bf16) (K : FVec Ideal S1x256x128 .bf16) (b : FVec Ideal S1x256 .f32) (r l : Fin 256) :
    k0_pay13 (F := Ideal) q (k0_pay2 K) b (ix2 r l)
      = (∑ x : Fin 128, (show EReal from q (ix2 r x)) * (show EReal from K (ix3 0 l x))) + (show EReal from b (ix2 0 l)) := by
  pointwise [k0_pay13, k0_pay2]

theorem pay55_at (q : FVec Ideal S256x128 .bf16) (K : FVec Ideal S1x256x128 .bf16) (b : FVec Ideal S1x256 .f32) (r l : Fin 256) :
    k0_pay55 (F := Ideal) q seen (k0_pay44 K) b (ix2 r l) = (show EReal from if l.val ≤ r.val then
      (∑ x : Fin 128, (show EReal from q (ix2 r x)) * (show EReal from K (ix3 0 l x))) + (show EReal from b (ix2 0 l)) else (⊥ : EReal)) := by
  pointwise [k0_pay55, k0_pay44, seen_at]
  rw [ofBits_bot]
  split <;> rfl

section one

variable (q K : FVec Ideal S256x128 .bf16) (b : FVec Ideal S1x256 .f32) (M L : FVec Ideal S1x256x1 .f32) (r l : Fin 256)

theorem pay15_at : k0_pay15 (F := Ideal) q K b M (ix2 r 0)
    = (show EReal from max (M (ix3 0 r 0)) (Finset.univ.fold max (⊥ : EReal) (fun x : Fin 256 => (show EReal from k0_pay13 (F := Ideal) q K b (ix2 r x))))) := by
  pointwise [k0_pay15, k0_pay14]
  rw [ofBits_bot]

theorem pay16_at : k0_pay16 (F := Ideal) q K b M (ix2 r l)
    = (show EReal from Ideal.exp (k0_pay13 (F := Ideal) q K b (ix2 r l) - k0_pay15 (F := Ideal) q K b M (ix2 r 0))) := by
  pointwise [k0_pay16]

theorem pay17_at : k0_pay17 (F := Ideal) q K b M (ix2 r 0)
    = (show EReal from Ideal.exp (M (ix3 0 r 0) - k0_pay15 (F := Ideal) q K b M (ix2 r 0))) := by
  pointwise [k0_pay17, k0_pay14]

theorem pay18_at : k0_pay18 (F := Ideal) q K b M L (ix3 0 r 0)
    = k0_pay17 (F := Ideal) q K b M (ix2 r 0) * L (ix3 0 r 0) + ∑ x : Fin 256, (show EReal from k0_pay16 (F := Ideal) q K b M (ix2 r x)) := by
  pointwise [k0_pay18]

variable (s : IVec S256x256 1)

theorem pay57_at : k0_pay57 (F := Ideal) q s K b M (ix2 r 0)
    = (show EReal from max (M (ix3 0 r 0)) (Finset.univ.fold max (⊥ : EReal) (fun x : Fin 256 => (show EReal from k0_pay55 (F := Ideal) q s K b (ix2 r x))))) := by
  pointwise [k0_pay57, k0_pay56]
  rw [ofBits_bot]

theorem pay58_at : k0_pay58 (F := Ideal) q s K b M (ix2 r l)
    = (show EReal from Ideal.exp (k0_pay55 (F := Ideal) q s K b (ix2 r l) - k0_pay57 (F := Ideal) q s K b M (ix2 r 0))) := by
  pointwise [k0_pay58]

theorem pay59_at : k0_pay59 (F := Ideal) q s K b M (ix2 r 0)
    = (show EReal from Ideal.exp (M (ix3 0 r 0) - k0_pay57 (F := Ideal) q s K b M (ix2 r 0))) := by
  pointwise [k0_pay59, k0_pay56]

end one

section mix

variable (V : FVec Ideal S1x256x128 .bf16) (p : FVec Ideal S256x256 .f32) (al : FVec Ideal S256x1 .f32) (L : FVec Ideal S1x256x1 .f32)
  (A : FVec Ideal S1x256x128 .f32) (r : Fin 256) (d : Fin 128)

theorem pay60_at : k0_pay60 (F := Ideal) p al L (ix3 0 r 0)
    = al (ix2 r 0) * L (ix3 0 r 0) + ∑ x : Fin 256, (show EReal from p (ix2 r x)) := by
  pointwise [k0_pay60]

theorem pay61_at : k0_pay61 (F := Ideal) (k0_pay45 V) p al A (ix3 0 r d)
    = al (ix2 r 0) * A (ix3 0 r d) + ∑ x : Fin 256, (show EReal from p (ix2 r x)) * (show EReal from V (ix3 0 x d)) := by
  pointwise [k0_pay61, k0_pay45]

theorem pay62_at : k0_pay62 (F := Ideal) al (ix3 0 r 0) = al (ix2 r 0) := by
  pointwise [k0_pay62]

theorem pay63_at : k0_pay63 (F := Ideal) (k0_pay3 V) p al A (ix3 0 r d)
    = al (ix2 r 0) * A (ix3 0 r d) + ∑ x : Fin 256, (show EReal from p (ix2 r x)) * (show EReal from V (ix3 0 x d)) := by
  pointwise [k0_pay63, k0_pay3]

theorem pay64_at : k0_pay64 (F := Ideal) al (ix3 0 r 0) = al (ix2 r 0) := by
  pointwise [k0_pay64]

end mix

/-! ## One key tile -/

/-- What a row's running maximum, running sum and accumulated values are once the keys `T` are seen. -/
structure Row (M L : FVec Ideal S1x256x1 .f32) (A : FVec Ideal S1x256x128 .f32) (r : Fin 256) (z : ℕ → EReal) (v : Fin 128 → ℕ → ℝ)
    (T : Finset ℕ) : Prop where
  top : M (ix3 0 r 0) = topOf z T
  sum : L (ix3 0 r 0) = (sumOf z T : EReal)
  mix : ∀ d, A (ix3 0 r d) = (mixOf z (v d) T : EReal)

section tiles

variable {q : FVec Ideal S256x128 .bf16} {K V : FVec Ideal S1x256x128 .bf16} {b : FVec Ideal S1x256 .f32} {M L : FVec Ideal S1x256x1 .f32}
  {A : FVec Ideal S1x256x128 .f32} {r : Fin 256} {z : ℕ → EReal} {v : Fin 128 → ℕ → ℝ} {T : Finset ℕ} {a : ℕ}

theorem next_row (hz : ∀ s : Fin 256, k0_pay13 (F := Ideal) q (k0_pay2 K) b (ix2 r s) = z (a + s.val))
    (hV : ∀ d (s : Fin 256), V (ix3 0 s d) = (v d (a + s.val) : EReal)) (hd : Disjoint T (tile a 256)) (h : Row M L A r z v T) :
    Row (nextM (F := Ideal) q K b M) (nextL (F := Ideal) q K b M L) (nextA (F := Ideal) q K V b M A) r z v (T ∪ tile a 256) := by
  have hM : k0_pay15 (F := Ideal) q (k0_pay2 K) b M (ix2 r 0) = topOf z (T ∪ tile a 256) := by
    rw [pay15_at, topOf_union, ← fold_tile, h.top]
    simp only [hz]
  have hp : ∀ s : Fin 256, k0_pay16 (F := Ideal) q (k0_pay2 K) b M (ix2 r s) = (show EReal from Ideal.exp (z (a + s.val) - topOf z (T ∪ tile a 256))) := fun s => by
    rw [pay16_at, hz, hM]
  have hal : k0_pay17 (F := Ideal) q (k0_pay2 K) b M (ix2 r 0) = (show EReal from Ideal.exp (topOf z T - topOf z (T ∪ tile a 256))) := by
    rw [pay17_at, h.top, hM]
  refine ⟨(pay64_at _ r).trans hM, ?_, fun d => ?_⟩
  · unfold nextL
    rw [pay18_at, hal, h.sum, ← sum_step z hd, ← sum_tile (fun s => Ideal.exp (z s - topOf z (T ∪ tile a 256)))]
    simp only [hp]
  · unfold nextA
    rw [pay63_at, hal, h.mix d, ← mix_step z (v d) hd, ← sum_tile (fun s => Ideal.exp (z s - topOf z (T ∪ tile a 256)) * (v d s : EReal))]
    simp only [hp, hV]

theorem first_row (hz : ∀ s : Fin 256, k0_pay55 (F := Ideal) q seen (k0_pay44 K) b (ix2 r s) = z (a + s.val))
    (hV : ∀ d (s : Fin 256), V (ix3 0 s d) = (v d (a + s.val) : EReal)) (hd : Disjoint T (tile a 256)) (h : Row M L A r z v T) :
    Row (firstM (F := Ideal) q K b M) (firstL (F := Ideal) q K b M L) (firstA (F := Ideal) q K V b M A) r z v (T ∪ tile a 256) := by
  have hM : k0_pay57 (F := Ideal) q seen (k0_pay44 K) b M (ix2 r 0) = topOf z (T ∪ tile a 256) := by
    rw [pay57_at, topOf_union, ← fold_tile, h.top]
    simp only [hz]
  have hp : ∀ s : Fin 256, k0_pay58 (F := Ideal) q seen (k0_pay44 K) b M (ix2 r s)
      = (show EReal from Ideal.exp (z (a + s.val) - topOf z (T ∪ tile a 256))) := fun s => by
    rw [pay58_at, hz, hM]
  have hal : k0_pay59 (F := Ideal) q seen (k0_pay44 K) b M (ix2 r 0) = (show EReal from Ideal.exp (topOf z T - topOf z (T ∪ tile a 256))) := by
    rw [pay59_at, h.top, hM]
  refine ⟨(pay62_at _ r).trans hM, ?_, fun d => ?_⟩
  · unfold firstL
    rw [pay60_at, hal, h.sum, ← sum_step z hd, ← sum_tile (fun s => Ideal.exp (z s - topOf z (T ∪ tile a 256)))]
    simp only [hp]
  · unfold firstA
    rw [pay61_at, hal, h.mix d, ← mix_step z (v d) hd, ← sum_tile (fun s => Ideal.exp (z s - topOf z (T ∪ tile a 256)) * (v d s : EReal))]
    simp only [hp, hV]

end tiles

/-! ## All the key tiles -/

/-- The keys seen after the diagonal tile `i` and the first `k` tiles. -/
def seenKeys (i : ℕ) : ℕ → Finset ℕ
  | 0 => ∅ ∪ tile (256 * i) 256
  | k + 1 => seenKeys i k ∪ tile (256 * k) 256

theorem mem_seenKeys (i k s : ℕ) : s ∈ seenKeys i k ↔ (256 * i ≤ s ∧ s < 256 * i + 256) ∨ s < 256 * k := by
  induction k with
  | zero =>
    unfold seenKeys tile
    rw [Finset.empty_union, Finset.mem_Ico]
    omega
  | succ k ih =>
    unfold seenKeys
    rw [Finset.mem_union, ih]
    unfold tile
    rw [Finset.mem_Ico]
    omega

theorem seenKeys_disjoint {i k : ℕ} (h : k < i) : Disjoint (seenKeys i k) (tile (256 * k) 256) := by
  rw [Finset.disjoint_left]
  intro s hs ht
  rw [mem_seenKeys] at hs
  unfold tile at ht
  rw [Finset.mem_Ico] at ht
  omega

section all

variable {q0 q1 : FVec Ideal S256x128 .bf16} {K V : ℕ → FVec Ideal S1x256x128 .bf16} {b : ℕ → FVec Ideal S1x256 .f32}
  {i : ℕ} {r : Fin 256} {z : ℕ → EReal} {v : Fin 128 → ℕ → ℝ}

/-- The state after the diagonal tile and `k` full tiles. -/
def after (q0 q1 : FVec Ideal S256x128 .bf16) (K V : ℕ → FVec Ideal S1x256x128 .bf16) (b : ℕ → FVec Ideal S1x256 .f32) (i k : ℕ) : Carried Ideal :=
  steps q0 q1 K V b (first q0 q1 (K i) (V i) (b i) nothing) k

theorem zero_bits : (FloatOps.ofBits (F := Ideal) FTy.f32 0#32 : EReal) = 0 := Ideal.ofBits_zero_f32

theorem row_none (v : Fin 128 → ℕ → ℝ) (z : ℕ → EReal) (r : Fin 256) : Row (fun _ => FloatOps.ofBits (F := Ideal) FTy.f32 0xFF800000#32)
    (fun _ => FloatOps.ofBits (F := Ideal) FTy.f32 0#32) (fun _ => FloatOps.ofBits (F := Ideal) FTy.f32 0#32) r z v ∅ :=
  ⟨by rw [topOf_empty]; exact ofBits_bot, by rw [sumOf_empty]; exact zero_bits, fun d => by rw [mixOf_empty]; exact zero_bits⟩

theorem rows0 (hz : ∀ n, n < i → ∀ s : Fin 256, k0_pay13 (F := Ideal) q0 (k0_pay2 (K n)) (b n) (ix2 r s) = z (256 * n + s.val))
    (hz' : ∀ s : Fin 256, k0_pay55 (F := Ideal) q0 seen (k0_pay44 (K i)) (b i) (ix2 r s) = z (256 * i + s.val))
    (hV : ∀ n d (s : Fin 256), V n (ix3 0 s d) = (v d (256 * n + s.val) : EReal)) (k : ℕ) (hk : k ≤ i) :
    Row (after q0 q1 K V b i k).m0 (after q0 q1 K V b i k).l0 (after q0 q1 K V b i k).a0 r z v (seenKeys i k) := by
  induction k with
  | zero => exact first_row hz' (hV i) (Finset.disjoint_empty_left _) (row_none v z r)
  | succ k ih => exact next_row (hz k (by omega)) (hV k) (seenKeys_disjoint (by omega)) (ih (by omega))

theorem rows1 (hz : ∀ n, n < i → ∀ s : Fin 256, k0_pay13 (F := Ideal) q1 (k0_pay2 (K n)) (b n) (ix2 r s) = z (256 * n + s.val))
    (hz' : ∀ s : Fin 256, k0_pay55 (F := Ideal) q1 seen (k0_pay44 (K i)) (b i) (ix2 r s) = z (256 * i + s.val))
    (hV : ∀ n d (s : Fin 256), V n (ix3 0 s d) = (v d (256 * n + s.val) : EReal)) (k : ℕ) (hk : k ≤ i) :
    Row (after q0 q1 K V b i k).m1 (after q0 q1 K V b i k).l1 (after q0 q1 K V b i k).a1 r z v (seenKeys i k) := by
  induction k with
  | zero => exact first_row hz' (hV i) (Finset.disjoint_empty_left _) (row_none v z r)
  | succ k ih => exact next_row (hz k (by omega)) (hV k) (seenKeys_disjoint (by omega)) (ih (by omega))

/-- With scores that are a shift of others which vanish at the keys not seen, the sum and the mix are those of all the keys. -/
theorem Row.whole {M L : FVec Ideal S1x256x1 .f32} {A : FVec Ideal S1x256x128 .f32} {y : ℕ → EReal} {c : ℝ} (hi : i < 32)
    (h : Row M L A r (fun s => y s + c) v (seenKeys i i)) (hy : ∀ s, 256 * i + 256 ≤ s → y s = ⊥) :
    L (ix3 0 r 0) = (sumOf y (Finset.range 8192) : EReal) ∧ ∀ d, A (ix3 0 r d) = (mixOf y (v d) (Finset.range 8192) : EReal) := by
  have hsub : seenKeys i i ⊆ Finset.range 8192 := fun s hs => by
    rw [mem_seenKeys] at hs
    rw [Finset.mem_range]
    omega
  have hout : ∀ s ∈ Finset.range 8192, s ∉ seenKeys i i → y s = ⊥ := fun s _ hs => hy s (by
    rw [mem_seenKeys] at hs
    omega)
  exact ⟨by rw [h.sum, sumOf_shift, sumOf_more y hsub hout], fun d => by rw [h.mix d, mixOf_shift, mixOf_more y (v d) hsub hout]⟩

end all

/-! ## The row the kernel leaves -/

section leave

variable (w : FVec Ideal S4x64 .f32) (a0 a1 : FVec Ideal S1x256x128 .f32) (l0 l1 : FVec Ideal S1x256x1 .f32) (g : FVec Ideal S1x128 .f32)
  (r : Fin 256) (d : Fin 128)

theorem pay67_at (x : Fin 64) : k0_pay67 (F := Ideal) w (ix2 0 x) = w (ix2 0 x) := by
  pointwise [k0_pay67]

theorem pay69_eq : k0_pay69 (F := Ideal) g = g := by
  pointwise [k0_pay69]

theorem pay68_at : k0_pay68 (F := Ideal) w (k0_pay67 w) a0 l0 a1 l1 (ix2 r d)
    = (show EReal from Ideal.div (a0 (ix3 0 r d)) (l0 (ix3 0 r 0))
      - (Ideal.exp (∑ x : Fin 64, (show EReal from w (ix2 0 x)) * (show EReal from w (ix2 1 x)))
        - Ideal.exp (∑ x : Fin 64, (show EReal from w (ix2 2 x)) * (show EReal from w (ix2 3 x))) + Ideal.ofBits .f32 0x3E4CCCCD#32)
        * Ideal.div (a1 (ix3 0 r d)) (l1 (ix3 0 r 0))) := by
  pointwise [k0_pay68, pay67_at]

theorem out_at : k0_pay1 (F := Ideal) (k0_pay68 w (k0_pay67 w) a0 l0 a1 l1) (k0_pay69 g) (k0_pay70 w (k0_pay67 w) a0 l0 a1 l1) (ix3 0 r d)
    = rowOut (fun e => k0_pay68 (F := Ideal) w (k0_pay67 w) a0 l0 a1 l1 (ix2 r e)) (fun e => g (ix2 0 e)) d := by
  unfold rowOut
  pointwise [k0_pay1, k0_pay70, pay69_eq]

end leave

end Cert.DiffKernelIdeal.Tile

end
-- ==== Proof.DiffReference.lean ====
/-
  The differential attention's reference, stage by stage: the two maps' queries and keys, the values, the scores with the
  distance penalty, the softmax, the difference of the two maps, the mixed values and the normalized rows.
-/
module

public import proofs.«01_k».proof.Proof.Gen.DiffReferenceIdeal.Run
public import proofs.«01_k».proof.Proof.DiffMath
public import Idealize.ShloMosaic.Lib.Pointwise
public import Idealize.ShloMosaic.Lib.KernelVsHost

@[expose] public section

set_option maxRecDepth 16384

noncomputable section

namespace Cert.DiffReferenceIdeal.Stages

open Cert.DiffReferenceIdeal Cert.DiffReferenceIdeal.Gen
open Cert.Differential
open Idealize.ShloMosaic Idealize.ShloMosaic.TcCoe Idealize.SL.Sem

/-- The columns of this attention. -/
def own (P : FVec Ideal S4x8192x3072 .bf16) : FVec Ideal S4x8192x1536 .f32 :=
  extractStridedSlice S4x8192x1536 ![0, 0, 0] (extf .f32 P bitsLt_bf16_f32) slices_S4x8192x3072_S4x8192x1536_0_0_0

/-- The queries, by heads and maps, scaled. -/
def qMaps (P : FVec Ideal S4x8192x3072 .bf16) : FVec Ideal S4x4x2x8192x64 .f32 :=
  mulf (transpose S4x4x2x8192x64 [0, 2, 3, 1, 4] (shapeCast S4x8192x4x2x64 (extractStridedSlice S4x8192x512 ![0, 0, 0] (own P)
    slices_S4x8192x1536_S4x8192x512_0_0_0) shapeCasts_S4x8192x512_S4x8192x4x2x64) transposes_S4x8192x4x2x64_S4x4x2x8192x64_0_2_3_1_4)
    (broadcastInDim S4x4x2x8192x64 ![] bcast_S_S4x4x2x8192x64 (constant S_ .f32 0x3E000000#32))

/-- The keys, by heads and maps. -/
def kMaps (P : FVec Ideal S4x8192x3072 .bf16) : FVec Ideal S4x4x2x8192x64 .f32 :=
  transpose S4x4x2x8192x64 [0, 2, 3, 1, 4] (shapeCast S4x8192x4x2x64 (extractStridedSlice S4x8192x512 ![0, 0, 512] (own P)
    slices_S4x8192x1536_S4x8192x512_0_0_512) shapeCasts_S4x8192x512_S4x8192x4x2x64) transposes_S4x8192x4x2x64_S4x4x2x8192x64_0_2_3_1_4

/-- The values, by heads. -/
def vHeads (P : FVec Ideal S4x8192x3072 .bf16) : FVec Ideal S4x4x8192x128 .f32 :=
  transpose S4x4x8192x128 [0, 2, 1, 3] (shapeCast S4x8192x4x128 (extractStridedSlice S4x8192x512 ![0, 0, 1024] (own P)
    slices_S4x8192x1536_S4x8192x512_0_0_1024) shapeCasts_S4x8192x512_S4x8192x4x128) transposes_S4x8192x4x128_S4x4x8192x128_0_2_1_3

/-- The weight of the second map. -/
def lam (w : FVec Ideal S4x64 .f32) : FVec Ideal S_ .f32 :=
  addf (subf
    (Host.exp (Host.reduceAdd (mulf (shapeCast S64 (extractStridedSlice S1x64 ![0, 0] w slices_S4x64_S1x64_0_0) shapeCasts_S1x64_S64)
      (shapeCast S64 (extractStridedSlice S1x64 ![1, 0] w slices_S4x64_S1x64_1_0) shapeCasts_S1x64_S64)) (constant S_ .f32 0x00000000#32) reducesTo_S64_S_d0 h_S_))
    (Host.exp (Host.reduceAdd (mulf (shapeCast S64 (extractStridedSlice S1x64 ![2, 0] w slices_S4x64_S1x64_2_0) shapeCasts_S1x64_S64)
      (shapeCast S64 (extractStridedSlice S1x64 ![3, 0] w slices_S4x64_S1x64_3_0) shapeCasts_S1x64_S64)) (constant S_ .f32 0x00000000#32) reducesTo_S64_S_d0 h_S_)))
    (constant S_ .f32 0x3E4CCCCD#32)

/-- The heads' slopes. -/
def slopes : FVec Ideal S4 .f32 :=
  Host.powf (broadcastInDim S4 ![] bcast_S_S4 (constant S_ .f32 0x40000000#32))
    (Host.divf (mulf (broadcastInDim S4 ![] bcast_S_S4 (constant S_ .f32 0xC1000000#32))
      (sitofp .f32 (addi (broadcastInDim S4 ![] bcast_S_S4 (constantI S_ 32 1#32)) (iotaInDim S4 32 0))))
      (broadcastInDim S4 ![] bcast_S_S4 (constant S_ .f32 0x40800000#32)))

/-- How far the key is behind the query. -/
def behind : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The distance penalty. -/
def penalty : FVec Ideal S4x4x2x8192x8192 .f32 :=
  broadcastInDim S4x4x2x8192x8192 ![0, 1, 2, 3, 4] bcast_S1x4x1x8192x8192_S4x4x2x8192x8192_0_1_2_3_4
    (mulf (broadcastInDim S1x4x1x8192x8192 ![0, 1, 2, 3, 4] bcast_S1x4x1x1x1_S1x4x1x8192x8192_0_1_2_3_4
        (broadcastInDim S1x4x1x1x1 ![1] bcast_S4_S1x4x1x1x1_1 slopes))
      (broadcastInDim S1x4x1x8192x8192 ![0, 1, 2, 3, 4] bcast_S1x1x1x8192x8192_S1x4x1x8192x8192_0_1_2_3_4
        (broadcastInDim S1x1x1x8192x8192 ![3, 4] bcast_S8192x8192_S1x1x1x8192x8192_3_4 (sitofp .f32 behind))))

/-- Whether the key may be seen. -/
def visible : IVec S8192x8192 1 :=
  cmpi .sge behind (broadcastInDim S8192x8192 ![] bcast_S_S8192x8192 (constantI S_ 32 0#32))

/-- The scores: products of queries and keys, less the penalty, at the visible keys. -/
def scores (Q K : FVec Ideal S4x4x2x8192x64 .f32) : FVec Ideal S4x4x2x8192x8192 .f32 :=
  select (broadcastInDim S4x4x2x8192x8192 ![3, 4] bcast_S8192x8192_S4x4x2x8192x8192_3_4 visible)
    (subf (Host.dotGeneral dot_S4x4x2x8192x64_S4x4x2x8192x64_S4x4x2x8192x8192_4_4_3_3_012_012 none Q K) penalty)
    (broadcastInDim S4x4x2x8192x8192 ![] bcast_S_S4x4x2x8192x8192 (constant S_ .f32 0xFF800000#32))

/-- The largest score of each row. -/
def tops (Z : FVec Ideal S4x4x2x8192x8192 .f32) : FVec Ideal S4x4x2x8192 .f32 :=
  maximumf (broadcastInDim S4x4x2x8192 ![] bcast_S_S4x4x2x8192 (constant S_ .f32 0xFF800000#32))
    (Host.reduce FloatOps.maximumf Z (constant S_ .f32 0xFF800000#32) reducesTo_S4x4x2x8192x8192_S4x4x2x8192_d4 h_S_)

/-- The exponentials. -/
def exps (Z : FVec Ideal S4x4x2x8192x8192 .f32) : FVec Ideal S4x4x2x8192x8192 .f32 :=
  Host.exp (subf Z (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3 (tops Z))))

/-- The softmax's weights. -/
def probs (E : FVec Ideal S4x4x2x8192x8192 .f32) : FVec Ideal S4x4x2x8192x8192 .f32 :=
  Host.divf E (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3
      (Host.reduceAdd E (constant S_ .f32 0x00000000#32) reducesTo_S4x4x2x8192x8192_S4x4x2x8192_d4 h_S_)))

/-- The first map less lambda times the second. -/
def weights (L : FVec Ideal S_ .f32) (A : FVec Ideal S4x4x2x8192x8192 .f32) : FVec Ideal S4x4x8192x8192 .f32 :=
  subf (shapeCast S4x4x8192x8192 (extractStridedSlice S4x4x1x8192x8192 ![0, 0, 0, 0, 0] A slices_S4x4x2x8192x8192_S4x4x1x8192x8192_0_0_0_0_0)
      shapeCasts_S4x4x1x8192x8192_S4x4x8192x8192)
    (mulf (broadcastInDim S4x4x8192x8192 ![] bcast_S_S4x4x8192x8192 L)
      (shapeCast S4x4x8192x8192 (extractStridedSlice S4x4x1x8192x8192 ![0, 0, 1, 0, 0] A slices_S4x4x2x8192x8192_S4x4x1x8192x8192_0_0_1_0_0)
        shapeCasts_S4x4x1x8192x8192_S4x4x8192x8192))

/-- The mixed values. -/
def mixed (W : FVec Ideal S4x4x8192x8192 .f32) (V : FVec Ideal S4x4x8192x128 .f32) : FVec Ideal S4x8192x4x128 .f32 :=
  transpose S4x8192x4x128 [0, 2, 1, 3] (Host.dotGeneral dot_S4x4x8192x8192_S4x4x8192x128_S4x4x8192x128_3_2_2_3_01_01 none W V)
    transposes_S4x4x8192x128_S4x8192x4x128_0_2_1_3

/-- The normalized rows. -/
def normed (X : FVec Ideal S4x8192x4x128 .f32) (g : FVec Ideal S128 .f32) : FVec Ideal S4x8192x512 .bf16 :=
  truncf .bf16 (shapeCast S4x8192x512
    (mulf (mulf (mulf X (broadcastInDim S4x8192x4x128 ![0, 1, 2, 3] bcast_S4x8192x4x1_S4x8192x4x128_0_1_2_3
        (Host.rsqrt (addf (Host.divf (broadcastInDim S4x8192x4x1 ![0, 1, 2] bcast_S4x8192x4_S4x8192x4x1_0_1_2
            (Host.reduceAdd (mulf X X) (constant S_ .f32 0x00000000#32) reducesTo_S4x8192x4x128_S4x8192x4_d3 h_S_))
            (broadcastInDim S4x8192x4x1 ![] bcast_S_S4x8192x4x1 (constant S_ .f32 0x43000000#32)))
          (broadcastInDim S4x8192x4x1 ![] bcast_S_S4x8192x4x1 (constant S_ .f32 0x358637BD#32))))))
      (broadcastInDim S4x8192x4x128 ![0, 1, 2, 3] bcast_S1x1x1x128_S4x8192x4x128_0_1_2_3 (broadcastInDim S1x1x1x128 ![3] bcast_S128_S1x1x1x128_3 g)))
      (broadcastInDim S4x8192x4x128 ![] bcast_S_S4x8192x4x128 (constant S_ .f32 0x3F4CCCCD#32)))
    shapeCasts_S4x8192x4x128_S4x8192x512) bitsLt_bf16_f32

/-- The result is the normalized rows of the mixed values. -/
theorem result_eq (m : (ℓ : Loc nD τ sig) → Buf (Elt Ideal) ℓ) (c : Dev nD) :
    Value.res_out0 m c = normed (mixed (weights (lam (m (c.tc.loc main_arg1))) (probs (exps (scores
      (qMaps (m (c.tc.loc main_arg0))) (kMaps (m (c.tc.loc main_arg0))))))) (vHeads (m (c.tc.loc main_arg0)))) (m (c.tc.loc main_arg2)) := rfl

/-! ## The stages at an index -/

theorem qMaps_at (P : FVec Ideal S4x8192x3072 .bf16) (b h : Fin 4) (m : Fin 2) (t : Fin 8192) (d : Fin 64) :
    qMaps P (ix5 b h m t d) = P (ix3 b t ⟨h.val * 128 + m.val * 64 + d.val, by omega⟩) * Ideal.ofBits .f32 0x3E000000#32 := by
  pointwise [qMaps, own]

theorem kMaps_at (P : FVec Ideal S4x8192x3072 .bf16) (b h : Fin 4) (m : Fin 2) (t : Fin 8192) (d : Fin 64) :
    kMaps P (ix5 b h m t d) = P (ix3 b t ⟨512 + (h.val * 128 + m.val * 64 + d.val), by omega⟩) := by
  pointwise [kMaps, own]

theorem vHeads_at (P : FVec Ideal S4x8192x3072 .bf16) (b h : Fin 4) (t : Fin 8192) (d : Fin 128) :
    vHeads P (ix4 b h t d) = P (ix3 b t ⟨1024 + (h.val * 128 + d.val), by omega⟩) := by
  pointwise [vHeads, own]

/-- The weight of the second map, written out. -/
def lamOf (w : FVec Ideal S4x64 .f32) : EReal :=
  Ideal.exp (∑ x : Fin 64, (show EReal from w (ix2 0 x)) * (show EReal from w (ix2 1 x)))
    - Ideal.exp (∑ x : Fin 64, (show EReal from w (ix2 2 x)) * (show EReal from w (ix2 3 x))) + Ideal.ofBits .f32 0x3E4CCCCD#32

theorem lam_at (w : FVec Ideal S4x64 .f32) : lam w ix0 = lamOf w := by
  unfold lamOf
  pointwise [lam]

theorem slopes_at (h : Fin 4) : slopes (ix1 h) = (slopeOf h.val : EReal) := by
  pointwise [slopes]
  have e : (FloatOps.sitofp (F := Ideal) FTy.f32 (IntOp.addi (1#32) (BitVec.ofNat 32 h.val)) : EReal) = (((h.val : ℝ) + 1 : ℝ) : EReal) := by
    have hi : (IntOp.addi (1#32) (BitVec.ofNat 32 h.val)).toInt = (h.val : Int) + 1 := by revert h; decide
    show (((IntOp.addi (1#32) (BitVec.ofNat 32 h.val)).toInt : ℝ) : EReal) = _
    rw [hi]; push_cast; rfl
  rw [e, ofBits_2, ofBits_neg8, ofBits_4]
  exact slope_pow h.val

theorem behind_toInt (t s : Fin 8192) : (behind (ix2 t s)).toInt = (t.val : Int) - (s.val : Int) := by
  pointwise [behind]
  have ht := t.isLt
  have hs := s.isLt
  unfold IntOp.subi
  rw [BitVec.toInt_sub, BitVec.toInt_ofNat', BitVec.toInt_ofNat']
  simp only [Int.bmod]
  omega

theorem penalty_at (b h : Fin 4) (m : Fin 2) (t s : Fin 8192) :
    penalty (ix5 b h m t s) = ((slopeOf h.val * ((t.val : ℝ) - (s.val : ℝ)) : ℝ) : EReal) := by
  pointwise [penalty, slopes_at]
  have e : (FloatOps.sitofp (F := Ideal) FTy.f32 (behind (ix2 t s)) : EReal) = (((t.val : ℝ) - (s.val : ℝ) : ℝ) : EReal) := by
    show (((behind (ix2 t s)).toInt : ℝ) : EReal) = _
    rw [behind_toInt]; push_cast; rfl
  rw [e, ← EReal.coe_mul]

theorem visible_at (t s : Fin 8192) : visible (ix2 t s) = if s.val ≤ t.val then 1#1 else 0#1 := by
  pointwise [visible]
  show BitVec.ofBool (decide ((0#32).toInt ≤ (behind (ix2 t s)).toInt)) = _
  rw [behind_toInt]
  by_cases h : s.val ≤ t.val
  · rw [if_pos h, decide_eq_true (by simp; omega)]; rfl
  · rw [if_neg h, decide_eq_false (by simp; omega)]; rfl

theorem scores_at (Q K : FVec Ideal S4x4x2x8192x64 .f32) (b h : Fin 4) (m : Fin 2) (t s : Fin 8192) :
    scores Q K (ix5 b h m t s) = if s.val ≤ t.val then
      (∑ x : Fin 64, (show EReal from Q (ix5 b h m t x)) * (show EReal from K (ix5 b h m s x)))
        - ((slopeOf h.val * ((t.val : ℝ) - (s.val : ℝ)) : ℝ) : EReal) else (⊥ : EReal) := by
  pointwise [scores, visible_at, penalty_at]
  rw [ofBits_bot]
  split <;> rfl

/-- The largest along the last axis, sizes left open. -/
theorem fold_last {n0 n1 n2 n3 n4 : ℕ} (Z : FVec Ideal (⟨5, ![n0, n1, n2, n3, n4]⟩ : Shape) .f32) (w : BitVec 32)
    (hr : (⟨5, ![n0, n1, n2, n3, n4]⟩ : Shape).ReducesTo [4] (⟨4, ![n0, n1, n2, n3]⟩ : Shape)) (hu : 0 < S_.numel)
    (a : Fin n0) (b : Fin n1) (c : Fin n2) (d : Fin n3) :
    Host.reduce FloatOps.maximumf Z (constant (F := Ideal) S_ .f32 w) hr hu (ix4 a b c d)
      = Finset.univ.fold max (Ideal.ofBits .f32 w) (fun x : Fin n4 => (show EReal from Z (ix5 a b c d x))) := by
  rw [Host.reduce_eq_fold]
  exact hr.fold_fiber_r5_a4 (ix4 a b c d) max (Ideal.ofBits .f32 w) Z

theorem tops_at (Z : FVec Ideal S4x4x2x8192x8192 .f32) (b h : Fin 4) (m : Fin 2) (t : Fin 8192) :
    tops Z (ix4 b h m t) = max (Ideal.ofBits .f32 0xFF800000#32)
      (Finset.univ.fold max (Ideal.ofBits .f32 0xFF800000#32) (fun x : Fin 8192 => (show EReal from Z (ix5 b h m t x)))) := by
  have e := fold_last Z 0xFF800000#32 reducesTo_S4x4x2x8192x8192_S4x4x2x8192_d4 h_S_ b h m t
  unfold tops
  generalize Host.reduce FloatOps.maximumf Z (constant (F := Ideal) S_ .f32 0xFF800000#32) reducesTo_S4x4x2x8192x8192_S4x4x2x8192_d4 h_S_ = R at e ⊢
  rw [maximumf_apply, e]
  rfl

theorem exps_at (Z : FVec Ideal S4x4x2x8192x8192 .f32) (b h : Fin 4) (m : Fin 2) (t s : Fin 8192) :
    exps Z (ix5 b h m t s) = (show EReal from Ideal.exp (Z (ix5 b h m t s) - tops Z (ix4 b h m t))) := by
  pointwise [exps]

theorem probs_at (E : FVec Ideal S4x4x2x8192x8192 .f32) (b h : Fin 4) (m : Fin 2) (t s : Fin 8192) :
    probs E (ix5 b h m t s) = (show EReal from Ideal.div (E (ix5 b h m t s)) (∑ x : Fin 8192, (show EReal from E (ix5 b h m t x)))) := by
  pointwise [probs]

theorem weights_at (L : FVec Ideal S_ .f32) (A : FVec Ideal S4x4x2x8192x8192 .f32) (b h : Fin 4) (t s : Fin 8192) :
    weights L A (ix4 b h t s) = A (ix5 b h 0 t s) - L ix0 * A (ix5 b h 1 t s) := by
  pointwise [weights]

theorem mixed_at (W : FVec Ideal S4x4x8192x8192 .f32) (V : FVec Ideal S4x4x8192x128 .f32) (b h : Fin 4) (t : Fin 8192) (d : Fin 128) :
    mixed W V (ix4 b t h d) = ∑ x : Fin 8192, (show EReal from W (ix4 b h t x)) * (show EReal from V (ix4 b h x d)) := by
  pointwise [mixed]

theorem normed_at (X : FVec Ideal S4x8192x4x128 .f32) (g : FVec Ideal S128 .f32) (b : Fin 4) (t : Fin 8192) (j : Fin 512) :
    normed X g (ix3 b t j) = rowOut (fun d => X (ix4 b t ⟨j.val / 128, by omega⟩ d)) (fun d => g (ix1 d)) ⟨j.val % 128, by omega⟩ := by
  unfold rowOut
  pointwise [normed]

/-! ## The rows -/

/-- A key's number, within range. -/
def clip (n : ℕ) : Fin 8192 := ⟨n % 8192, Nat.mod_lt _ (by decide)⟩

theorem clip_val (s : Fin 8192) : clip s.val = s := Fin.ext (Nat.mod_eq_of_lt s.isLt)

/-- The products of a query of a map with the keys, -/
def rawRow (P : FVec Ideal S4x8192x3072 .bf16) (b h : Fin 4) (m : Fin 2) (t : Fin 8192) (s : ℕ) : EReal :=
  ∑ d : Fin 64, (show EReal from P (ix3 b t ⟨h.val * 128 + m.val * 64 + d.val, by omega⟩)) * Ideal.ofBits .f32 0x3E000000#32
    * (show EReal from P (ix3 b (clip s) ⟨512 + (h.val * 128 + m.val * 64 + d.val), by omega⟩))

/-- its scores, nothing at the keys after it -/
def scoreRow (P : FVec Ideal S4x8192x3072 .bf16) (b h : Fin 4) (m : Fin 2) (t : Fin 8192) (s : ℕ) : EReal :=
  if s ≤ t.val then rawRow P b h m t s - ((slopeOf h.val * ((t.val : ℝ) - (s : ℝ)) : ℝ) : EReal) else ⊥

/-- and a column of the values. -/
def valueCol (P : FVec Ideal S4x8192x3072 .bf16) (b h : Fin 4) (d : Fin 128) (s : ℕ) : EReal :=
  P (ix3 b (clip s) ⟨1024 + (h.val * 128 + d.val), by omega⟩)

theorem score_at (P : FVec Ideal S4x8192x3072 .bf16) (b h : Fin 4) (m : Fin 2) (t s : Fin 8192) :
    scores (qMaps P) (kMaps P) (ix5 b h m t s) = scoreRow P b h m t s.val := by
  rw [scores_at]
  unfold scoreRow rawRow
  rw [clip_val]
  simp only [qMaps_at, kMaps_at]

theorem top_at (P : FVec Ideal S4x8192x3072 .bf16) (b h : Fin 4) (m : Fin 2) (t : Fin 8192) :
    tops (scores (qMaps P) (kMaps P)) (ix4 b h m t) = topOf (scoreRow P b h m t) (Finset.range 8192) := by
  rw [tops_at, ofBits_bot, max_eq_right bot_le, ← tile_zero, ← fold_tile]
  congr 1
  funext x
  rw [Nat.zero_add]
  exact score_at P b h m t x

theorem exp_at (P : FVec Ideal S4x8192x3072 .bf16) (b h : Fin 4) (m : Fin 2) (t s : Fin 8192) :
    exps (scores (qMaps P) (kMaps P)) (ix5 b h m t s)
      = (wt (topOf (scoreRow P b h m t) (Finset.range 8192)) (scoreRow P b h m t s.val) : EReal) := by
  rw [exps_at, score_at, top_at]
  exact exp_sub (le_topOf _ (Finset.mem_range.mpr s.isLt))

theorem prob_at (P : FVec Ideal S4x8192x3072 .bf16) (b h : Fin 4) (m : Fin 2) (t s : Fin 8192) :
    probs (exps (scores (qMaps P) (kMaps P))) (ix5 b h m t s)
      = (show EReal from Ideal.div (wt (topOf (scoreRow P b h m t) (Finset.range 8192)) (scoreRow P b h m t s.val) : EReal)
        ((∑ x ∈ Finset.range 8192, wt (topOf (scoreRow P b h m t) (Finset.range 8192)) (scoreRow P b h m t x) : ℝ) : EReal)) := by
  rw [probs_at]
  have e : (∑ x : Fin 8192, (show EReal from exps (scores (qMaps P) (kMaps P)) (ix5 b h m t x)))
      = ((∑ x ∈ Finset.range 8192, wt (topOf (scoreRow P b h m t) (Finset.range 8192)) (scoreRow P b h m t x) : ℝ) : EReal) := by
    rw [coe_sum, Finset.sum_range]
    exact Finset.sum_congr rfl fun x _ => exp_at P b h m t x
  rw [e, exp_at]

/-- A row of the mixed values, with real values and a real lambda. -/
theorem mix_at (P : FVec Ideal S4x8192x3072 .bf16) (w : FVec Ideal S4x64 .f32) (b h : Fin 4) (t : Fin 8192) (l : ℝ) (v : Fin 128 → ℕ → ℝ)
    (hl : lamOf w = (l : EReal)) (hv : ∀ d s, valueCol P b h d s = (v d s : EReal)) (d : Fin 128) :
    mixed (weights (lam w) (probs (exps (scores (qMaps P) (kMaps P))))) (vHeads P) (ix4 b t h d)
      = mixedAtOnce (fun s => wt (topOf (scoreRow P b h 0 t) (Finset.range 8192)) (scoreRow P b h 0 t s))
          (fun s => wt (topOf (scoreRow P b h 1 t) (Finset.range 8192)) (scoreRow P b h 1 t s)) l v (Finset.range 8192) d := by
  rw [mixed_at]
  unfold mixedAtOnce
  rw [Finset.sum_range]
  refine Finset.sum_congr rfl fun s _ => ?_
  have e : vHeads P (ix4 b h s d) = (v d s.val : EReal) := by
    rw [vHeads_at, ← hv d s.val]
    unfold valueCol
    rw [clip_val]
  rw [e, weights_at, prob_at, prob_at, lam_at, hl]

/-- The result at an index. -/
theorem result_at (P : FVec Ideal S4x8192x3072 .bf16) (w : FVec Ideal S4x64 .f32) (g : FVec Ideal S128 .f32) (b h : Fin 4) (t : Fin 8192)
    (l : ℝ) (v : Fin 128 → ℕ → ℝ) (hl : lamOf w = (l : EReal)) (hv : ∀ d s, valueCol P b h d s = (v d s : EReal)) (d : Fin 128) :
    normed (mixed (weights (lam w) (probs (exps (scores (qMaps P) (kMaps P))))) (vHeads P)) g (ix3 b t ⟨h.val * 128 + d.val, by omega⟩)
      = rowOut (mixedAtOnce (fun s => wt (topOf (scoreRow P b h 0 t) (Finset.range 8192)) (scoreRow P b h 0 t s))
          (fun s => wt (topOf (scoreRow P b h 1 t) (Finset.range 8192)) (scoreRow P b h 1 t s)) l v (Finset.range 8192)) (fun d => g (ix1 d)) d := by
  rw [normed_at]
  have e1 : (⟨(h.val * 128 + d.val) / 128, by omega⟩ : Fin 4) = h := Fin.ext (by simp only []; omega)
  have e2 : (⟨(h.val * 128 + d.val) % 128, by omega⟩ : Fin 128) = d := Fin.ext (by simp only []; omega)
  dsimp only
  rw [e1, e2]
  congr 1
  funext e
  exact mix_at P w b h t l v hl hv e

end Cert.DiffReferenceIdeal.Stages

end
-- ==== Proof.DiffValue.lean ====
/-
  The differential attention kernel's result array is the reference's, index by index, when the values and lambda's
  parameters are finite.
-/
module

public import proofs.«01_k».proof.Proof.DiffTile
public import proofs.«01_k».proof.Proof.DiffReference
public import proofs.«01_k».proof.Proof.Gen.DiffKernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.DiffKernelIdeal.Result

open Cert.DiffKernelIdeal Cert.DiffKernelIdeal.Gen Cert.DiffKernelIdeal.Body Cert.DiffKernelIdeal.Tile
open Cert.Differential
open Idealize.ShloMosaic Idealize.ShloMosaic.TcCoe Idealize.SL.Sem
open Cert.DiffReferenceIdeal.Stages (rawRow scoreRow valueCol clip lamOf)

variable (m : (ℓ : Loc nD τ sig) → Buf (Elt Ideal) ℓ) (c : Dev nD)

theorem blocks_at : ∀ t : Fin cfg0.N, win0_0.index t = ![t.val / 128, t.val % 32, t.val / 32 % 4]
    ∧ win0_1.index t = ![t.val / 128, 0, 4 + t.val / 32 % 4] ∧ win0_2.index t = ![t.val / 128, 0, 8 + t.val / 32 % 4]
    ∧ win0_3.index t = ![0, 0] ∧ win0_4.index t = ![0, 0] ∧ win0_5.index t = ![t.val / 128, t.val % 32, t.val / 32 % 4]
    ∧ (grid0.coords t 1).val = t.val / 32 % 4 ∧ (grid0.coords t 2).val = t.val % 32 :=
  (by decide +kernel : ∀ t : Fin grid0.N, _)

theorem points (t : Fin cfg0.N) : t.val < 512 := lt_of_lt_of_eq t.isLt (show cfg0.N = 512 from N_0)

/-- A point's batch row, head and query tile. -/
def batchOf (t : Fin cfg0.N) : Fin 4 := ⟨t.val / 128, by have := points t; omega⟩
def headOf (t : Fin cfg0.N) : Fin 4 := ⟨t.val / 32 % 4, by omega⟩
def tileOf (t : Fin cfg0.N) : Fin 32 := ⟨t.val % 32, by omega⟩
/-- The position of row `r` of a query tile. -/
def rowOf (t : Fin cfg0.N) (r : Fin 256) : Fin 8192 := ⟨256 * (tileOf t).val + r.val, by omega⟩

def argP : FVec Ideal S4x8192x3072 .bf16 := m ((c : Thread nD τ).loc main_arg0)
def argW : FVec Ideal S4x64 .f32 := m ((c : Thread nD τ).loc main_arg1)
def argG : FVec Ideal S128 .f32 := m ((c : Thread nD τ).loc main_arg2)

theorem q_at (t : Fin cfg0.N) (r : Fin 256) (l : Fin 128) :
    (iblk m c 0 t : FVec Ideal S1x256x128 .bf16) (ix3 0 r l)
      = argP m c (ix3 (batchOf t) (rowOf t r) ⟨(headOf t).val * 128 + l.val, by omega⟩) := by
  unfold argP batchOf rowOf headOf tileOf
  blk_ext [iblk, V_main_arg0, blocks_at t]
theorem k_at (t : Fin cfg0.N) (s : Fin 8192) (l : Fin 128) :
    (iblk m c 1 t : FVec Ideal S1x8192x128 .bf16) (ix3 0 s l)
      = argP m c (ix3 (batchOf t) s ⟨512 + ((headOf t).val * 128 + l.val), by omega⟩) := by
  unfold argP batchOf headOf
  blk_ext [iblk, V_main_arg0, blocks_at t]
theorem v_at (t : Fin cfg0.N) (s : Fin 8192) (l : Fin 128) :
    (iblk m c 2 t : FVec Ideal S1x8192x128 .bf16) (ix3 0 s l)
      = argP m c (ix3 (batchOf t) s ⟨1024 + ((headOf t).val * 128 + l.val), by omega⟩) := by
  unfold argP batchOf headOf
  blk_ext [iblk, V_main_arg0, blocks_at t]
theorem w_at (t : Fin cfg0.N) (a : Fin 4) (x : Fin 64) :
    (iblk m c 3 t : FVec Ideal S4x64 .f32) (ix2 a x) = argW m c (ix2 a x) := by
  unfold argW
  blk_ext [iblk, V_main_arg1, blocks_at t]
theorem g_place (t : Fin cfg0.N) (e : Fin 128) :
    (iblk m c 4 t : FVec Ideal S1x128 .f32) (ix2 0 e) = (V m c main_v0 : FVec Ideal S1x128 .f32) (ix2 0 e) := by
  blk_ext [iblk, blocks_at t]
theorem g_host (e : Fin 128) : (V m c main_v0 : FVec Ideal S1x128 .f32) (ix2 0 e) = argG m c (ix1 e) := by
  unfold V argG
  simp only [hostOps0, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp
  pointwise

/-! ## The scores -/

/-- A sum over the lanes of which only the first half counts, -/
theorem lanes_low (f : Fin 128 → EReal) : (∑ l : Fin 128, if l.val < 64 then f l else 0) = ∑ d : Fin 64, f ⟨d.val, by omega⟩ := by
  rw [Fin.sum_univ_add (a := 64) (b := 64) (fun l : Fin (64 + 64) => if l.val < 64 then f l else 0)]
  rw [Finset.sum_congr rfl fun d _ => if_pos (show (Fin.castAdd 64 d).val < 64 from d.isLt)]
  rw [Finset.sum_congr (s₁ := Finset.univ) rfl fun d _ => if_neg (show ¬ (Fin.natAdd 64 d).val < 64 by simp), Finset.sum_const_zero, add_zero]
  rfl

/-- and of which only the second half does. -/
theorem lanes_high (f : Fin 128 → EReal) : (∑ l : Fin 128, if l.val < 64 then 0 else f l) = ∑ d : Fin 64, f ⟨64 + d.val, by omega⟩ := by
  rw [Fin.sum_univ_add (a := 64) (b := 64) (fun l : Fin (64 + 64) => if l.val < 64 then 0 else f l)]
  rw [Finset.sum_congr rfl fun d _ => if_pos (show (Fin.castAdd 64 d).val < 64 from d.isLt), Finset.sum_const_zero, zero_add]
  exact Finset.sum_congr rfl fun d _ => if_neg (show ¬ (Fin.natAdd 64 d).val < 64 by simp)

theorem raw0 (t : Fin cfg0.N) (r s : Fin 256) (n : ℕ) :
    (∑ x : Fin 128, (show EReal from k0_pay37 (F := Ideal) (iblk m c 0 t) (ix2 r x)) * (show EReal from slab (F := Ideal) (iblk m c 1 t) n (ix3 0 s x)))
      = rawRow (argP m c) (batchOf t) (headOf t) 0 (rowOf t r) (256 * n + s.val) := by
  simp only [pay37_at, ite_mul, zero_mul]
  rw [lanes_low]
  unfold rawRow
  refine Finset.sum_congr rfl fun d _ => ?_
  have e : (headOf t).val * 128 + (0 : Fin 2).val * 64 + d.val = (headOf t).val * 128 + d.val := by
    show (headOf t).val * 128 + 0 * 64 + d.val = _; omega
  rw [q_at]
  show _ * _ * (iblk m c 1 t : FVec Ideal S1x8192x128 .bf16) (ix3 0 (clip (256 * n + s.val)) ⟨d.val, _⟩) = _
  rw [k_at]
  simp only [e]

theorem raw1 (t : Fin cfg0.N) (r s : Fin 256) (n : ℕ) :
    (∑ x : Fin 128, (show EReal from k0_pay38 (F := Ideal) (iblk m c 0 t) (ix2 r x)) * (show EReal from slab (F := Ideal) (iblk m c 1 t) n (ix3 0 s x)))
      = rawRow (argP m c) (batchOf t) (headOf t) 1 (rowOf t r) (256 * n + s.val) := by
  simp only [pay38_at, ite_mul, zero_mul]
  rw [lanes_high]
  unfold rawRow
  refine Finset.sum_congr rfl fun d _ => ?_
  have e : (headOf t).val * 128 + (1 : Fin 2).val * 64 + d.val = (headOf t).val * 128 + (64 + d.val) := by
    show (headOf t).val * 128 + 1 * 64 + d.val = _; omega
  rw [q_at]
  show _ * _ * (iblk m c 1 t : FVec Ideal S1x8192x128 .bf16) (ix3 0 (clip (256 * n + s.val)) ⟨64 + d.val, _⟩) = _
  rw [k_at]
  simp only [e]

/-- How far the kernel's scores of a row lie above the reference's. -/
def above (t : Fin cfg0.N) (r : Fin 256) : ℝ :=
  slopeOf (headOf t).val * (((rowOf t r).val : ℝ) - ((256 * (tileOf t).val : ℕ) : ℝ))

/-- The biases of key tile `n`. -/
def biases (t : Fin cfg0.N) (n : ℕ) : FVec Ideal S1x256 .f32 :=
  bias (F := Ideal) (BitVec.ofNat 32 (tileOf t).val) colNo (k0_pay39 (F := Ideal) (grid0.coords t)) n

theorem biases_at (t : Fin cfg0.N) (n : ℕ) (hn : n < 32) (s : Fin 256) :
    biases t n (ix2 0 s) = ((slopeOf (headOf t).val * (((256 * n + s.val : ℕ) : ℝ) - ((256 * (tileOf t).val : ℕ) : ℝ)) : ℝ) : EReal) :=
  bias_at (tileOf t).val n (tileOf t).isLt hn _ (slopeOf (headOf t).val) s (pay39_at (grid0.coords t) (headOf t) (blocks_at t).2.2.2.2.2.2.1 s)

theorem shifted (x : EReal) (σ p s a : ℝ) : x + ((σ * (s - a) : ℝ) : EReal) = x - ((σ * (p - s) : ℝ) : EReal) + ((σ * (p - a) : ℝ) : EReal) := by
  induction x with
  | bot => simp only [EReal.bot_add, EReal.bot_sub]
  | top => rw [EReal.top_add_coe, EReal.top_sub_coe, EReal.top_add_coe]
  | coe x => rw [← EReal.coe_add, ← EReal.coe_sub, ← EReal.coe_add]; congr 1; ring

/-- A sum of products, with its bias, is the reference's score shifted. -/
theorem score_of (t : Fin cfg0.N) (r s : Fin 256) (n : ℕ) (hn : n < 32) (k : Fin 2) (h : 256 * n + s.val ≤ (rowOf t r).val) :
    rawRow (argP m c) (batchOf t) (headOf t) k (rowOf t r) (256 * n + s.val) + (show EReal from biases t n (ix2 0 s))
      = scoreRow (argP m c) (batchOf t) (headOf t) k (rowOf t r) (256 * n + s.val) + (above t r : EReal) := by
  rw [biases_at t n hn]
  unfold scoreRow above
  rw [if_pos h]
  exact shifted _ _ _ _ _

theorem full0 (t : Fin cfg0.N) (r s : Fin 256) (n : ℕ) (hn : n < (tileOf t).val) :
    k0_pay13 (F := Ideal) (k0_pay37 (F := Ideal) (iblk m c 0 t)) (k0_pay2 (slab (F := Ideal) (iblk m c 1 t) n)) (biases t n) (ix2 r s)
      = (fun s => scoreRow (argP m c) (batchOf t) (headOf t) 0 (rowOf t r) s + (above t r : EReal)) (256 * n + s.val) := by
  rw [pay13_at, raw0]
  exact score_of m c t r s n (by omega) 0 (by show 256 * n + s.val ≤ 256 * (tileOf t).val + r.val; omega)

theorem diagonal0 (t : Fin cfg0.N) (r s : Fin 256) :
    k0_pay55 (F := Ideal) (k0_pay37 (F := Ideal) (iblk m c 0 t)) seen (k0_pay44 (slab (F := Ideal) (iblk m c 1 t) (tileOf t).val)) (biases t (tileOf t).val) (ix2 r s)
      = (fun s => scoreRow (argP m c) (batchOf t) (headOf t) 0 (rowOf t r) s + (above t r : EReal)) (256 * (tileOf t).val + s.val) := by
  rw [pay55_at, raw0]
  dsimp only
  by_cases h : s.val ≤ r.val
  · rw [if_pos h]
    exact score_of m c t r s _ (tileOf t).isLt 0 (by show 256 * (tileOf t).val + s.val ≤ 256 * (tileOf t).val + r.val; omega)
  · rw [if_neg h]
    unfold scoreRow
    rw [if_neg (by show ¬ 256 * (tileOf t).val + s.val ≤ 256 * (tileOf t).val + r.val; omega), EReal.bot_add]

theorem full1 (t : Fin cfg0.N) (r s : Fin 256) (n : ℕ) (hn : n < (tileOf t).val) :
    k0_pay13 (F := Ideal) (k0_pay38 (F := Ideal) (iblk m c 0 t)) (k0_pay2 (slab (F := Ideal) (iblk m c 1 t) n)) (biases t n) (ix2 r s)
      = (fun s => scoreRow (argP m c) (batchOf t) (headOf t) 1 (rowOf t r) s + (above t r : EReal)) (256 * n + s.val) := by
  rw [pay13_at, raw1]
  exact score_of m c t r s n (by omega) 1 (by show 256 * n + s.val ≤ 256 * (tileOf t).val + r.val; omega)

theorem diagonal1 (t : Fin cfg0.N) (r s : Fin 256) :
    k0_pay55 (F := Ideal) (k0_pay38 (F := Ideal) (iblk m c 0 t)) seen (k0_pay44 (slab (F := Ideal) (iblk m c 1 t) (tileOf t).val)) (biases t (tileOf t).val) (ix2 r s)
      = (fun s => scoreRow (argP m c) (batchOf t) (headOf t) 1 (rowOf t r) s + (above t r : EReal)) (256 * (tileOf t).val + s.val) := by
  rw [pay55_at, raw1]
  dsimp only
  by_cases h : s.val ≤ r.val
  · rw [if_pos h]
    exact score_of m c t r s _ (tileOf t).isLt 1 (by show 256 * (tileOf t).val + s.val ≤ 256 * (tileOf t).val + r.val; omega)
  · rw [if_neg h]
    unfold scoreRow
    rw [if_neg (by show ¬ 256 * (tileOf t).val + s.val ≤ 256 * (tileOf t).val + r.val; omega), EReal.bot_add]

/-- Nothing is seen after the query's tile. -/
theorem later (t : Fin cfg0.N) (r : Fin 256) (k : Fin 2) (s : ℕ) (hs : 256 * (tileOf t).val + 256 ≤ s) :
    scoreRow (argP m c) (batchOf t) (headOf t) k (rowOf t r) s = ⊥ := by
  unfold scoreRow
  rw [if_neg (by show ¬ s ≤ 256 * (tileOf t).val + r.val; omega)]

/-! ## Finite values and a finite lambda -/

theorem coe_of {x : EReal} (h : x ≠ ⊤ ∧ x ≠ ⊥) : x = (x.toReal : EReal) := (EReal.coe_toReal h.1 h.2).symm

theorem offset_finite : Ideal.ofBits .f32 0x3E4CCCCD#32 ≠ ⊤ ∧ Ideal.ofBits .f32 0x3E4CCCCD#32 ≠ ⊥ := by
  constructor <;> simp [Ideal.ofBits, Ideal.ieee, -EReal.coe_mul]

theorem lam_real (w : FVec Ideal S4x64 .f32) (hw : ∀ (a : Fin 4) (x : Fin 64), (show EReal from w (ix2 a x)) ≠ ⊤ ∧ (show EReal from w (ix2 a x)) ≠ ⊥) :
    ∃ l : ℝ, lamOf w = (l : EReal) := by
  have e : ∀ a b : Fin 4, ∑ x : Fin 64, (show EReal from w (ix2 a x)) * (show EReal from w (ix2 b x))
      = ((∑ x : Fin 64, EReal.toReal (w (ix2 a x)) * EReal.toReal (w (ix2 b x)) : ℝ) : EReal) := fun a b => by
    rw [coe_sum]
    refine Finset.sum_congr rfl fun x _ => ?_
    rw [EReal.coe_mul, ← coe_of (hw a x), ← coe_of (hw b x)]
  unfold lamOf
  rw [e, e, exp_coe, exp_coe, coe_of offset_finite, ← EReal.coe_sub, ← EReal.coe_add]
  exact ⟨_, rfl⟩

open Cert.DiffReferenceIdeal.Stages (normed mixed weights lam probs exps scores qMaps kMaps vHeads result_at)

/-- What the result array ends holding. -/
theorem result
    (hv : ∀ (b : Fin 4) (s : Fin 8192) (j : Fin 512), (show EReal from argP m c (ix3 b s ⟨1024 + j.val, by omega⟩)) ≠ ⊤
      ∧ (show EReal from argP m c (ix3 b s ⟨1024 + j.val, by omega⟩)) ≠ ⊥)
    (hw : ∀ (a : Fin 4) (x : Fin 64), (show EReal from argW m c (ix2 a x)) ≠ ⊤ ∧ (show EReal from argW m c (ix2 a x)) ≠ ⊥) :
    (dats m 0 c).arrAt 5 cfg0.N = normed (mixed (weights (lam (argW m c)) (probs (exps (scores (qMaps (argP m c)) (kMaps (argP m c))))))
      (vHeads (argP m c))) (argG m c) := by
  refine (dats m 0 c).arrAt_eq_of_covers 5 _ (by decide +kernel) fun t hf y => ?_
  blk_simp
  rw [after0_5]
  unfold outsAt0
  have ho := out_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _)
    (iblk m c 0 t) (iblk m c 1 t) (iblk m c 2 t) (iblk m c 3 t) (iblk m c 4 t)
  dsimp only at ho
  rw [(blocks_at t).2.2.2.2.2.2.2] at ho
  rw [ho]
  obtain ⟨o, r, d, rfl⟩ : ∃ (o : Fin 1) (r : Fin 256) (d : Fin 128), y = ix3 o r d := ⟨y 0, y 1, y 2, eq_ix3 y⟩
  obtain rfl : o = 0 := Subsingleton.elim _ _
  have place : ((cfg0.win 5).blk t).view.emb (ix3 0 r d)
      = (ix3 (batchOf t) (rowOf t r) ⟨(headOf t).val * 128 + d.val, by omega⟩ : S4x8192x512.Idx) := by
    unfold batchOf rowOf headOf tileOf
    blk_ext [blocks_at t]
  refine Eq.trans ?_ (congrArg (normed (mixed (weights (lam (argW m c)) (probs (exps (scores (qMaps (argP m c)) (kMaps (argP m c))))))
      (vHeads (argP m c))) (argG m c)) place.symm)
  obtain ⟨l, hl⟩ := lam_real (argW m c) hw
  have hv' : ∀ e s, valueCol (argP m c) (batchOf t) (headOf t) e s = ((valueCol (argP m c) (batchOf t) (headOf t) e s).toReal : EReal) := fun e s =>
    coe_of (hv (batchOf t) (clip s) ⟨(headOf t).val * 128 + e.val, by omega⟩)
  rw [result_at (argP m c) (argW m c) (argG m c) (batchOf t) (headOf t) (rowOf t r) l _ hl hv' d]
  have hVV : ∀ n e (s : Fin 256), slab (F := Ideal) (iblk m c 2 t) n (ix3 0 s e)
      = ((valueCol (argP m c) (batchOf t) (headOf t) e (256 * n + s.val)).toReal : EReal) := fun n e s => by
    refine Eq.trans ?_ (hv' e (256 * n + s.val))
    show (iblk m c 2 t : FVec Ideal S1x8192x128 .bf16) (ix3 0 (clip (256 * n + s.val)) ⟨e.val, _⟩) = _
    rw [v_at]
    rfl
  have R0 := (rows0 (K := slab (F := Ideal) (iblk m c 1 t)) (V := slab (F := Ideal) (iblk m c 2 t)) (b := biases t) (i := (tileOf t).val) (r := r)
    (v := fun e s => (valueCol (argP m c) (batchOf t) (headOf t) e s).toReal) (q1 := k0_pay38 (F := Ideal) (iblk m c 0 t)) (fun n hn s => full0 m c t r s n hn) (fun s => diagonal0 m c t r s) hVV (tileOf t).val (le_refl _)).whole (tileOf t).isLt (later m c t r 0)
  have R1 := (rows1 (K := slab (F := Ideal) (iblk m c 1 t)) (V := slab (F := Ideal) (iblk m c 2 t)) (b := biases t) (i := (tileOf t).val) (r := r)
    (v := fun e s => (valueCol (argP m c) (batchOf t) (headOf t) e s).toReal) (q0 := k0_pay37 (F := Ideal) (iblk m c 0 t)) (fun n hn s => full1 m c t r s n hn) (fun s => diagonal1 m c t r s) hVV (tileOf t).val (le_refl _)).whole (tileOf t).isLt (later m c t r 1)
  have hx3 : (iblk m c 3 t : FVec Ideal S4x64 .f32) = argW m c := by
    funext y
    obtain ⟨a, x, rfl⟩ : ∃ (a : Fin 4) (x : Fin 64), y = ix2 a x := ⟨y 0, y 1, eq_ix2 y⟩
    exact w_at m c t a x
  refine (out_at (iblk m c 3 t) _ _ _ _ (iblk m c 4 t) r d).trans ?_
  have hg : (fun e : Fin 128 => (show EReal from (iblk m c 4 t : FVec Ideal S1x128 .f32) (ix2 0 e))) = fun e => (show EReal from argG m c (ix1 e)) :=
    funext fun e => (g_place m c t e).trans (g_host m c e)
  refine Eq.trans (congrFun (congrArg₂ rowOut ?_ hg) d) (rows_out (fun s => wt_nonneg _ _) (fun s => wt_nonneg _ _) l _ (Finset.range 8192) _ d)
  funext e
  refine (pay68_at (iblk m c 3 t) _ _ _ _ r e).trans ?_
  have hl' := hl
  unfold lamOf at hl'
  rw [hx3, hl']
  exact congrArg₂ (fun a b : EReal => a - (l : EReal) * b) (congrArg₂ Ideal.div (R0.2 e) R0.1) (congrArg₂ Ideal.div (R1.2 e) R1.1)

end Cert.DiffKernelIdeal.Result

end
-- ==== Proof.lean ====
module

public import proofs.«01_k».proof.Defs
public import proofs.«01_k».proof.Proof.Gen.SbKernel
public import proofs.«01_k».proof.Proof.Gen.SbKernel.Skeleton
public import proofs.«01_k».proof.Proof.Gen.SbKernel.Loops
public import proofs.«01_k».proof.Proof.Gen.SbKernel.Launch
public import proofs.«01_k».proof.Proof.Gen.SbKernel.Points
public import proofs.«01_k».proof.Proof.Gen.SbKernel.Frame
public import proofs.«01_k».proof.Proof.Gen.SbKernelIdeal
public import proofs.«01_k».proof.Proof.Gen.SbKernelIdeal.Skeleton
public import proofs.«01_k».proof.Proof.Gen.SbKernelIdeal.Loops
public import proofs.«01_k».proof.Proof.Gen.SbKernelIdeal.Launch
public import proofs.«01_k».proof.Proof.Gen.SbKernelIdeal.Points
public import proofs.«01_k».proof.Proof.Gen.SbKernelIdeal.Frame
public import proofs.«01_k».proof.Proof.Gen.SbReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.DiffKernel
public import proofs.«01_k».proof.Proof.Gen.DiffKernel.Skeleton
public import proofs.«01_k».proof.Proof.Gen.DiffKernel.Loops
public import proofs.«01_k».proof.Proof.Gen.DiffKernel.Launch
public import proofs.«01_k».proof.Proof.Gen.DiffKernel.Points
public import proofs.«01_k».proof.Proof.Gen.DiffKernel.Frame
public import proofs.«01_k».proof.Proof.Gen.DiffKernelIdeal
public import proofs.«01_k».proof.Proof.Gen.DiffKernelIdeal.Skeleton
public import proofs.«01_k».proof.Proof.Gen.DiffKernelIdeal.Loops
public import proofs.«01_k».proof.Proof.Gen.DiffKernelIdeal.Launch
public import proofs.«01_k».proof.Proof.Gen.DiffKernelIdeal.Points
public import proofs.«01_k».proof.Proof.Gen.DiffKernelIdeal.Frame
public import proofs.«01_k».proof.Proof.Gen.DiffReferenceIdeal
public import proofs.«01_k».proof.Proof.Gen.SbKernelIdeal.Value
public import proofs.«01_k».proof.Proof.Gen.FfnKernelIdeal.Value
public import proofs.«01_k».proof.Proof.Gen.DiffKernelIdeal.Value
public import proofs.«01_k».proof.Proof.Gen.SbReferenceIdeal.Run
public import proofs.«01_k».proof.Proof.Gen.FfnReferenceIdeal.Run
public import proofs.«01_k».proof.Proof.Gen.DiffReferenceIdeal.Run
public import proofs.«01_k».proof.Proof.Gen.InprojKernel
public import proofs.«01_k».proof.Proof.Gen.InprojKernel.Skeleton
public import proofs.«01_k».proof.Proof.Gen.InprojKernel.Launch
public import proofs.«01_k».proof.Proof.Gen.InprojKernel.Points
public import proofs.«01_k».proof.Proof.Gen.InprojKernel.Frame
public import proofs.«01_k».proof.Proof.Gen.InprojKernelIdeal
public import proofs.«01_k».proof.Proof.Gen.InprojKernelIdeal.Skeleton
public import proofs.«01_k».proof.Proof.Gen.InprojKernelIdeal.Launch
public import proofs.«01_k».proof.Proof.Gen.InprojKernelIdeal.Points
public import proofs.«01_k».proof.Proof.Gen.InprojKernelIdeal.Frame
public import proofs.«01_k».proof.Proof.Gen.InprojReferenceIdeal
public import proofs.«01_k».proof.Proof.Gen.OutprojKernel
public import proofs.«01_k».proof.Proof.Gen.OutprojKernel.Skeleton
public import proofs.«01_k».proof.Proof.Gen.OutprojKernel.Launch
public import proofs.«01_k».proof.Proof.Gen.OutprojKernel.Points
public import proofs.«01_k».proof.Proof.Gen.OutprojKernel.Frame
public import proofs.«01_k».proof.Proof.Gen.OutprojKernelIdeal
public import proofs.«01_k».proof.Proof.Gen.OutprojKernelIdeal.Skeleton
public import proofs.«01_k».proof.Proof.Gen.OutprojKernelIdeal.Launch
public import proofs.«01_k».proof.Proof.Gen.OutprojKernelIdeal.Points
public import proofs.«01_k».proof.Proof.Gen.OutprojKernelIdeal.Frame
public import proofs.«01_k».proof.Proof.Gen.OutprojReferenceIdeal
public import proofs.«01_k».proof.Proof.Gen.SguKernel
public import proofs.«01_k».proof.Proof.Gen.SguKernel.Skeleton
public import proofs.«01_k».proof.Proof.Gen.SguKernel.Launch
public import proofs.«01_k».proof.Proof.Gen.SguKernel.Points
public import proofs.«01_k».proof.Proof.Gen.SguKernel.Frame
public import proofs.«01_k».proof.Proof.Gen.SguKernelIdeal
public import proofs.«01_k».proof.Proof.Gen.SguKernelIdeal.Skeleton
public import proofs.«01_k».proof.Proof.Gen.SguKernelIdeal.Launch
public import proofs.«01_k».proof.Proof.Gen.SguKernelIdeal.Points
public import proofs.«01_k».proof.Proof.Gen.SguKernelIdeal.Frame
public import proofs.«01_k».proof.Proof.Gen.SguReferenceIdeal
public import proofs.«01_k».proof.Proof.Gen.InprojKernelIdeal.Value
public import proofs.«01_k».proof.Proof.Gen.InprojReferenceIdeal.Run
public import proofs.«01_k».proof.Proof.Gen.OutprojKernelIdeal.Value
public import proofs.«01_k».proof.Proof.Gen.OutprojReferenceIdeal.Run
public import proofs.«01_k».proof.Proof.Gen.SguKernelIdeal.Value
public import proofs.«01_k».proof.Proof.Gen.SguReferenceIdeal.Run
public import proofs.«01_k».proof.Proof.Inproj
public import proofs.«01_k».proof.Proof.Outproj
public import proofs.«01_k».proof.Proof.SguValue
public import proofs.«01_k».proof.Proof.Gen.TailKernel
public import proofs.«01_k».proof.Proof.Gen.TailReferenceIdeal
public import proofs.«01_k».proof.Proof.Gen.TailReferenceIdeal.Run
public import proofs.«01_k».proof.Proof.Gen.TailKernelIdeal
public import proofs.«01_k».proof.Proof.Gen.TailKernelIdeal.Skeleton
public import proofs.«01_k».proof.Proof.Gen.TailKernelIdeal.Launch
public import proofs.«01_k».proof.Proof.Gen.TailKernelIdeal.Points
public import proofs.«01_k».proof.Proof.TailValue
public import proofs.«01_k».proof.Proof.FfnValue
public import proofs.«01_k».proof.Proof.SbValue
public import proofs.«01_k».proof.Proof.DiffFinite
public import proofs.«01_k».proof.Proof.DiffValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.SbKernel

/-- The stick-breaking attention reference leaves its arguments unchanged; it declares no semaphore. -/
theorem frame_sb_reference : Cert.quiescent_SbReferenceIdeal := fun m ρ _ =>
  (θ_run Cert.SbReferenceIdeal.defs _ _).mono (fun r h => ⟨fun c => (h c).2,
      Idealize.ShloMosaic.sem_eq_zero_of_no_sems (by decide) r.2⟩)
    (Cert.SbReferenceIdeal.Value.run (F := Ideal) m ρ)

/-- The feed-forward reference leaves its arguments unchanged; it declares no semaphore. -/
theorem frame_ffn_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The differential attention reference leaves its arguments unchanged; it declares no semaphore. -/
theorem frame_diff_reference : Cert.quiescent_DiffReferenceIdeal := fun m ρ _ =>
  (θ_run Cert.DiffReferenceIdeal.defs _ _).mono (fun r h => ⟨fun c => (h c).2,
      Idealize.ShloMosaic.sem_eq_zero_of_no_sems (by decide) r.2⟩)
    (Cert.DiffReferenceIdeal.Value.run (F := Ideal) m ρ)

/-- The input projection's reference leaves its arguments unchanged; it declares no semaphore. -/
theorem frame_inproj_reference : Cert.quiescent_InprojReferenceIdeal := fun m ρ _ =>
  (θ_run Cert.InprojReferenceIdeal.defs _ _).mono (fun r h => ⟨fun c => (h c).2,
      Idealize.ShloMosaic.sem_eq_zero_of_no_sems (by decide) r.2⟩)
    (Cert.InprojReferenceIdeal.Value.run (F := Ideal) m ρ)

/-- The output projection's reference leaves its arguments unchanged; it declares no semaphore. -/
theorem frame_outproj_reference : Cert.quiescent_OutprojReferenceIdeal := fun m ρ _ =>
  (θ_run Cert.OutprojReferenceIdeal.defs _ _).mono (fun r h => ⟨fun c => (h c).2,
      Idealize.ShloMosaic.sem_eq_zero_of_no_sems (by decide) r.2⟩)
    (Cert.OutprojReferenceIdeal.Value.run (F := Ideal) m ρ)

theorem frame_sgu_reference : Cert.quiescent_SguReferenceIdeal := fun m ρ _ =>
  (θ_run Cert.SguReferenceIdeal.defs _ _).mono (fun r h => ⟨fun c => (h c).2,
      Idealize.ShloMosaic.sem_eq_zero_of_no_sems (by decide) r.2⟩)
    (Cert.SguReferenceIdeal.Value.run (F := Ideal) m ρ)

/-- The joined tail's reference leaves its arguments unchanged; it declares no semaphore. -/
theorem frame_tail_reference : Cert.quiescent_TailReferenceIdeal := fun m ρ _ =>
  (θ_run Cert.TailReferenceIdeal.defs _ _).mono (fun r h => ⟨fun c => (h c).2,
      Idealize.ShloMosaic.sem_eq_zero_of_no_sems (by decide) r.2⟩)
    (Cert.TailReferenceIdeal.Value.run (F := Ideal) m ρ)

set_option maxRecDepth 65536 in
/-- The joined tail at machine words is the program proved at any float values, under another name. -/
theorem frame_tail_kernel : Cert.quiescent_TailKernel := fun m ρ _ => by
  refine cast ?_ (Cert.TailKernelIdeal.Joined.tidy (F := Bits) m ρ)
  sl_kernel_rfl

/-- The input projection: the kernel's result array and the reference's are one array. -/
theorem inproj_algebraic : Cert.algebraic_InprojKernelIdeal_InprojReferenceIdeal := by
  pair_intro
  · run_from Cert.InprojKernelIdeal.Gen.run_main m g
  · run_from Cert.InprojReferenceIdeal.Value.run m' g'
    rw [Cert.InprojKernelIdeal.Result.result m c]
    rfl

/-- The output projection: the kernel's result array and the reference's are one array. -/
theorem outproj_algebraic : Cert.algebraic_OutprojKernelIdeal_OutprojReferenceIdeal := by
  pair_intro
  · run_from Cert.OutprojKernelIdeal.Gen.run_main m g
  · run_from Cert.OutprojReferenceIdeal.Value.run m' g'
    rw [Cert.OutprojKernelIdeal.Result.result m c]
    obtain ⟨_, h1, h2, _, _⟩ := hagree c
    change Cert.OutprojReferenceIdeal.Stages.residual (m ((c.tc : Thread _ _).loc Cert.OutprojKernelIdeal.main_arg0))
      (Cert.OutprojReferenceIdeal.Stages.normed (Cert.OutprojReferenceIdeal.Stages.projected (m' ((c.tc : Thread _ _).loc Cert.OutprojReferenceIdeal.main_arg1))
        (m' ((c.tc : Thread _ _).loc Cert.OutprojReferenceIdeal.main_arg2)) (m ((c.tc : Thread _ _).loc Cert.OutprojKernelIdeal.main_arg3)))
        (m ((c.tc : Thread _ _).loc Cert.OutprojKernelIdeal.main_arg4))) = _
    rw [h1, h2]
    rfl

/-- The spatial gating unit: the kernel's result array and the reference's are one array. -/
theorem sgu_algebraic : Cert.algebraic_SguKernelIdeal_SguReferenceIdeal := by
  pair_intro
  · run_from Cert.SguKernelIdeal.Gen.run_main m g
  · run_from Cert.SguReferenceIdeal.Value.run m' g'
    rw [Cert.SguKernelIdeal.Result.result m c]
    obtain ⟨h0, h1, _, h3, h4, h5, h6, h7, h8, h9⟩ := hagree c
    refine Eq.trans (b := Cert.SguReferenceIdeal.Stages.whole (m' ((c.tc : Thread _ _).loc Cert.SguReferenceIdeal.main_arg0))
      (m' ((c.tc : Thread _ _).loc Cert.SguReferenceIdeal.main_arg1)) (m ((c.tc : Thread _ _).loc Cert.SguKernelIdeal.main_arg2))
      (m' ((c.tc : Thread _ _).loc Cert.SguReferenceIdeal.main_arg3)) (m' ((c.tc : Thread _ _).loc Cert.SguReferenceIdeal.main_arg4))
      (m' ((c.tc : Thread _ _).loc Cert.SguReferenceIdeal.main_arg5)) (m' ((c.tc : Thread _ _).loc Cert.SguReferenceIdeal.main_arg6))
      (m' ((c.tc : Thread _ _).loc Cert.SguReferenceIdeal.main_arg7)) (m' ((c.tc : Thread _ _).loc Cert.SguReferenceIdeal.main_arg8))
      (m' ((c.tc : Thread _ _).loc Cert.SguReferenceIdeal.main_arg9))) rfl ?_
    rw [h0, h1, h3, h4, h5, h6, h7, h8, h9]
    rfl

/-- The joined tail's reference, from the rows after the mixer on. -/
theorem tail_algebraic : Cert.algebraic_TailKernelIdeal_TailReferenceIdeal := by
  pair_intro
  · run_from Cert.TailKernelIdeal.Joined.ends m g
  · run_from Cert.TailReferenceIdeal.Value.run m' g'
    rw [Cert.TailKernelIdeal.Result.result m g c]
    obtain ⟨h0, h1, h2, h3, h4, h5, h6, h7, h8, h9, h10, h11, h12, h13, h14⟩ := hagree c
    unfold Cert.TailKernelIdeal.Result.mixedRows
    rw [← h0, ← h1, ← h2, ← h3, ← h4, ← h5, ← h6, ← h7, ← h8, ← h9, ← h10, ← h11, ← h12, ← h13, ← h14]
    rfl

/-- The feed-forward sublayer: the kernel's result array and the reference's are one array. -/
theorem ffn_algebraic : Cert.algebraic_FfnKernelIdeal_FfnReferenceIdeal := by
  pair_intro
  · run_from Cert.FfnKernelIdeal.Gen.run_main m g
  · run_from Cert.FfnReferenceIdeal.Value.run m' g'
    rw [Cert.FfnKernelIdeal.Result.result m c]
    obtain ⟨h0, h1, h2, h3, h4, h5⟩ := hagree c
    refine (Cert.FfnReferenceIdeal.Stages.result_eq m' c).trans ?_
    rw [h0, h1, h2, h3, h4, h5]
    rfl

/-- The stick-breaking attention: the kernel's result array and the reference's are one array. -/
theorem sb_algebraic : Cert.algebraic_SbKernelIdeal_SbReferenceIdeal := by
  pair_intro
  · run_from Cert.SbKernelIdeal.Gen.run_main m g
  · run_from Cert.SbReferenceIdeal.Value.run m' g'
    rw [Cert.SbKernelIdeal.Result.result m c]
    have h0 := hagree c
    refine (Cert.SbReferenceIdeal.Stages.result_eq m' c).trans ?_
    rw [h0]
    rfl

/-- The differential attention: at finite values and a finite lambda the kernel's result array and the reference's are one array. -/
theorem diff_algebraic : Cert.algebraic_DiffKernelIdeal_DiffReferenceIdeal_pre_finite_values (hPre_finite_values := Cert.Pre_finite_values.facts) := by
  pair_intro
  · run_from Cert.DiffKernelIdeal.Gen.run_main m g
  · run_from Cert.DiffReferenceIdeal.Value.run m' g'
    rw [Cert.DiffKernelIdeal.Result.result m c (@Cert.Pre_finite_values.values_real Cert.Pre_finite_values.facts _ _ _ (hpre c).1)
      (@Cert.Pre_finite_values.params_real Cert.Pre_finite_values.facts _ _ _ (hpre c).2)]
    obtain ⟨h0, h1, h2⟩ := hagree c
    refine (Cert.DiffReferenceIdeal.Stages.result_eq m' c).trans ?_
    rw [h0, h1, h2]
    rfl

theorem claim : Cert.Claim := ⟨Cert.SbKernel.Gen.facts, Cert.SbKernelIdeal.Gen.facts, Cert.SbReferenceIdeal.Gen.facts, Cert.FfnKernel.Gen.facts, Cert.FfnKernelIdeal.Gen.facts, Cert.FfnReferenceIdeal.Gen.facts, Cert.DiffKernel.Gen.facts, Cert.DiffKernelIdeal.Gen.facts, Cert.DiffReferenceIdeal.Gen.facts, Cert.InprojKernel.Gen.facts, Cert.InprojKernelIdeal.Gen.facts, Cert.InprojReferenceIdeal.Gen.facts, Cert.OutprojKernel.Gen.facts, Cert.OutprojKernelIdeal.Gen.facts, Cert.OutprojReferenceIdeal.Gen.facts, Cert.SguKernel.Gen.facts, Cert.SguKernelIdeal.Gen.facts, Cert.SguReferenceIdeal.Gen.facts, Cert.TailKernel.Gen.facts, Cert.TailKernelIdeal.Gen.facts, Cert.TailReferenceIdeal.Gen.facts, Cert.Pre_finite_values.facts,
  fun m ρ _ => Cert.SbKernel.Gen.frame m ρ, fun m ρ _ => Cert.SbKernelIdeal.Gen.frame m ρ, frame_sb_reference,
  fun m ρ _ => Cert.FfnKernel.Gen.frame m ρ, fun m ρ _ => Cert.FfnKernelIdeal.Gen.frame m ρ, frame_ffn_reference,
  fun m ρ _ => Cert.DiffKernel.Gen.frame m ρ, fun m ρ _ => Cert.DiffKernelIdeal.Gen.frame m ρ, fun m ρ _ => Cert.DiffKernelIdeal.Gen.frame m ρ,
  frame_diff_reference, fun m ρ _ => frame_diff_reference m ρ trivial,
  fun m ρ _ => Cert.InprojKernel.Gen.frame m ρ, fun m ρ _ => Cert.InprojKernelIdeal.Gen.frame m ρ, frame_inproj_reference,
  fun m ρ _ => Cert.OutprojKernel.Gen.frame m ρ, fun m ρ _ => Cert.OutprojKernelIdeal.Gen.frame m ρ, frame_outproj_reference,
  fun m ρ _ => Cert.SguKernel.Gen.frame m ρ, fun m ρ _ => Cert.SguKernelIdeal.Gen.frame m ρ, frame_sgu_reference,
  frame_tail_kernel, fun m ρ _ => Cert.TailKernelIdeal.Joined.tidy m ρ, frame_tail_reference,
  trivial, sb_algebraic, trivial, ffn_algebraic, trivial, diff_algebraic, trivial, inproj_algebraic, trivial, outproj_algebraic, trivial, sgu_algebraic, trivial, tail_algebraic⟩

end Cert.Proof

end
